-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Ffs (m : (ℓ : Loc Cert.Ffs.nD Cert.Ffs.τ Cert.Ffs.sig) → Buf (Elt Bits) ℓ) : Prop :=
  True

def Pre_FfsIdeal (m : (ℓ : Loc Cert.FfsIdeal.nD Cert.FfsIdeal.τ Cert.FfsIdeal.sig) → Buf (Elt Ideal) ℓ) : Prop :=
  True

def Pre_FfsRefIdeal (m : (ℓ : Loc Cert.FfsRefIdeal.nD Cert.FfsRefIdeal.τ Cert.FfsRefIdeal.sig) → Buf (Elt Ideal) ℓ) : Prop :=
  True

def Pre_Prs (m : (ℓ : Loc Cert.Prs.nD Cert.Prs.τ Cert.Prs.sig) → Buf (Elt Bits) ℓ) : Prop :=
  True

def Pre_PrsIdeal (m : (ℓ : Loc Cert.PrsIdeal.nD Cert.PrsIdeal.τ Cert.PrsIdeal.sig) → Buf (Elt Ideal) ℓ) : Prop :=
  True

def Pre_PrsRefIdeal (m : (ℓ : Loc Cert.PrsRefIdeal.nD Cert.PrsRefIdeal.τ Cert.PrsRefIdeal.sig) → Buf (Elt Ideal) ℓ) : Prop :=
  True

def Pre_Qks (m : (ℓ : Loc Cert.Qks.nD Cert.Qks.τ Cert.Qks.sig) → Buf (Elt Bits) ℓ) : Prop :=
  True

def Pre_QksIdeal (m : (ℓ : Loc Cert.QksIdeal.nD Cert.QksIdeal.τ Cert.QksIdeal.sig) → Buf (Elt Ideal) ℓ) : Prop :=
  True

def Pre_QksRefIdeal (m : (ℓ : Loc Cert.QksRefIdeal.nD Cert.QksRefIdeal.τ Cert.QksRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3)
      ∧ r.2.mem ((c.tc : Thread Cert.Win.nD Cert.Win.τ).loc Cert.Win.main_arg4) = m ((c.tc : Thread Cert.Win.nD Cert.Win.τ).loc Cert.Win.main_arg4)
      ∧ r.2.mem ((c.tc : Thread Cert.Win.nD Cert.Win.τ).loc Cert.Win.main_arg5) = m ((c.tc : Thread Cert.Win.nD Cert.Win.τ).loc Cert.Win.main_arg5)
      ∧ r.2.mem ((c.tc : Thread Cert.Win.nD Cert.Win.τ).loc Cert.Win.main_arg6) = m ((c.tc : Thread Cert.Win.nD Cert.Win.τ).loc Cert.Win.main_arg6)
      ∧ r.2.mem ((c.tc : Thread Cert.Win.nD Cert.Win.τ).loc Cert.Win.main_arg7) = m ((c.tc : Thread Cert.Win.nD Cert.Win.τ).loc Cert.Win.main_arg7)
      ∧ r.2.mem ((c.tc : Thread Cert.Win.nD Cert.Win.τ).loc Cert.Win.main_arg8) = m ((c.tc : Thread Cert.Win.nD Cert.Win.τ).loc Cert.Win.main_arg8)
      ∧ r.2.mem ((c.tc : Thread Cert.Win.nD Cert.Win.τ).loc Cert.Win.main_arg9) = m ((c.tc : Thread Cert.Win.nD Cert.Win.τ).loc Cert.Win.main_arg9))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
      ∧ r.2.mem ((c.tc : Thread Cert.WinIdeal.nD Cert.WinIdeal.τ).loc Cert.WinIdeal.main_arg5) = m ((c.tc : Thread Cert.WinIdeal.nD Cert.WinIdeal.τ).loc Cert.WinIdeal.main_arg5)
      ∧ r.2.mem ((c.tc : Thread Cert.WinIdeal.nD Cert.WinIdeal.τ).loc Cert.WinIdeal.main_arg6) = m ((c.tc : Thread Cert.WinIdeal.nD Cert.WinIdeal.τ).loc Cert.WinIdeal.main_arg6)
      ∧ r.2.mem ((c.tc : Thread Cert.WinIdeal.nD Cert.WinIdeal.τ).loc Cert.WinIdeal.main_arg7) = m ((c.tc : Thread Cert.WinIdeal.nD Cert.WinIdeal.τ).loc Cert.WinIdeal.main_arg7)
      ∧ r.2.mem ((c.tc : Thread Cert.WinIdeal.nD Cert.WinIdeal.τ).loc Cert.WinIdeal.main_arg8) = m ((c.tc : Thread Cert.WinIdeal.nD Cert.WinIdeal.τ).loc Cert.WinIdeal.main_arg8)
      ∧ r.2.mem ((c.tc : Thread Cert.WinIdeal.nD Cert.WinIdeal.τ).loc Cert.WinIdeal.main_arg9) = m ((c.tc : Thread Cert.WinIdeal.nD Cert.WinIdeal.τ).loc Cert.WinIdeal.main_arg9))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4)
      ∧ r.2.mem ((c.tc : Thread Cert.WinRefIdeal.nD Cert.WinRefIdeal.τ).loc Cert.WinRefIdeal.main_arg5) = m ((c.tc : Thread Cert.WinRefIdeal.nD Cert.WinRefIdeal.τ).loc Cert.WinRefIdeal.main_arg5)
      ∧ r.2.mem ((c.tc : Thread Cert.WinRefIdeal.nD Cert.WinRefIdeal.τ).loc Cert.WinRefIdeal.main_arg6) = m ((c.tc : Thread Cert.WinRefIdeal.nD Cert.WinRefIdeal.τ).loc Cert.WinRefIdeal.main_arg6)
      ∧ r.2.mem ((c.tc : Thread Cert.WinRefIdeal.nD Cert.WinRefIdeal.τ).loc Cert.WinRefIdeal.main_arg7) = m ((c.tc : Thread Cert.WinRefIdeal.nD Cert.WinRefIdeal.τ).loc Cert.WinRefIdeal.main_arg7)
      ∧ r.2.mem ((c.tc : Thread Cert.WinRefIdeal.nD Cert.WinRefIdeal.τ).loc Cert.WinRefIdeal.main_arg8) = m ((c.tc : Thread Cert.WinRefIdeal.nD Cert.WinRefIdeal.τ).loc Cert.WinRefIdeal.main_arg8)
      ∧ r.2.mem ((c.tc : Thread Cert.WinRefIdeal.nD Cert.WinRefIdeal.τ).loc Cert.WinRefIdeal.main_arg9) = m ((c.tc : Thread Cert.WinRefIdeal.nD Cert.WinRefIdeal.τ).loc Cert.WinRefIdeal.main_arg9))
      ∧ r.2.sem = fun _ => 0)

def quiescent_Ffs [hFfs : Cert.Ffs.Facts] : Prop :=
  ∀ (m : (ℓ : Loc Cert.Ffs.nD Cert.Ffs.τ Cert.Ffs.sig) → Buf (Elt Bits) ℓ) (g : Dev Cert.Ffs.nD → PrngReg), Pre_Ffs m →
    θ_run (Cert.Ffs.defs (F := Bits)) (onTc (τ := Cert.Ffs.τ) (Cert.Ffs.main (F := Bits))) ⟨m, fun _ => 0, g⟩ (fun r => (∀ c : Dev Cert.Ffs.nD,
      r.2.mem ((c.tc : Thread Cert.Ffs.nD Cert.Ffs.τ).loc Cert.Ffs.main_arg0) = m ((c.tc : Thread Cert.Ffs.nD Cert.Ffs.τ).loc Cert.Ffs.main_arg0)
      ∧ r.2.mem ((c.tc : Thread Cert.Ffs.nD Cert.Ffs.τ).loc Cert.Ffs.main_arg1) = m ((c.tc : Thread Cert.Ffs.nD Cert.Ffs.τ).loc Cert.Ffs.main_arg1)
      ∧ r.2.mem ((c.tc : Thread Cert.Ffs.nD Cert.Ffs.τ).loc Cert.Ffs.main_arg2) = m ((c.tc : Thread Cert.Ffs.nD Cert.Ffs.τ).loc Cert.Ffs.main_arg2)
      ∧ r.2.mem ((c.tc : Thread Cert.Ffs.nD Cert.Ffs.τ).loc Cert.Ffs.main_arg3) = m ((c.tc : Thread Cert.Ffs.nD Cert.Ffs.τ).loc Cert.Ffs.main_arg3)
      ∧ r.2.mem ((c.tc : Thread Cert.Ffs.nD Cert.Ffs.τ).loc Cert.Ffs.main_arg4) = m ((c.tc : Thread Cert.Ffs.nD Cert.Ffs.τ).loc Cert.Ffs.main_arg4))
      ∧ r.2.sem = fun _ => 0)

def quiescent_FfsIdeal [hFfsIdeal : Cert.FfsIdeal.Facts] : Prop :=
  ∀ (m : (ℓ : Loc Cert.FfsIdeal.nD Cert.FfsIdeal.τ Cert.FfsIdeal.sig) → Buf (Elt Ideal) ℓ) (g : Dev Cert.FfsIdeal.nD → PrngReg), Pre_FfsIdeal m →
    θ_run (Cert.FfsIdeal.defs (F := Ideal)) (onTc (τ := Cert.FfsIdeal.τ) (Cert.FfsIdeal.main (F := Ideal))) ⟨m, fun _ => 0, g⟩ (fun r => (∀ c : Dev Cert.FfsIdeal.nD,
      r.2.mem ((c.tc : Thread Cert.FfsIdeal.nD Cert.FfsIdeal.τ).loc Cert.FfsIdeal.main_arg0) = m ((c.tc : Thread Cert.FfsIdeal.nD Cert.FfsIdeal.τ).loc Cert.FfsIdeal.main_arg0)
      ∧ r.2.mem ((c.tc : Thread Cert.FfsIdeal.nD Cert.FfsIdeal.τ).loc Cert.FfsIdeal.main_arg1) = m ((c.tc : Thread Cert.FfsIdeal.nD Cert.FfsIdeal.τ).loc Cert.FfsIdeal.main_arg1)
      ∧ r.2.mem ((c.tc : Thread Cert.FfsIdeal.nD Cert.FfsIdeal.τ).loc Cert.FfsIdeal.main_arg2) = m ((c.tc : Thread Cert.FfsIdeal.nD Cert.FfsIdeal.τ).loc Cert.FfsIdeal.main_arg2)
      ∧ r.2.mem ((c.tc : Thread Cert.FfsIdeal.nD Cert.FfsIdeal.τ).loc Cert.FfsIdeal.main_arg3) = m ((c.tc : Thread Cert.FfsIdeal.nD Cert.FfsIdeal.τ).loc Cert.FfsIdeal.main_arg3)
      ∧ r.2.mem ((c.tc : Thread Cert.FfsIdeal.nD Cert.FfsIdeal.τ).loc Cert.FfsIdeal.main_arg4) = m ((c.tc : Thread Cert.FfsIdeal.nD Cert.FfsIdeal.τ).loc Cert.FfsIdeal.main_arg4))
      ∧ r.2.sem = fun _ => 0)

def quiescent_FfsRefIdeal [hFfsRefIdeal : Cert.FfsRefIdeal.Facts] : Prop :=
  ∀ (m : (ℓ : Loc Cert.FfsRefIdeal.nD Cert.FfsRefIdeal.τ Cert.FfsRefIdeal.sig) → Buf (Elt Ideal) ℓ) (g : Dev Cert.FfsRefIdeal.nD → PrngReg), Pre_FfsRefIdeal m →
    θ_run (Cert.FfsRefIdeal.defs (F := Ideal)) (onTc (τ := Cert.FfsRefIdeal.τ) (Cert.FfsRefIdeal.main (F := Ideal))) ⟨m, fun _ => 0, g⟩ (fun r => (∀ c : Dev Cert.FfsRefIdeal.nD,
      r.2.mem ((c.tc : Thread Cert.FfsRefIdeal.nD Cert.FfsRefIdeal.τ).loc Cert.FfsRefIdeal.main_arg0) = m ((c.tc : Thread Cert.FfsRefIdeal.nD Cert.FfsRefIdeal.τ).loc Cert.FfsRefIdeal.main_arg0)
      ∧ r.2.mem ((c.tc : Thread Cert.FfsRefIdeal.nD Cert.FfsRefIdeal.τ).loc Cert.FfsRefIdeal.main_arg1) = m ((c.tc : Thread Cert.FfsRefIdeal.nD Cert.FfsRefIdeal.τ).loc Cert.FfsRefIdeal.main_arg1)
      ∧ r.2.mem ((c.tc : Thread Cert.FfsRefIdeal.nD Cert.FfsRefIdeal.τ).loc Cert.FfsRefIdeal.main_arg2) = m ((c.tc : Thread Cert.FfsRefIdeal.nD Cert.FfsRefIdeal.τ).loc Cert.FfsRefIdeal.main_arg2)
      ∧ r.2.mem ((c.tc : Thread Cert.FfsRefIdeal.nD Cert.FfsRefIdeal.τ).loc Cert.FfsRefIdeal.main_arg3) = m ((c.tc : Thread Cert.FfsRefIdeal.nD Cert.FfsRefIdeal.τ).loc Cert.FfsRefIdeal.main_arg3)
      ∧ r.2.mem ((c.tc : Thread Cert.FfsRefIdeal.nD Cert.FfsRefIdeal.τ).loc Cert.FfsRefIdeal.main_arg4) = m ((c.tc : Thread Cert.FfsRefIdeal.nD Cert.FfsRefIdeal.τ).loc Cert.FfsRefIdeal.main_arg4))
      ∧ r.2.sem = fun _ => 0)

def quiescent_Prs [hPrs : Cert.Prs.Facts] : Prop :=
  ∀ (m : (ℓ : Loc Cert.Prs.nD Cert.Prs.τ Cert.Prs.sig) → Buf (Elt Bits) ℓ) (g : Dev Cert.Prs.nD → PrngReg), Pre_Prs m →
    θ_run (Cert.Prs.defs (F := Bits)) (onTc (τ := Cert.Prs.τ) (Cert.Prs.main (F := Bits))) ⟨m, fun _ => 0, g⟩ (fun r => (∀ c : Dev Cert.Prs.nD,
      r.2.mem ((c.tc : Thread Cert.Prs.nD Cert.Prs.τ).loc Cert.Prs.main_arg0) = m ((c.tc : Thread Cert.Prs.nD Cert.Prs.τ).loc Cert.Prs.main_arg0)
      ∧ r.2.mem ((c.tc : Thread Cert.Prs.nD Cert.Prs.τ).loc Cert.Prs.main_arg1) = m ((c.tc : Thread Cert.Prs.nD Cert.Prs.τ).loc Cert.Prs.main_arg1)
      ∧ r.2.mem ((c.tc : Thread Cert.Prs.nD Cert.Prs.τ).loc Cert.Prs.main_arg2) = m ((c.tc : Thread Cert.Prs.nD Cert.Prs.τ).loc Cert.Prs.main_arg2)
      ∧ r.2.mem ((c.tc : Thread Cert.Prs.nD Cert.Prs.τ).loc Cert.Prs.main_arg3) = m ((c.tc : Thread Cert.Prs.nD Cert.Prs.τ).loc Cert.Prs.main_arg3)
      ∧ r.2.mem ((c.tc : Thread Cert.Prs.nD Cert.Prs.τ).loc Cert.Prs.main_arg4) = m ((c.tc : Thread Cert.Prs.nD Cert.Prs.τ).loc Cert.Prs.main_arg4)
      ∧ r.2.mem ((c.tc : Thread Cert.Prs.nD Cert.Prs.τ).loc Cert.Prs.main_arg5) = m ((c.tc : Thread Cert.Prs.nD Cert.Prs.τ).loc Cert.Prs.main_arg5)
      ∧ r.2.mem ((c.tc : Thread Cert.Prs.nD Cert.Prs.τ).loc Cert.Prs.main_arg6) = m ((c.tc : Thread Cert.Prs.nD Cert.Prs.τ).loc Cert.Prs.main_arg6)
      ∧ r.2.mem ((c.tc : Thread Cert.Prs.nD Cert.Prs.τ).loc Cert.Prs.main_arg7) = m ((c.tc : Thread Cert.Prs.nD Cert.Prs.τ).loc Cert.Prs.main_arg7))
      ∧ r.2.sem = fun _ => 0)

def quiescent_PrsIdeal [hPrsIdeal : Cert.PrsIdeal.Facts] : Prop :=
  ∀ (m : (ℓ : Loc Cert.PrsIdeal.nD Cert.PrsIdeal.τ Cert.PrsIdeal.sig) → Buf (Elt Ideal) ℓ) (g : Dev Cert.PrsIdeal.nD → PrngReg), Pre_PrsIdeal m →
    θ_run (Cert.PrsIdeal.defs (F := Ideal)) (onTc (τ := Cert.PrsIdeal.τ) (Cert.PrsIdeal.main (F := Ideal))) ⟨m, fun _ => 0, g⟩ (fun r => (∀ c : Dev Cert.PrsIdeal.nD,
      r.2.mem ((c.tc : Thread Cert.PrsIdeal.nD Cert.PrsIdeal.τ).loc Cert.PrsIdeal.main_arg0) = m ((c.tc : Thread Cert.PrsIdeal.nD Cert.PrsIdeal.τ).loc Cert.PrsIdeal.main_arg0)
      ∧ r.2.mem ((c.tc : Thread Cert.PrsIdeal.nD Cert.PrsIdeal.τ).loc Cert.PrsIdeal.main_arg1) = m ((c.tc : Thread Cert.PrsIdeal.nD Cert.PrsIdeal.τ).loc Cert.PrsIdeal.main_arg1)
      ∧ r.2.mem ((c.tc : Thread Cert.PrsIdeal.nD Cert.PrsIdeal.τ).loc Cert.PrsIdeal.main_arg2) = m ((c.tc : Thread Cert.PrsIdeal.nD Cert.PrsIdeal.τ).loc Cert.PrsIdeal.main_arg2)
      ∧ r.2.mem ((c.tc : Thread Cert.PrsIdeal.nD Cert.PrsIdeal.τ).loc Cert.PrsIdeal.main_arg3) = m ((c.tc : Thread Cert.PrsIdeal.nD Cert.PrsIdeal.τ).loc Cert.PrsIdeal.main_arg3)
      ∧ r.2.mem ((c.tc : Thread Cert.PrsIdeal.nD Cert.PrsIdeal.τ).loc Cert.PrsIdeal.main_arg4) = m ((c.tc : Thread Cert.PrsIdeal.nD Cert.PrsIdeal.τ).loc Cert.PrsIdeal.main_arg4)
      ∧ r.2.mem ((c.tc : Thread Cert.PrsIdeal.nD Cert.PrsIdeal.τ).loc Cert.PrsIdeal.main_arg5) = m ((c.tc : Thread Cert.PrsIdeal.nD Cert.PrsIdeal.τ).loc Cert.PrsIdeal.main_arg5)
      ∧ r.2.mem ((c.tc : Thread Cert.PrsIdeal.nD Cert.PrsIdeal.τ).loc Cert.PrsIdeal.main_arg6) = m ((c.tc : Thread Cert.PrsIdeal.nD Cert.PrsIdeal.τ).loc Cert.PrsIdeal.main_arg6)
      ∧ r.2.mem ((c.tc : Thread Cert.PrsIdeal.nD Cert.PrsIdeal.τ).loc Cert.PrsIdeal.main_arg7) = m ((c.tc : Thread Cert.PrsIdeal.nD Cert.PrsIdeal.τ).loc Cert.PrsIdeal.main_arg7))
      ∧ r.2.sem = fun _ => 0)

def quiescent_PrsRefIdeal [hPrsRefIdeal : Cert.PrsRefIdeal.Facts] : Prop :=
  ∀ (m : (ℓ : Loc Cert.PrsRefIdeal.nD Cert.PrsRefIdeal.τ Cert.PrsRefIdeal.sig) → Buf (Elt Ideal) ℓ) (g : Dev Cert.PrsRefIdeal.nD → PrngReg), Pre_PrsRefIdeal m →
    θ_run (Cert.PrsRefIdeal.defs (F := Ideal)) (onTc (τ := Cert.PrsRefIdeal.τ) (Cert.PrsRefIdeal.main (F := Ideal))) ⟨m, fun _ => 0, g⟩ (fun r => (∀ c : Dev Cert.PrsRefIdeal.nD,
      r.2.mem ((c.tc : Thread Cert.PrsRefIdeal.nD Cert.PrsRefIdeal.τ).loc Cert.PrsRefIdeal.main_arg0) = m ((c.tc : Thread Cert.PrsRefIdeal.nD Cert.PrsRefIdeal.τ).loc Cert.PrsRefIdeal.main_arg0)
      ∧ r.2.mem ((c.tc : Thread Cert.PrsRefIdeal.nD Cert.PrsRefIdeal.τ).loc Cert.PrsRefIdeal.main_arg1) = m ((c.tc : Thread Cert.PrsRefIdeal.nD Cert.PrsRefIdeal.τ).loc Cert.PrsRefIdeal.main_arg1)
      ∧ r.2.mem ((c.tc : Thread Cert.PrsRefIdeal.nD Cert.PrsRefIdeal.τ).loc Cert.PrsRefIdeal.main_arg2) = m ((c.tc : Thread Cert.PrsRefIdeal.nD Cert.PrsRefIdeal.τ).loc Cert.PrsRefIdeal.main_arg2)
      ∧ r.2.mem ((c.tc : Thread Cert.PrsRefIdeal.nD Cert.PrsRefIdeal.τ).loc Cert.PrsRefIdeal.main_arg3) = m ((c.tc : Thread Cert.PrsRefIdeal.nD Cert.PrsRefIdeal.τ).loc Cert.PrsRefIdeal.main_arg3)
      ∧ r.2.mem ((c.tc : Thread Cert.PrsRefIdeal.nD Cert.PrsRefIdeal.τ).loc Cert.PrsRefIdeal.main_arg4) = m ((c.tc : Thread Cert.PrsRefIdeal.nD Cert.PrsRefIdeal.τ).loc Cert.PrsRefIdeal.main_arg4)
      ∧ r.2.mem ((c.tc : Thread Cert.PrsRefIdeal.nD Cert.PrsRefIdeal.τ).loc Cert.PrsRefIdeal.main_arg5) = m ((c.tc : Thread Cert.PrsRefIdeal.nD Cert.PrsRefIdeal.τ).loc Cert.PrsRefIdeal.main_arg5)
      ∧ r.2.mem ((c.tc : Thread Cert.PrsRefIdeal.nD Cert.PrsRefIdeal.τ).loc Cert.PrsRefIdeal.main_arg6) = m ((c.tc : Thread Cert.PrsRefIdeal.nD Cert.PrsRefIdeal.τ).loc Cert.PrsRefIdeal.main_arg6)
      ∧ r.2.mem ((c.tc : Thread Cert.PrsRefIdeal.nD Cert.PrsRefIdeal.τ).loc Cert.PrsRefIdeal.main_arg7) = m ((c.tc : Thread Cert.PrsRefIdeal.nD Cert.PrsRefIdeal.τ).loc Cert.PrsRefIdeal.main_arg7))
      ∧ r.2.sem = fun _ => 0)

def quiescent_Qks [hQks : Cert.Qks.Facts] : Prop :=
  ∀ (m : (ℓ : Loc Cert.Qks.nD Cert.Qks.τ Cert.Qks.sig) → Buf (Elt Bits) ℓ) (g : Dev Cert.Qks.nD → PrngReg), Pre_Qks m →
    θ_run (Cert.Qks.defs (F := Bits)) (onTc (τ := Cert.Qks.τ) (Cert.Qks.main (F := Bits))) ⟨m, fun _ => 0, g⟩ (fun r => (∀ c : Dev Cert.Qks.nD,
      r.2.mem ((c.tc : Thread Cert.Qks.nD Cert.Qks.τ).loc Cert.Qks.main_arg0) = m ((c.tc : Thread Cert.Qks.nD Cert.Qks.τ).loc Cert.Qks.main_arg0)
      ∧ r.2.mem ((c.tc : Thread Cert.Qks.nD Cert.Qks.τ).loc Cert.Qks.main_arg1) = m ((c.tc : Thread Cert.Qks.nD Cert.Qks.τ).loc Cert.Qks.main_arg1)
      ∧ r.2.mem ((c.tc : Thread Cert.Qks.nD Cert.Qks.τ).loc Cert.Qks.main_arg2) = m ((c.tc : Thread Cert.Qks.nD Cert.Qks.τ).loc Cert.Qks.main_arg2)
      ∧ r.2.mem ((c.tc : Thread Cert.Qks.nD Cert.Qks.τ).loc Cert.Qks.main_arg3) = m ((c.tc : Thread Cert.Qks.nD Cert.Qks.τ).loc Cert.Qks.main_arg3)
      ∧ r.2.mem ((c.tc : Thread Cert.Qks.nD Cert.Qks.τ).loc Cert.Qks.main_arg4) = m ((c.tc : Thread Cert.Qks.nD Cert.Qks.τ).loc Cert.Qks.main_arg4)
      ∧ r.2.mem ((c.tc : Thread Cert.Qks.nD Cert.Qks.τ).loc Cert.Qks.main_arg5) = m ((c.tc : Thread Cert.Qks.nD Cert.Qks.τ).loc Cert.Qks.main_arg5)
      ∧ r.2.mem ((c.tc : Thread Cert.Qks.nD Cert.Qks.τ).loc Cert.Qks.main_arg6) = m ((c.tc : Thread Cert.Qks.nD Cert.Qks.τ).loc Cert.Qks.main_arg6)
      ∧ r.2.mem ((c.tc : Thread Cert.Qks.nD Cert.Qks.τ).loc Cert.Qks.main_arg7) = m ((c.tc : Thread Cert.Qks.nD Cert.Qks.τ).loc Cert.Qks.main_arg7))
      ∧ r.2.sem = fun _ => 0)

def quiescent_QksIdeal [hQksIdeal : Cert.QksIdeal.Facts] : Prop :=
  ∀ (m : (ℓ : Loc Cert.QksIdeal.nD Cert.QksIdeal.τ Cert.QksIdeal.sig) → Buf (Elt Ideal) ℓ) (g : Dev Cert.QksIdeal.nD → PrngReg), Pre_QksIdeal m →
    θ_run (Cert.QksIdeal.defs (F := Ideal)) (onTc (τ := Cert.QksIdeal.τ) (Cert.QksIdeal.main (F := Ideal))) ⟨m, fun _ => 0, g⟩ (fun r => (∀ c : Dev Cert.QksIdeal.nD,
      r.2.mem ((c.tc : Thread Cert.QksIdeal.nD Cert.QksIdeal.τ).loc Cert.QksIdeal.main_arg0) = m ((c.tc : Thread Cert.QksIdeal.nD Cert.QksIdeal.τ).loc Cert.QksIdeal.main_arg0)
      ∧ r.2.mem ((c.tc : Thread Cert.QksIdeal.nD Cert.QksIdeal.τ).loc Cert.QksIdeal.main_arg1) = m ((c.tc : Thread Cert.QksIdeal.nD Cert.QksIdeal.τ).loc Cert.QksIdeal.main_arg1)
      ∧ r.2.mem ((c.tc : Thread Cert.QksIdeal.nD Cert.QksIdeal.τ).loc Cert.QksIdeal.main_arg2) = m ((c.tc : Thread Cert.QksIdeal.nD Cert.QksIdeal.τ).loc Cert.QksIdeal.main_arg2)
      ∧ r.2.mem ((c.tc : Thread Cert.QksIdeal.nD Cert.QksIdeal.τ).loc Cert.QksIdeal.main_arg3) = m ((c.tc : Thread Cert.QksIdeal.nD Cert.QksIdeal.τ).loc Cert.QksIdeal.main_arg3)
      ∧ r.2.mem ((c.tc : Thread Cert.QksIdeal.nD Cert.QksIdeal.τ).loc Cert.QksIdeal.main_arg4) = m ((c.tc : Thread Cert.QksIdeal.nD Cert.QksIdeal.τ).loc Cert.QksIdeal.main_arg4)
      ∧ r.2.mem ((c.tc : Thread Cert.QksIdeal.nD Cert.QksIdeal.τ).loc Cert.QksIdeal.main_arg5) = m ((c.tc : Thread Cert.QksIdeal.nD Cert.QksIdeal.τ).loc Cert.QksIdeal.main_arg5)
      ∧ r.2.mem ((c.tc : Thread Cert.QksIdeal.nD Cert.QksIdeal.τ).loc Cert.QksIdeal.main_arg6) = m ((c.tc : Thread Cert.QksIdeal.nD Cert.QksIdeal.τ).loc Cert.QksIdeal.main_arg6)
      ∧ r.2.mem ((c.tc : Thread Cert.QksIdeal.nD Cert.QksIdeal.τ).loc Cert.QksIdeal.main_arg7) = m ((c.tc : Thread Cert.QksIdeal.nD Cert.QksIdeal.τ).loc Cert.QksIdeal.main_arg7))
      ∧ r.2.sem = fun _ => 0)

def quiescent_QksRefIdeal [hQksRefIdeal : Cert.QksRefIdeal.Facts] : Prop :=
  ∀ (m : (ℓ : Loc Cert.QksRefIdeal.nD Cert.QksRefIdeal.τ Cert.QksRefIdeal.sig) → Buf (Elt Ideal) ℓ) (g : Dev Cert.QksRefIdeal.nD → PrngReg), Pre_QksRefIdeal m →
    θ_run (Cert.QksRefIdeal.defs (F := Ideal)) (onTc (τ := Cert.QksRefIdeal.τ) (Cert.QksRefIdeal.main (F := Ideal))) ⟨m, fun _ => 0, g⟩ (fun r => (∀ c : Dev Cert.QksRefIdeal.nD,
      r.2.mem ((c.tc : Thread Cert.QksRefIdeal.nD Cert.QksRefIdeal.τ).loc Cert.QksRefIdeal.main_arg0) = m ((c.tc : Thread Cert.QksRefIdeal.nD Cert.QksRefIdeal.τ).loc Cert.QksRefIdeal.main_arg0)
      ∧ r.2.mem ((c.tc : Thread Cert.QksRefIdeal.nD Cert.QksRefIdeal.τ).loc Cert.QksRefIdeal.main_arg1) = m ((c.tc : Thread Cert.QksRefIdeal.nD Cert.QksRefIdeal.τ).loc Cert.QksRefIdeal.main_arg1)
      ∧ r.2.mem ((c.tc : Thread Cert.QksRefIdeal.nD Cert.QksRefIdeal.τ).loc Cert.QksRefIdeal.main_arg2) = m ((c.tc : Thread Cert.QksRefIdeal.nD Cert.QksRefIdeal.τ).loc Cert.QksRefIdeal.main_arg2)
      ∧ r.2.mem ((c.tc : Thread Cert.QksRefIdeal.nD Cert.QksRefIdeal.τ).loc Cert.QksRefIdeal.main_arg3) = m ((c.tc : Thread Cert.QksRefIdeal.nD Cert.QksRefIdeal.τ).loc Cert.QksRefIdeal.main_arg3)
      ∧ r.2.mem ((c.tc : Thread Cert.QksRefIdeal.nD Cert.QksRefIdeal.τ).loc Cert.QksRefIdeal.main_arg4) = m ((c.tc : Thread Cert.QksRefIdeal.nD Cert.QksRefIdeal.τ).loc Cert.QksRefIdeal.main_arg4)
      ∧ r.2.mem ((c.tc : Thread Cert.QksRefIdeal.nD Cert.QksRefIdeal.τ).loc Cert.QksRefIdeal.main_arg5) = m ((c.tc : Thread Cert.QksRefIdeal.nD Cert.QksRefIdeal.τ).loc Cert.QksRefIdeal.main_arg5)
      ∧ r.2.mem ((c.tc : Thread Cert.QksRefIdeal.nD Cert.QksRefIdeal.τ).loc Cert.QksRefIdeal.main_arg6) = m ((c.tc : Thread Cert.QksRefIdeal.nD Cert.QksRefIdeal.τ).loc Cert.QksRefIdeal.main_arg6)
      ∧ r.2.mem ((c.tc : Thread Cert.QksRefIdeal.nD Cert.QksRefIdeal.τ).loc Cert.QksRefIdeal.main_arg7) = m ((c.tc : Thread Cert.QksRefIdeal.nD Cert.QksRefIdeal.τ).loc Cert.QksRefIdeal.main_arg7))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v48) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v53) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)) →
    ∃ (v0 : (c : Dev Cert.PreIdeal.nD) → Buf (Elt Ideal) ((c.tc : Thread Cert.PreIdeal.nD Cert.PreIdeal.τ).loc Cert.PreIdeal.main_v1_0)) (v1 : (c : Dev Cert.PreIdeal.nD) → Buf (Elt Ideal) ((c.tc : Thread Cert.PreIdeal.nD Cert.PreIdeal.τ).loc Cert.PreIdeal.main_v1_1)) (v2 : (c : Dev Cert.PreIdeal.nD) → Buf (Elt Ideal) ((c.tc : Thread Cert.PreIdeal.nD Cert.PreIdeal.τ).loc Cert.PreIdeal.main_v1_2)) (v3 : (c : Dev Cert.PreIdeal.nD) → Buf (Elt Ideal) ((c.tc : Thread Cert.PreIdeal.nD Cert.PreIdeal.τ).loc Cert.PreIdeal.main_v1_3)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v1_0) = v0 c
          ∧ r.2.mem ((c.tc : Thread Cert.PreIdeal.nD Cert.PreIdeal.τ).loc Cert.PreIdeal.main_v1_1) = v1 c
          ∧ r.2.mem ((c.tc : Thread Cert.PreIdeal.nD Cert.PreIdeal.τ).loc Cert.PreIdeal.main_v1_2) = v2 c
          ∧ r.2.mem ((c.tc : Thread Cert.PreIdeal.nD Cert.PreIdeal.τ).loc Cert.PreIdeal.main_v1_3) = v3 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v28) = v0 c
          ∧ r.2.mem ((c.tc : Thread Cert.PreRefIdeal.nD Cert.PreRefIdeal.τ).loc Cert.PreRefIdeal.main_v32) = v1 c
          ∧ r.2.mem ((c.tc : Thread Cert.PreRefIdeal.nD Cert.PreRefIdeal.τ).loc Cert.PreRefIdeal.main_v30) = v2 c
          ∧ r.2.mem ((c.tc : Thread Cert.PreRefIdeal.nD Cert.PreRefIdeal.τ).loc Cert.PreRefIdeal.main_v31) = v3 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3))

def preserves_Mix_MixIdeal : Prop :=
  True

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)) →
    ∃ (v0 : (c : Dev Cert.MixIdeal.nD) → Buf (Elt Ideal) ((c.tc : Thread Cert.MixIdeal.nD Cert.MixIdeal.τ).loc Cert.MixIdeal.main_v1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v335) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v4) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v1_0)) (v1 : (c : Dev Cert.QkvIdeal.nD) → Buf (Elt Ideal) ((c.tc : Thread Cert.QkvIdeal.nD Cert.QkvIdeal.τ).loc Cert.QkvIdeal.main_v1_1)) (v2 : (c : Dev Cert.QkvIdeal.nD) → Buf (Elt Ideal) ((c.tc : Thread Cert.QkvIdeal.nD Cert.QkvIdeal.τ).loc Cert.QkvIdeal.main_v1_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1_0) = v0 c
          ∧ r.2.mem ((c.tc : Thread Cert.QkvIdeal.nD Cert.QkvIdeal.τ).loc Cert.QkvIdeal.main_v1_1) = v1 c
          ∧ r.2.mem ((c.tc : Thread Cert.QkvIdeal.nD Cert.QkvIdeal.τ).loc Cert.QkvIdeal.main_v1_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v29) = v0 c
          ∧ r.2.mem ((c.tc : Thread Cert.QkvRefIdeal.nD Cert.QkvRefIdeal.τ).loc Cert.QkvRefIdeal.main_v30) = v1 c
          ∧ r.2.mem ((c.tc : Thread Cert.QkvRefIdeal.nD Cert.QkvRefIdeal.τ).loc Cert.QkvRefIdeal.main_v31) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def preserves_Win_WinIdeal : Prop :=
  IdealRules.named_const.Statement Cert.WinIdeal.κ "mask" .f32 0xF149F2CA#32 ⊥

def preserves_Ffs_FfsIdeal : Prop :=
  True

def algebraic_FfsIdeal_FfsRefIdeal [hFfsIdeal : Cert.FfsIdeal.Facts] [hFfsRefIdeal : Cert.FfsRefIdeal.Facts] : Prop :=
  ∀ (m : (ℓ : Loc Cert.FfsIdeal.nD Cert.FfsIdeal.τ Cert.FfsIdeal.sig) → Buf (Elt Ideal) ℓ) (g : Dev Cert.FfsIdeal.nD → PrngReg)
    (m' : (ℓ : Loc Cert.FfsRefIdeal.nD Cert.FfsRefIdeal.τ Cert.FfsRefIdeal.sig) → Buf (Elt Ideal) ℓ) (g' : Dev Cert.FfsRefIdeal.nD → PrngReg), Pre_FfsIdeal m →
    (∀ c : Dev Cert.FfsIdeal.nD,
      m' ((c.tc : Thread Cert.FfsRefIdeal.nD Cert.FfsRefIdeal.τ).loc Cert.FfsRefIdeal.main_arg0) = m ((c.tc : Thread Cert.FfsIdeal.nD Cert.FfsIdeal.τ).loc Cert.FfsIdeal.main_arg0)
      ∧ m' ((c.tc : Thread Cert.FfsRefIdeal.nD Cert.FfsRefIdeal.τ).loc Cert.FfsRefIdeal.main_arg1) = m ((c.tc : Thread Cert.FfsIdeal.nD Cert.FfsIdeal.τ).loc Cert.FfsIdeal.main_arg1)
      ∧ m' ((c.tc : Thread Cert.FfsRefIdeal.nD Cert.FfsRefIdeal.τ).loc Cert.FfsRefIdeal.main_arg2) = m ((c.tc : Thread Cert.FfsIdeal.nD Cert.FfsIdeal.τ).loc Cert.FfsIdeal.main_arg2)
      ∧ m' ((c.tc : Thread Cert.FfsRefIdeal.nD Cert.FfsRefIdeal.τ).loc Cert.FfsRefIdeal.main_arg3) = m ((c.tc : Thread Cert.FfsIdeal.nD Cert.FfsIdeal.τ).loc Cert.FfsIdeal.main_arg3)
      ∧ m' ((c.tc : Thread Cert.FfsRefIdeal.nD Cert.FfsRefIdeal.τ).loc Cert.FfsRefIdeal.main_arg4) = m ((c.tc : Thread Cert.FfsIdeal.nD Cert.FfsIdeal.τ).loc Cert.FfsIdeal.main_arg4)) →
    ∃ (v0 : (c : Dev Cert.FfsIdeal.nD) → Buf (Elt Ideal) ((c.tc : Thread Cert.FfsIdeal.nD Cert.FfsIdeal.τ).loc Cert.FfsIdeal.main_v2)),
      θ_run (Cert.FfsIdeal.defs (F := Ideal)) (onTc (τ := Cert.FfsIdeal.τ) (Cert.FfsIdeal.main (F := Ideal))) ⟨m, fun _ => 0, g⟩ (fun r => ∀ c : Dev Cert.FfsIdeal.nD,
          r.2.mem ((c.tc : Thread Cert.FfsIdeal.nD Cert.FfsIdeal.τ).loc Cert.FfsIdeal.main_v2) = v0 c
          ∧ r.2.mem ((c.tc : Thread Cert.FfsIdeal.nD Cert.FfsIdeal.τ).loc Cert.FfsIdeal.main_arg0) = m ((c.tc : Thread Cert.FfsIdeal.nD Cert.FfsIdeal.τ).loc Cert.FfsIdeal.main_arg0)
          ∧ r.2.mem ((c.tc : Thread Cert.FfsIdeal.nD Cert.FfsIdeal.τ).loc Cert.FfsIdeal.main_arg1) = m ((c.tc : Thread Cert.FfsIdeal.nD Cert.FfsIdeal.τ).loc Cert.FfsIdeal.main_arg1)
          ∧ r.2.mem ((c.tc : Thread Cert.FfsIdeal.nD Cert.FfsIdeal.τ).loc Cert.FfsIdeal.main_arg2) = m ((c.tc : Thread Cert.FfsIdeal.nD Cert.FfsIdeal.τ).loc Cert.FfsIdeal.main_arg2)
          ∧ r.2.mem ((c.tc : Thread Cert.FfsIdeal.nD Cert.FfsIdeal.τ).loc Cert.FfsIdeal.main_arg3) = m ((c.tc : Thread Cert.FfsIdeal.nD Cert.FfsIdeal.τ).loc Cert.FfsIdeal.main_arg3)
          ∧ r.2.mem ((c.tc : Thread Cert.FfsIdeal.nD Cert.FfsIdeal.τ).loc Cert.FfsIdeal.main_arg4) = m ((c.tc : Thread Cert.FfsIdeal.nD Cert.FfsIdeal.τ).loc Cert.FfsIdeal.main_arg4))
      ∧ θ_run (Cert.FfsRefIdeal.defs (F := Ideal)) (onTc (τ := Cert.FfsRefIdeal.τ) (Cert.FfsRefIdeal.main (F := Ideal))) ⟨m', fun _ => 0, g'⟩ (fun r => ∀ c : Dev Cert.FfsRefIdeal.nD,
          r.2.mem ((c.tc : Thread Cert.FfsRefIdeal.nD Cert.FfsRefIdeal.τ).loc Cert.FfsRefIdeal.main_v54) = v0 c
          ∧ r.2.mem ((c.tc : Thread Cert.FfsRefIdeal.nD Cert.FfsRefIdeal.τ).loc Cert.FfsRefIdeal.main_arg0) = m' ((c.tc : Thread Cert.FfsRefIdeal.nD Cert.FfsRefIdeal.τ).loc Cert.FfsRefIdeal.main_arg0)
          ∧ r.2.mem ((c.tc : Thread Cert.FfsRefIdeal.nD Cert.FfsRefIdeal.τ).loc Cert.FfsRefIdeal.main_arg1) = m' ((c.tc : Thread Cert.FfsRefIdeal.nD Cert.FfsRefIdeal.τ).loc Cert.FfsRefIdeal.main_arg1)
          ∧ r.2.mem ((c.tc : Thread Cert.FfsRefIdeal.nD Cert.FfsRefIdeal.τ).loc Cert.FfsRefIdeal.main_arg2) = m' ((c.tc : Thread Cert.FfsRefIdeal.nD Cert.FfsRefIdeal.τ).loc Cert.FfsRefIdeal.main_arg2)
          ∧ r.2.mem ((c.tc : Thread Cert.FfsRefIdeal.nD Cert.FfsRefIdeal.τ).loc Cert.FfsRefIdeal.main_arg3) = m' ((c.tc : Thread Cert.FfsRefIdeal.nD Cert.FfsRefIdeal.τ).loc Cert.FfsRefIdeal.main_arg3)
          ∧ r.2.mem ((c.tc : Thread Cert.FfsRefIdeal.nD Cert.FfsRefIdeal.τ).loc Cert.FfsRefIdeal.main_arg4) = m' ((c.tc : Thread Cert.FfsRefIdeal.nD Cert.FfsRefIdeal.τ).loc Cert.FfsRefIdeal.main_arg4))

def preserves_Prs_PrsIdeal : Prop :=
  True

def algebraic_PrsIdeal_PrsRefIdeal [hPrsIdeal : Cert.PrsIdeal.Facts] [hPrsRefIdeal : Cert.PrsRefIdeal.Facts] : Prop :=
  ∀ (m : (ℓ : Loc Cert.PrsIdeal.nD Cert.PrsIdeal.τ Cert.PrsIdeal.sig) → Buf (Elt Ideal) ℓ) (g : Dev Cert.PrsIdeal.nD → PrngReg)
    (m' : (ℓ : Loc Cert.PrsRefIdeal.nD Cert.PrsRefIdeal.τ Cert.PrsRefIdeal.sig) → Buf (Elt Ideal) ℓ) (g' : Dev Cert.PrsRefIdeal.nD → PrngReg), Pre_PrsIdeal m →
    (∀ c : Dev Cert.PrsIdeal.nD,
      m' ((c.tc : Thread Cert.PrsRefIdeal.nD Cert.PrsRefIdeal.τ).loc Cert.PrsRefIdeal.main_arg0) = m ((c.tc : Thread Cert.PrsIdeal.nD Cert.PrsIdeal.τ).loc Cert.PrsIdeal.main_arg0)
      ∧ m' ((c.tc : Thread Cert.PrsRefIdeal.nD Cert.PrsRefIdeal.τ).loc Cert.PrsRefIdeal.main_arg1) = m ((c.tc : Thread Cert.PrsIdeal.nD Cert.PrsIdeal.τ).loc Cert.PrsIdeal.main_arg1)
      ∧ m' ((c.tc : Thread Cert.PrsRefIdeal.nD Cert.PrsRefIdeal.τ).loc Cert.PrsRefIdeal.main_arg2) = m ((c.tc : Thread Cert.PrsIdeal.nD Cert.PrsIdeal.τ).loc Cert.PrsIdeal.main_arg2)
      ∧ m' ((c.tc : Thread Cert.PrsRefIdeal.nD Cert.PrsRefIdeal.τ).loc Cert.PrsRefIdeal.main_arg3) = m ((c.tc : Thread Cert.PrsIdeal.nD Cert.PrsIdeal.τ).loc Cert.PrsIdeal.main_arg3)
      ∧ m' ((c.tc : Thread Cert.PrsRefIdeal.nD Cert.PrsRefIdeal.τ).loc Cert.PrsRefIdeal.main_arg4) = m ((c.tc : Thread Cert.PrsIdeal.nD Cert.PrsIdeal.τ).loc Cert.PrsIdeal.main_arg4)
      ∧ m' ((c.tc : Thread Cert.PrsRefIdeal.nD Cert.PrsRefIdeal.τ).loc Cert.PrsRefIdeal.main_arg5) = m ((c.tc : Thread Cert.PrsIdeal.nD Cert.PrsIdeal.τ).loc Cert.PrsIdeal.main_arg5)
      ∧ m' ((c.tc : Thread Cert.PrsRefIdeal.nD Cert.PrsRefIdeal.τ).loc Cert.PrsRefIdeal.main_arg6) = m ((c.tc : Thread Cert.PrsIdeal.nD Cert.PrsIdeal.τ).loc Cert.PrsIdeal.main_arg6)
      ∧ m' ((c.tc : Thread Cert.PrsRefIdeal.nD Cert.PrsRefIdeal.τ).loc Cert.PrsRefIdeal.main_arg7) = m ((c.tc : Thread Cert.PrsIdeal.nD Cert.PrsIdeal.τ).loc Cert.PrsIdeal.main_arg7)) →
    ∃ (v0 : (c : Dev Cert.PrsIdeal.nD) → Buf (Elt Ideal) ((c.tc : Thread Cert.PrsIdeal.nD Cert.PrsIdeal.τ).loc Cert.PrsIdeal.main_v7_0)) (v1 : (c : Dev Cert.PrsIdeal.nD) → Buf (Elt Ideal) ((c.tc : Thread Cert.PrsIdeal.nD Cert.PrsIdeal.τ).loc Cert.PrsIdeal.main_v7_1)) (v2 : (c : Dev Cert.PrsIdeal.nD) → Buf (Elt Ideal) ((c.tc : Thread Cert.PrsIdeal.nD Cert.PrsIdeal.τ).loc Cert.PrsIdeal.main_v7_2)) (v3 : (c : Dev Cert.PrsIdeal.nD) → Buf (Elt Ideal) ((c.tc : Thread Cert.PrsIdeal.nD Cert.PrsIdeal.τ).loc Cert.PrsIdeal.main_v7_3)),
      θ_run (Cert.PrsIdeal.defs (F := Ideal)) (onTc (τ := Cert.PrsIdeal.τ) (Cert.PrsIdeal.main (F := Ideal))) ⟨m, fun _ => 0, g⟩ (fun r => ∀ c : Dev Cert.PrsIdeal.nD,
          r.2.mem ((c.tc : Thread Cert.PrsIdeal.nD Cert.PrsIdeal.τ).loc Cert.PrsIdeal.main_v7_0) = v0 c
          ∧ r.2.mem ((c.tc : Thread Cert.PrsIdeal.nD Cert.PrsIdeal.τ).loc Cert.PrsIdeal.main_v7_1) = v1 c
          ∧ r.2.mem ((c.tc : Thread Cert.PrsIdeal.nD Cert.PrsIdeal.τ).loc Cert.PrsIdeal.main_v7_2) = v2 c
          ∧ r.2.mem ((c.tc : Thread Cert.PrsIdeal.nD Cert.PrsIdeal.τ).loc Cert.PrsIdeal.main_v7_3) = v3 c
          ∧ r.2.mem ((c.tc : Thread Cert.PrsIdeal.nD Cert.PrsIdeal.τ).loc Cert.PrsIdeal.main_arg0) = m ((c.tc : Thread Cert.PrsIdeal.nD Cert.PrsIdeal.τ).loc Cert.PrsIdeal.main_arg0)
          ∧ r.2.mem ((c.tc : Thread Cert.PrsIdeal.nD Cert.PrsIdeal.τ).loc Cert.PrsIdeal.main_arg1) = m ((c.tc : Thread Cert.PrsIdeal.nD Cert.PrsIdeal.τ).loc Cert.PrsIdeal.main_arg1)
          ∧ r.2.mem ((c.tc : Thread Cert.PrsIdeal.nD Cert.PrsIdeal.τ).loc Cert.PrsIdeal.main_arg2) = m ((c.tc : Thread Cert.PrsIdeal.nD Cert.PrsIdeal.τ).loc Cert.PrsIdeal.main_arg2)
          ∧ r.2.mem ((c.tc : Thread Cert.PrsIdeal.nD Cert.PrsIdeal.τ).loc Cert.PrsIdeal.main_arg3) = m ((c.tc : Thread Cert.PrsIdeal.nD Cert.PrsIdeal.τ).loc Cert.PrsIdeal.main_arg3)
          ∧ r.2.mem ((c.tc : Thread Cert.PrsIdeal.nD Cert.PrsIdeal.τ).loc Cert.PrsIdeal.main_arg4) = m ((c.tc : Thread Cert.PrsIdeal.nD Cert.PrsIdeal.τ).loc Cert.PrsIdeal.main_arg4)
          ∧ r.2.mem ((c.tc : Thread Cert.PrsIdeal.nD Cert.PrsIdeal.τ).loc Cert.PrsIdeal.main_arg5) = m ((c.tc : Thread Cert.PrsIdeal.nD Cert.PrsIdeal.τ).loc Cert.PrsIdeal.main_arg5)
          ∧ r.2.mem ((c.tc : Thread Cert.PrsIdeal.nD Cert.PrsIdeal.τ).loc Cert.PrsIdeal.main_arg6) = m ((c.tc : Thread Cert.PrsIdeal.nD Cert.PrsIdeal.τ).loc Cert.PrsIdeal.main_arg6)
          ∧ r.2.mem ((c.tc : Thread Cert.PrsIdeal.nD Cert.PrsIdeal.τ).loc Cert.PrsIdeal.main_arg7) = m ((c.tc : Thread Cert.PrsIdeal.nD Cert.PrsIdeal.τ).loc Cert.PrsIdeal.main_arg7))
      ∧ θ_run (Cert.PrsRefIdeal.defs (F := Ideal)) (onTc (τ := Cert.PrsRefIdeal.τ) (Cert.PrsRefIdeal.main (F := Ideal))) ⟨m', fun _ => 0, g'⟩ (fun r => ∀ c : Dev Cert.PrsRefIdeal.nD,
          r.2.mem ((c.tc : Thread Cert.PrsRefIdeal.nD Cert.PrsRefIdeal.τ).loc Cert.PrsRefIdeal.main_v103) = v0 c
          ∧ r.2.mem ((c.tc : Thread Cert.PrsRefIdeal.nD Cert.PrsRefIdeal.τ).loc Cert.PrsRefIdeal.main_v104) = v1 c
          ∧ r.2.mem ((c.tc : Thread Cert.PrsRefIdeal.nD Cert.PrsRefIdeal.τ).loc Cert.PrsRefIdeal.main_v101) = v2 c
          ∧ r.2.mem ((c.tc : Thread Cert.PrsRefIdeal.nD Cert.PrsRefIdeal.τ).loc Cert.PrsRefIdeal.main_v105) = v3 c
          ∧ r.2.mem ((c.tc : Thread Cert.PrsRefIdeal.nD Cert.PrsRefIdeal.τ).loc Cert.PrsRefIdeal.main_arg0) = m' ((c.tc : Thread Cert.PrsRefIdeal.nD Cert.PrsRefIdeal.τ).loc Cert.PrsRefIdeal.main_arg0)
          ∧ r.2.mem ((c.tc : Thread Cert.PrsRefIdeal.nD Cert.PrsRefIdeal.τ).loc Cert.PrsRefIdeal.main_arg1) = m' ((c.tc : Thread Cert.PrsRefIdeal.nD Cert.PrsRefIdeal.τ).loc Cert.PrsRefIdeal.main_arg1)
          ∧ r.2.mem ((c.tc : Thread Cert.PrsRefIdeal.nD Cert.PrsRefIdeal.τ).loc Cert.PrsRefIdeal.main_arg2) = m' ((c.tc : Thread Cert.PrsRefIdeal.nD Cert.PrsRefIdeal.τ).loc Cert.PrsRefIdeal.main_arg2)
          ∧ r.2.mem ((c.tc : Thread Cert.PrsRefIdeal.nD Cert.PrsRefIdeal.τ).loc Cert.PrsRefIdeal.main_arg3) = m' ((c.tc : Thread Cert.PrsRefIdeal.nD Cert.PrsRefIdeal.τ).loc Cert.PrsRefIdeal.main_arg3)
          ∧ r.2.mem ((c.tc : Thread Cert.PrsRefIdeal.nD Cert.PrsRefIdeal.τ).loc Cert.PrsRefIdeal.main_arg4) = m' ((c.tc : Thread Cert.PrsRefIdeal.nD Cert.PrsRefIdeal.τ).loc Cert.PrsRefIdeal.main_arg4)
          ∧ r.2.mem ((c.tc : Thread Cert.PrsRefIdeal.nD Cert.PrsRefIdeal.τ).loc Cert.PrsRefIdeal.main_arg5) = m' ((c.tc : Thread Cert.PrsRefIdeal.nD Cert.PrsRefIdeal.τ).loc Cert.PrsRefIdeal.main_arg5)
          ∧ r.2.mem ((c.tc : Thread Cert.PrsRefIdeal.nD Cert.PrsRefIdeal.τ).loc Cert.PrsRefIdeal.main_arg6) = m' ((c.tc : Thread Cert.PrsRefIdeal.nD Cert.PrsRefIdeal.τ).loc Cert.PrsRefIdeal.main_arg6)
          ∧ r.2.mem ((c.tc : Thread Cert.PrsRefIdeal.nD Cert.PrsRefIdeal.τ).loc Cert.PrsRefIdeal.main_arg7) = m' ((c.tc : Thread Cert.PrsRefIdeal.nD Cert.PrsRefIdeal.τ).loc Cert.PrsRefIdeal.main_arg7))

def preserves_Qks_QksIdeal : Prop :=
  True

def algebraic_QksIdeal_QksRefIdeal [hQksIdeal : Cert.QksIdeal.Facts] [hQksRefIdeal : Cert.QksRefIdeal.Facts] : Prop :=
  ∀ (m : (ℓ : Loc Cert.QksIdeal.nD Cert.QksIdeal.τ Cert.QksIdeal.sig) → Buf (Elt Ideal) ℓ) (g : Dev Cert.QksIdeal.nD → PrngReg)
    (m' : (ℓ : Loc Cert.QksRefIdeal.nD Cert.QksRefIdeal.τ Cert.QksRefIdeal.sig) → Buf (Elt Ideal) ℓ) (g' : Dev Cert.QksRefIdeal.nD → PrngReg), Pre_QksIdeal m →
    (∀ c : Dev Cert.QksIdeal.nD,
      m' ((c.tc : Thread Cert.QksRefIdeal.nD Cert.QksRefIdeal.τ).loc Cert.QksRefIdeal.main_arg0) = m ((c.tc : Thread Cert.QksIdeal.nD Cert.QksIdeal.τ).loc Cert.QksIdeal.main_arg0)
      ∧ m' ((c.tc : Thread Cert.QksRefIdeal.nD Cert.QksRefIdeal.τ).loc Cert.QksRefIdeal.main_arg1) = m ((c.tc : Thread Cert.QksIdeal.nD Cert.QksIdeal.τ).loc Cert.QksIdeal.main_arg1)
      ∧ m' ((c.tc : Thread Cert.QksRefIdeal.nD Cert.QksRefIdeal.τ).loc Cert.QksRefIdeal.main_arg2) = m ((c.tc : Thread Cert.QksIdeal.nD Cert.QksIdeal.τ).loc Cert.QksIdeal.main_arg2)
      ∧ m' ((c.tc : Thread Cert.QksRefIdeal.nD Cert.QksRefIdeal.τ).loc Cert.QksRefIdeal.main_arg3) = m ((c.tc : Thread Cert.QksIdeal.nD Cert.QksIdeal.τ).loc Cert.QksIdeal.main_arg3)
      ∧ m' ((c.tc : Thread Cert.QksRefIdeal.nD Cert.QksRefIdeal.τ).loc Cert.QksRefIdeal.main_arg4) = m ((c.tc : Thread Cert.QksIdeal.nD Cert.QksIdeal.τ).loc Cert.QksIdeal.main_arg4)
      ∧ m' ((c.tc : Thread Cert.QksRefIdeal.nD Cert.QksRefIdeal.τ).loc Cert.QksRefIdeal.main_arg5) = m ((c.tc : Thread Cert.QksIdeal.nD Cert.QksIdeal.τ).loc Cert.QksIdeal.main_arg5)
      ∧ m' ((c.tc : Thread Cert.QksRefIdeal.nD Cert.QksRefIdeal.τ).loc Cert.QksRefIdeal.main_arg6) = m ((c.tc : Thread Cert.QksIdeal.nD Cert.QksIdeal.τ).loc Cert.QksIdeal.main_arg6)
      ∧ m' ((c.tc : Thread Cert.QksRefIdeal.nD Cert.QksRefIdeal.τ).loc Cert.QksRefIdeal.main_arg7) = m ((c.tc : Thread Cert.QksIdeal.nD Cert.QksIdeal.τ).loc Cert.QksIdeal.main_arg7)) →
    ∃ (v0 : (c : Dev Cert.QksIdeal.nD) → Buf (Elt Ideal) ((c.tc : Thread Cert.QksIdeal.nD Cert.QksIdeal.τ).loc Cert.QksIdeal.main_v7_0)) (v1 : (c : Dev Cert.QksIdeal.nD) → Buf (Elt Ideal) ((c.tc : Thread Cert.QksIdeal.nD Cert.QksIdeal.τ).loc Cert.QksIdeal.main_v7_1)) (v2 : (c : Dev Cert.QksIdeal.nD) → Buf (Elt Ideal) ((c.tc : Thread Cert.QksIdeal.nD Cert.QksIdeal.τ).loc Cert.QksIdeal.main_v7_2)),
      θ_run (Cert.QksIdeal.defs (F := Ideal)) (onTc (τ := Cert.QksIdeal.τ) (Cert.QksIdeal.main (F := Ideal))) ⟨m, fun _ => 0, g⟩ (fun r => ∀ c : Dev Cert.QksIdeal.nD,
          r.2.mem ((c.tc : Thread Cert.QksIdeal.nD Cert.QksIdeal.τ).loc Cert.QksIdeal.main_v7_0) = v0 c
          ∧ r.2.mem ((c.tc : Thread Cert.QksIdeal.nD Cert.QksIdeal.τ).loc Cert.QksIdeal.main_v7_1) = v1 c
          ∧ r.2.mem ((c.tc : Thread Cert.QksIdeal.nD Cert.QksIdeal.τ).loc Cert.QksIdeal.main_v7_2) = v2 c
          ∧ r.2.mem ((c.tc : Thread Cert.QksIdeal.nD Cert.QksIdeal.τ).loc Cert.QksIdeal.main_arg0) = m ((c.tc : Thread Cert.QksIdeal.nD Cert.QksIdeal.τ).loc Cert.QksIdeal.main_arg0)
          ∧ r.2.mem ((c.tc : Thread Cert.QksIdeal.nD Cert.QksIdeal.τ).loc Cert.QksIdeal.main_arg1) = m ((c.tc : Thread Cert.QksIdeal.nD Cert.QksIdeal.τ).loc Cert.QksIdeal.main_arg1)
          ∧ r.2.mem ((c.tc : Thread Cert.QksIdeal.nD Cert.QksIdeal.τ).loc Cert.QksIdeal.main_arg2) = m ((c.tc : Thread Cert.QksIdeal.nD Cert.QksIdeal.τ).loc Cert.QksIdeal.main_arg2)
          ∧ r.2.mem ((c.tc : Thread Cert.QksIdeal.nD Cert.QksIdeal.τ).loc Cert.QksIdeal.main_arg3) = m ((c.tc : Thread Cert.QksIdeal.nD Cert.QksIdeal.τ).loc Cert.QksIdeal.main_arg3)
          ∧ r.2.mem ((c.tc : Thread Cert.QksIdeal.nD Cert.QksIdeal.τ).loc Cert.QksIdeal.main_arg4) = m ((c.tc : Thread Cert.QksIdeal.nD Cert.QksIdeal.τ).loc Cert.QksIdeal.main_arg4)
          ∧ r.2.mem ((c.tc : Thread Cert.QksIdeal.nD Cert.QksIdeal.τ).loc Cert.QksIdeal.main_arg5) = m ((c.tc : Thread Cert.QksIdeal.nD Cert.QksIdeal.τ).loc Cert.QksIdeal.main_arg5)
          ∧ r.2.mem ((c.tc : Thread Cert.QksIdeal.nD Cert.QksIdeal.τ).loc Cert.QksIdeal.main_arg6) = m ((c.tc : Thread Cert.QksIdeal.nD Cert.QksIdeal.τ).loc Cert.QksIdeal.main_arg6)
          ∧ r.2.mem ((c.tc : Thread Cert.QksIdeal.nD Cert.QksIdeal.τ).loc Cert.QksIdeal.main_arg7) = m ((c.tc : Thread Cert.QksIdeal.nD Cert.QksIdeal.τ).loc Cert.QksIdeal.main_arg7))
      ∧ θ_run (Cert.QksRefIdeal.defs (F := Ideal)) (onTc (τ := Cert.QksRefIdeal.τ) (Cert.QksRefIdeal.main (F := Ideal))) ⟨m', fun _ => 0, g'⟩ (fun r => ∀ c : Dev Cert.QksRefIdeal.nD,
          r.2.mem ((c.tc : Thread Cert.QksRefIdeal.nD Cert.QksRefIdeal.τ).loc Cert.QksRefIdeal.main_v101) = v0 c
          ∧ r.2.mem ((c.tc : Thread Cert.QksRefIdeal.nD Cert.QksRefIdeal.τ).loc Cert.QksRefIdeal.main_v100) = v1 c
          ∧ r.2.mem ((c.tc : Thread Cert.QksRefIdeal.nD Cert.QksRefIdeal.τ).loc Cert.QksRefIdeal.main_v103) = v2 c
          ∧ r.2.mem ((c.tc : Thread Cert.QksRefIdeal.nD Cert.QksRefIdeal.τ).loc Cert.QksRefIdeal.main_arg0) = m' ((c.tc : Thread Cert.QksRefIdeal.nD Cert.QksRefIdeal.τ).loc Cert.QksRefIdeal.main_arg0)
          ∧ r.2.mem ((c.tc : Thread Cert.QksRefIdeal.nD Cert.QksRefIdeal.τ).loc Cert.QksRefIdeal.main_arg1) = m' ((c.tc : Thread Cert.QksRefIdeal.nD Cert.QksRefIdeal.τ).loc Cert.QksRefIdeal.main_arg1)
          ∧ r.2.mem ((c.tc : Thread Cert.QksRefIdeal.nD Cert.QksRefIdeal.τ).loc Cert.QksRefIdeal.main_arg2) = m' ((c.tc : Thread Cert.QksRefIdeal.nD Cert.QksRefIdeal.τ).loc Cert.QksRefIdeal.main_arg2)
          ∧ r.2.mem ((c.tc : Thread Cert.QksRefIdeal.nD Cert.QksRefIdeal.τ).loc Cert.QksRefIdeal.main_arg3) = m' ((c.tc : Thread Cert.QksRefIdeal.nD Cert.QksRefIdeal.τ).loc Cert.QksRefIdeal.main_arg3)
          ∧ r.2.mem ((c.tc : Thread Cert.QksRefIdeal.nD Cert.QksRefIdeal.τ).loc Cert.QksRefIdeal.main_arg4) = m' ((c.tc : Thread Cert.QksRefIdeal.nD Cert.QksRefIdeal.τ).loc Cert.QksRefIdeal.main_arg4)
          ∧ r.2.mem ((c.tc : Thread Cert.QksRefIdeal.nD Cert.QksRefIdeal.τ).loc Cert.QksRefIdeal.main_arg5) = m' ((c.tc : Thread Cert.QksRefIdeal.nD Cert.QksRefIdeal.τ).loc Cert.QksRefIdeal.main_arg5)
          ∧ r.2.mem ((c.tc : Thread Cert.QksRefIdeal.nD Cert.QksRefIdeal.τ).loc Cert.QksRefIdeal.main_arg6) = m' ((c.tc : Thread Cert.QksRefIdeal.nD Cert.QksRefIdeal.τ).loc Cert.QksRefIdeal.main_arg6)
          ∧ r.2.mem ((c.tc : Thread Cert.QksRefIdeal.nD Cert.QksRefIdeal.τ).loc Cert.QksRefIdeal.main_arg7) = m' ((c.tc : Thread Cert.QksRefIdeal.nD Cert.QksRefIdeal.τ).loc Cert.QksRefIdeal.main_arg7))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hPre : Cert.Pre.Facts) (hPreIdeal : Cert.PreIdeal.Facts) (hPreRefIdeal : Cert.PreRefIdeal.Facts) (hMix : Cert.Mix.Facts) (hMixIdeal : Cert.MixIdeal.Facts) (hMixRefIdeal : Cert.MixRefIdeal.Facts) (hMod : Cert.Mod.Facts) (hModIdeal : Cert.ModIdeal.Facts) (hModRefIdeal : Cert.ModRefIdeal.Facts) (hQkv : Cert.Qkv.Facts) (hQkvIdeal : Cert.QkvIdeal.Facts) (hQkvRefIdeal : Cert.QkvRefIdeal.Facts) (hWin : Cert.Win.Facts) (hWinIdeal : Cert.WinIdeal.Facts) (hWinRefIdeal : Cert.WinRefIdeal.Facts) (hFfs : Cert.Ffs.Facts) (hFfsIdeal : Cert.FfsIdeal.Facts) (hFfsRefIdeal : Cert.FfsRefIdeal.Facts) (hPrs : Cert.Prs.Facts) (hPrsIdeal : Cert.PrsIdeal.Facts) (hPrsRefIdeal : Cert.PrsRefIdeal.Facts) (hQks : Cert.Qks.Facts) (hQksIdeal : Cert.QksIdeal.Facts) (hQksRefIdeal : Cert.QksRefIdeal.Facts) (hPre_finite_scores : Cert.Pre_finite_scores.Facts) (hPre_finite_mix : Cert.Pre_finite_mix.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Pre (hPre := hPre)
    ∧ quiescent_PreIdeal (hPreIdeal := hPreIdeal)
    ∧ quiescent_PreRefIdeal (hPreRefIdeal := hPreRefIdeal)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_Mod (hMod := hMod)
    ∧ quiescent_ModIdeal (hModIdeal := hModIdeal)
    ∧ quiescent_ModRefIdeal (hModRefIdeal := hModRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Win (hWin := hWin)
    ∧ quiescent_WinIdeal (hWinIdeal := hWinIdeal)
    ∧ quiescent_WinRefIdeal (hWinRefIdeal := hWinRefIdeal)
    ∧ quiescent_Ffs (hFfs := hFfs)
    ∧ quiescent_FfsIdeal (hFfsIdeal := hFfsIdeal)
    ∧ quiescent_FfsRefIdeal (hFfsRefIdeal := hFfsRefIdeal)
    ∧ quiescent_Prs (hPrs := hPrs)
    ∧ quiescent_PrsIdeal (hPrsIdeal := hPrsIdeal)
    ∧ quiescent_PrsRefIdeal (hPrsRefIdeal := hPrsRefIdeal)
    ∧ quiescent_Qks (hQks := hQks)
    ∧ quiescent_QksIdeal (hQksIdeal := hQksIdeal)
    ∧ quiescent_QksRefIdeal (hQksRefIdeal := hQksRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Pre_PreIdeal
    ∧ algebraic_PreIdeal_PreRefIdeal (hPreIdeal := hPreIdeal) (hPreRefIdeal := hPreRefIdeal)
    ∧ preserves_Mix_MixIdeal
    ∧ algebraic_MixIdeal_MixRefIdeal_pre_finite_mix (hMixIdeal := hMixIdeal) (hMixRefIdeal := hMixRefIdeal) (hPre_finite_mix := hPre_finite_mix)
    ∧ preserves_Mod_ModIdeal
    ∧ algebraic_ModIdeal_ModRefIdeal (hModIdeal := hModIdeal) (hModRefIdeal := hModRefIdeal)
    ∧ preserves_Qkv_QkvIdeal
    ∧ algebraic_QkvIdeal_QkvRefIdeal (hQkvIdeal := hQkvIdeal) (hQkvRefIdeal := hQkvRefIdeal)
    ∧ preserves_Win_WinIdeal
    ∧ preserves_Ffs_FfsIdeal
    ∧ algebraic_FfsIdeal_FfsRefIdeal (hFfsIdeal := hFfsIdeal) (hFfsRefIdeal := hFfsRefIdeal)
    ∧ preserves_Prs_PrsIdeal
    ∧ algebraic_PrsIdeal_PrsRefIdeal (hPrsIdeal := hPrsIdeal) (hPrsRefIdeal := hPrsRefIdeal)
    ∧ preserves_Qks_QksIdeal
    ∧ algebraic_QksIdeal_QksRefIdeal (hQksIdeal := hQksIdeal) (hQksRefIdeal := hQksRefIdeal)
-- ==== Pre_finite_mix.lean ====
abbrev S8192x1024 : Shape := ⟨2, ![8192, 1024]⟩
abbrev S8192x512 : Shape := ⟨2, ![8192, 512]⟩
abbrev S8x6x1024 : Shape := ⟨3, ![8, 6, 1024]⟩
abbrev S4x1024 : Shape := ⟨2, ![4, 1024]⟩
abbrev S31x512 : Shape := ⟨2, ![31, 512]⟩
abbrev S1x512 : Shape := ⟨2, ![1, 512]⟩
abbrev S4x64 : Shape := ⟨2, ![4, 64]⟩
abbrev S1x128 : Shape := ⟨2, ![1, 128]⟩
abbrev S1024x1024 : Shape := ⟨2, ![1024, 1024]⟩
abbrev S_ : Shape := ⟨0, ![]⟩

class Facts : Prop where
  bitsLt_bf16_f32 : FTy.bits .bf16 < FTy.bits .f32
  concatenates_S8192x512_S8192x512_S8192x1024_d1 : Shape.Concatenates [S8192x512, S8192x512] S8192x1024 1
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x512 .bf16) (main_arg2 : FVec F S8192x512 .f32) (main_arg3 : FVec F S8192x512 .f32) (main_arg4 : FVec F S8192x1024 .f32) (main_arg5 : FVec F S8x6x1024 .f32) (main_arg6 : FVec F S4x1024 .f32) (main_arg7 : FVec F S31x512 .f32) (main_arg8 : FVec F S1x512 .f32) (main_arg9 : FVec F S1x512 .f32) (main_arg10 : FVec F S1x512 .f32) (main_arg11 : FVec F S4x64 .f32) (main_arg12 : FVec F S1x128 .f32) (main_arg13 : FVec F S1024x1024 .f32) : IVec S8192x1024 1 :=
  let main_v0 : FVec F S8192x512 .f32 := (extf .f32 · bitsLt_bf16_f32) main_arg1
  let main_v1 : FVec F S8192x1024 .f32 := (fun a b => concatenate S8192x1024 1 [⟨S8192x512, a⟩, ⟨S8192x512, b⟩] concatenates_S8192x512_S8192x512_S8192x1024_d1) main_v0 main_arg2
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  main_v4
-- ==== Pre_finite_scores.lean ====
abbrev S8192x1024 : Shape := ⟨2, ![8192, 1024]⟩
abbrev S8192x256 : Shape := ⟨2, ![8192, 256]⟩
abbrev S8x6x1024 : Shape := ⟨3, ![8, 6, 1024]⟩
abbrev S4x1024 : Shape := ⟨2, ![4, 1024]⟩
abbrev S16 : Shape := ⟨1, ![16]⟩
abbrev S1024x1024 : Shape := ⟨2, ![1024, 1024]⟩
abbrev S1x16 : Shape := ⟨2, ![1, 16]⟩
abbrev S8192x16 : Shape := ⟨2, ![8192, 16]⟩
abbrev S8192x1296 : Shape := ⟨2, ![8192, 1296]⟩
abbrev S_ : Shape := ⟨0, ![]⟩

class Facts : Prop where
  bitsLt_bf16_f32 : FTy.bits .bf16 < FTy.bits .f32
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  concatenates_S8192x1024_S8192x256_S8192x16_S8192x1296_d1 : Shape.Concatenates [S8192x1024, S8192x256, S8192x16] S8192x1296 1
  bcast_S_S8192x1296 : S_.BroadcastsInDim S8192x1296 (![] : Fin 0 → Fin S8192x1296.rank)

variable [Facts]

def fn {F : FTy → Type} [FloatOps F] (main_arg0 : FVec F S8192x1024 .bf16) (main_arg1 : FVec F S8192x256 .f32) (main_arg2 : FVec F S8192x256 .f32) (main_arg3 : FVec F S8192x1024 .f32) (main_arg4 : FVec F S8x6x1024 .f32) (main_arg5 : FVec F S4x1024 .f32) (main_arg6 : FVec F S16 .f32) (main_arg7 : FVec F S1024x1024 .f32) : IVec S8192x1296 1 :=
  let main_v0 : FVec F S8192x1024 .f32 := (extf .f32 · bitsLt_bf16_f32) main_arg0
  let main_v1 : FVec F S1x16 .f32 := broadcastInDim S1x16 ![1] bcast_S16_S1x16_1 main_arg6
  let main_v2 : FVec F S8192x16 .f32 := broadcastInDim S8192x16 ![0, 1] bcast_S1x16_S8192x16_0_1 main_v1
  let main_v3 : FVec F S8192x1296 .f32 := concatenate S8192x1296 1 [⟨S8192x1024, main_v0⟩, ⟨S8192x256, main_arg1⟩, ⟨S8192x16, main_v2⟩] concatenates_S8192x1024_S8192x256_S8192x16_S8192x1296_d1
  let main_v4 : FVec F S8192x1296 .f32 := Host.absf main_v3
  let main_cst : FVec F S_ .f32 := constant S_ .f32 0x7F800000#32
  let main_v5 : FVec F S8192x1296 .f32 := broadcastInDim S8192x1296 ![] bcast_S_S8192x1296 main_cst
  let main_v6 : IVec S8192x1296 1 := cmpf .olt main_v4 main_v5
  main_v6
-- ==== Attn.lean ====
abbrev S8192x1024 : Shape := ⟨2, ![8192, 1024]⟩
abbrev S8192x256 : Shape := ⟨2, ![8192, 256]⟩
abbrev S8x6x1024 : Shape := ⟨3, ![8, 6, 1024]⟩
abbrev S4x1024 : Shape := ⟨2, ![4, 1024]⟩
abbrev S16 : Shape := ⟨1, ![16]⟩
abbrev S1024x1024 : Shape := ⟨2, ![1024, 1024]⟩
abbrev S256x1024 : Shape := ⟨2, ![256, 1024]⟩
abbrev S256x256 : Shape := ⟨2, ![256, 256]⟩
abbrev S1x6x1024 : Shape := ⟨3, ![1, 6, 1024]⟩
abbrev S256x128 : Shape := ⟨2, ![256, 128]⟩
abbrev S1 : Shape := ⟨1, ![1]⟩
abbrev S256 : Shape := ⟨1, ![256]⟩
abbrev S256x1 : Shape := ⟨2, ![256, 1]⟩
abbrev S1x1x1024 : Shape := ⟨3, ![1, 1, 1024]⟩
abbrev S1x1024 : Shape := ⟨2, ![1, 1024]⟩

abbrev nBuf : Space → Nat
  | .hbm => 10
  | .vmem => 15
  | .smem => 1
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S8192x256, .f32⟩
  | .hbm, ⟨3, _⟩ => ⟨S8192x1024, .f32⟩
  | .hbm, ⟨4, _⟩ => ⟨S8x6x1024, .f32⟩
  | .hbm, ⟨5, _⟩ => ⟨S4x1024, .f32⟩
  | .hbm, ⟨6, _⟩ => ⟨S16, .f32⟩
  | .hbm, ⟨7, _⟩ => ⟨S1024x1024, .f32⟩
  | .hbm, ⟨8, _⟩ => ⟨S1024x1024, .bf16⟩
  | .hbm, ⟨9, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x1024, .f32⟩
  | .local _ .vmem, ⟨7, _⟩ => ⟨S256x1024, .f32⟩
  | .local _ .vmem, ⟨8, _⟩ => ⟨S1x6x1024, .f32⟩
  | .local _ .vmem, ⟨9, _⟩ => ⟨S4x1024, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S256x256, .bf16⟩
  | .local _ .vmem, ⟨14, _⟩ => ⟨S256x256, .bf16⟩
  | .local _ .smem, ⟨0, _⟩ => ⟨S16, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnRefIdeal.lean ====
abbrev S8192x1024 : Shape := ⟨2, ![8192, 1024]⟩
abbrev S8192x256 : Shape := ⟨2, ![8192, 256]⟩
abbrev S8x6x1024 : Shape := ⟨3, ![8, 6, 1024]⟩
abbrev S4x1024 : Shape := ⟨2, ![4, 1024]⟩
abbrev S16 : Shape := ⟨1, ![16]⟩
abbrev S1024x1024 : Shape := ⟨2, ![1024, 1024]⟩
abbrev S32x256x4x4x64 : Shape := ⟨5, ![32, 256, 4, 4, 64]⟩
abbrev S32x256x4x64 : Shape := ⟨4, ![32, 256, 4, 64]⟩
abbrev S32x4x256x256x4 : Shape := ⟨5, ![32, 4, 256, 256, 4]⟩
abbrev S32x4x4x256x256 : Shape := ⟨5, ![32, 4, 4, 256, 256]⟩
abbrev S_ : Shape := ⟨0, ![]⟩
abbrev S4x4 : Shape := ⟨2, ![4, 4]⟩
abbrev S1x4x4x1x1 : Shape := ⟨5, ![1, 4, 4, 1, 1]⟩
abbrev S32x4x4x256x1 : Shape := ⟨5, ![32, 4, 4, 256, 1]⟩
abbrev S32x4x4x256x257 : Shape := ⟨5, ![32, 4, 4, 256, 257]⟩
abbrev S32x4x4x256 : Shape := ⟨4, ![32, 4, 4, 256]⟩
abbrev S32x4x64x4x256 : Shape := ⟨5, ![32, 4, 64, 4, 256]⟩
abbrev S1x1x1024 : Shape := ⟨3, ![1, 1, 1024]⟩
abbrev S1024 : Shape := ⟨1, ![1024]⟩
abbrev S1x1024 : Shape := ⟨2, ![1, 1024]⟩
abbrev S8192 : Shape := ⟨1, ![8192]⟩
abbrev S8192x1 : Shape := ⟨2, ![8192, 1]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S8192x256, .f32⟩
  | .hbm, ⟨3, _⟩ => ⟨S8192x1024, .f32⟩
  | .hbm, ⟨4, _⟩ => ⟨S8x6x1024, .f32⟩
  | .hbm, ⟨5, _⟩ => ⟨S4x1024, .f32⟩
  | .hbm, ⟨6, _⟩ => ⟨S16, .f32⟩
  | .hbm, ⟨7, _⟩ => ⟨S1024x1024, .f32⟩
  | .hbm, ⟨8, _⟩ => ⟨S8192x1024, .f32⟩
  | .hbm, ⟨9, _⟩ => ⟨S32x256x4x4x64, .f32⟩
  | .hbm, ⟨10, _⟩ => ⟨S32x256x4x64, .f32⟩
  | .hbm, ⟨11, _⟩ => ⟨S32x256x4x64, .f32⟩
  | .hbm, ⟨12, _⟩ => ⟨S32x4x256x256x4, .f32⟩
  | .hbm, ⟨13, _⟩ => ⟨S32x4x4x256x256, .f32⟩
  | .hbm, ⟨14, _⟩ => ⟨S_, .f32⟩
  | .hbm, ⟨15, _⟩ => ⟨S32x4x4x256x256, .f32⟩
  | .hbm, ⟨16, _⟩ => ⟨S32x4x4x256x256, .f32⟩
  | .hbm, ⟨17, _⟩ => ⟨S4x4, .f32⟩
  | .hbm, ⟨18, _⟩ => ⟨S1x4x4x1x1, .f32⟩
  | .hbm, ⟨19, _⟩ => ⟨S32x4x4x256x1, .f32⟩
  | .hbm, ⟨20, _⟩ => ⟨S32x4x4x256x257, .f32⟩
  | .hbm, ⟨21, _⟩ => ⟨S_, .f32⟩
  | .hbm, ⟨22, _⟩ => ⟨S32x4x4x256, .f32⟩
  | .hbm, ⟨23, _⟩ => ⟨S_, .f32⟩
  | .hbm, ⟨24, _⟩ => ⟨S32x4x4x256, .f32⟩
  | .hbm, ⟨25, _⟩ => ⟨S32x4x4x256, .f32⟩
  | .hbm, ⟨26, _⟩ => ⟨S32x4x4x256x1, .f32⟩
  | .hbm, ⟨27, _⟩ => ⟨S32x4x4x256x257, .f32⟩
  | .hbm, ⟨28, _⟩ => ⟨S32x4x4x256x257, .f32⟩
  | .hbm, ⟨29, _⟩ => ⟨S32x4x4x256x257, .f32⟩
  | .hbm, ⟨30, _⟩ => ⟨S_, .f32⟩
  | .hbm, ⟨31, _⟩ => ⟨S32x4x4x256, .f32⟩
  | .hbm, ⟨32, _⟩ => ⟨S32x4x4x256x1, .f32⟩
  | .hbm, ⟨33, _⟩ => ⟨S32x4x4x256x257, .f32⟩
  | .hbm, ⟨34, _⟩ => ⟨S32x4x4x256x257, .f32⟩
  | .hbm, ⟨35, _⟩ => ⟨S32x4x4x256x256, .f32⟩
  | .hbm, ⟨36, _⟩ => ⟨S32x4x64x4x256, .f32⟩
  | .hbm, ⟨37, _⟩ => ⟨S32x256x4x4x64, .f32⟩
  | .hbm, ⟨38, _⟩ => ⟨S8192x1024, .f32⟩
  | .hbm, ⟨39, _⟩ => ⟨S8192x1024, .f32⟩
  | .hbm, ⟨40, _⟩ => ⟨S1x1x1024, .f32⟩
  | .hbm, ⟨41, _⟩ => ⟨S1024, .f32⟩
  | .hbm, ⟨42, _⟩ => ⟨S1x1024, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Ffn.lean ====
abbrev S8192x1024 : Shape := ⟨2, ![8192, 1024]⟩
abbrev S8x6x1024 : Shape := ⟨3, ![8, 6, 1024]⟩
abbrev S4x1024 : Shape := ⟨2, ![4, 1024]⟩
abbrev S1024x5632 : Shape := ⟨2, ![1024, 5632]⟩
abbrev S2816x1024 : Shape := ⟨2, ![2816, 1024]⟩
abbrev S512x1024 : Shape := ⟨2, ![512, 1024]⟩
abbrev S1x6x1024 : Shape := ⟨3, ![1, 6, 1024]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1024x768 : Shape := ⟨2, ![1024, 768]⟩
abbrev S512x768 : Shape := ⟨2, ![512, 768]⟩
abbrev S768x1024 : Shape := ⟨2, ![768, 1024]⟩
abbrev S1024x512 : Shape := ⟨2, ![1024, 512]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S4x1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S2816x1024, .bf16⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S4x1024, .f32⟩
  | .local _ .vmem, ⟨4, _⟩ => ⟨S1024x5632, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S8192x1024 : Shape := ⟨2, ![8192, 1024]⟩
abbrev S8x6x1024 : Shape := ⟨3, ![8, 6, 1024]⟩
abbrev S4x1024 : Shape := ⟨2, ![4, 1024]⟩
abbrev S1024x5632 : Shape := ⟨2, ![1024, 5632]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1x1024 : Shape := ⟨3, ![1, 1, 1024]⟩
abbrev S8192x5632 : Shape := ⟨2, ![8192, 5632]⟩
abbrev S8192x2816 : Shape := ⟨2, ![8192, 2816]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S4x1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1x1x1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1x1x1024, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x5632, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x1024, .f32⟩
  | .hbm, ⟨50, _⟩ => ⟨S1x1x1024, .f32⟩
  | .hbm, ⟨51, _⟩ => ⟨S1024, .f32⟩
  | .hbm, ⟨52, _⟩ => ⟨S1x1024, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Pre.lean ====
abbrev S8192x1024 : Shape := ⟨2, ![8192, 1024]⟩
abbrev S8x6x1024 : Shape := ⟨3, ![8, 6, 1024]⟩
abbrev S4x1024 : Shape := ⟨2, ![4, 1024]⟩
abbrev S1024x2560 : Shape := ⟨2, ![1024, 2560]⟩
abbrev S8192x512 : Shape := ⟨2, ![8192, 512]⟩
abbrev S512x1024 : Shape := ⟨2, ![512, 1024]⟩
abbrev S1x6x1024 : Shape := ⟨3, ![1, 6, 1024]⟩
abbrev S512x512 : Shape := ⟨2, ![512, 512]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S512x2560 : Shape := ⟨2, ![512, 2560]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S4x1024, .f32⟩
  | .hbm, ⟨3, _⟩ => ⟨S1024x2560, .f32⟩
  | .hbm, ⟨4, _⟩ => ⟨S1024x2560, .bf16⟩
  | .hbm, ⟨5, _⟩ => ⟨S8192x1024, .f32⟩
  | .hbm, ⟨6, _⟩ => ⟨S8192x512, .bf16⟩
  | .hbm, ⟨7, _⟩ => ⟨S8192x512, .f32⟩
  | .hbm, ⟨8, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S4x1024, .f32⟩
  | .local _ .vmem, ⟨4, _⟩ => ⟨S1024x2560, .bf16⟩
  | .local _ .vmem, ⟨5, _⟩ => ⟨S512x1024, .f32⟩
  | .local _ .vmem, ⟨6, _⟩ => ⟨S512x1024, .f32⟩
  | .local _ .vmem, ⟨7, _⟩ => ⟨S512x512, .bf16⟩
  | .local _ .vmem, ⟨8, _⟩ => ⟨S512x512, .bf16⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PreRefIdeal.lean ====
abbrev S8192x1024 : Shape := ⟨2, ![8192, 1024]⟩
abbrev S8x6x1024 : Shape := ⟨3, ![8, 6, 1024]⟩
abbrev S4x1024 : Shape := ⟨2, ![4, 1024]⟩
abbrev S1024x2560 : Shape := ⟨2, ![1024, 2560]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1x1024 : Shape := ⟨3, ![1, 1, 1024]⟩
abbrev S8192x2560 : Shape := ⟨2, ![8192, 2560]⟩
abbrev S8192x512 : Shape := ⟨2, ![8192, 512]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S4x1024, .f32⟩
  | .hbm, ⟨3, _⟩ => ⟨S1024x2560, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1x1x1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1x1024, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x2560, .f32⟩
  | .hbm, ⟨36, _⟩ => ⟨S8192x1024, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Mix.lean ====
abbrev S8192x1024 : Shape := ⟨2, ![8192, 1024]⟩
abbrev S8192x512 : Shape := ⟨2, ![8192, 512]⟩
abbrev S8x6x1024 : Shape := ⟨3, ![8, 6, 1024]⟩
abbrev S4x1024 : Shape := ⟨2, ![4, 1024]⟩
abbrev S31x512 : Shape := ⟨2, ![31, 512]⟩
abbrev S1x512 : Shape := ⟨2, ![1, 512]⟩
abbrev S4x64 : Shape := ⟨2, ![4, 64]⟩
abbrev S1x128 : Shape := ⟨2, ![1, 128]⟩
abbrev S1024x1024 : Shape := ⟨2, ![1024, 1024]⟩
abbrev S256x1024 : Shape := ⟨2, ![256, 1024]⟩
abbrev S256x512 : Shape := ⟨2, ![256, 512]⟩
abbrev S1x6x1024 : Shape := ⟨3, ![1, 6, 1024]⟩
abbrev S288x512 : Shape := ⟨2, ![288, 512]⟩
abbrev S7x280x512 : Shape := ⟨3, ![7, 280, 512]⟩
abbrev S16x512 : Shape := ⟨2, ![16, 512]⟩
abbrev S280x512 : Shape := ⟨2, ![280, 512]⟩
abbrev S1x280x512 : Shape := ⟨3, ![1, 280, 512]⟩
abbrev S64x512 : Shape := ⟨2, ![64, 512]⟩
abbrev S1x64x512 : Shape := ⟨3, ![1, 64, 512]⟩
abbrev S64 : Shape := ⟨1, ![64]⟩
abbrev S64x1 : Shape := ⟨2, ![64, 1]⟩
abbrev S1x64 : Shape := ⟨2, ![1, 64]⟩
abbrev S1 : Shape := ⟨1, ![1]⟩
abbrev S1x1 : Shape := ⟨2, ![1, 1]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S256x256 : Shape := ⟨2, ![256, 256]⟩
abbrev S256 : Shape := ⟨1, ![256]⟩
abbrev S256x1 : Shape := ⟨2, ![256, 1]⟩
abbrev S1x1x1024 : Shape := ⟨3, ![1, 1, 1024]⟩
abbrev S1x1024 : Shape := ⟨2, ![1, 1024]⟩

abbrev nBuf : Space → Nat
  | .hbm => 16
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .f32⟩
  | .hbm, ⟨3, _⟩ => ⟨S8192x512, .f32⟩
  | .hbm, ⟨4, _⟩ => ⟨S8192x1024, .f32⟩
  | .hbm, ⟨5, _⟩ => ⟨S8x6x1024, .f32⟩
  | .hbm, ⟨6, _⟩ => ⟨S4x1024, .f32⟩
  | .hbm, ⟨7, _⟩ => ⟨S31x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S4x64, .f32⟩
  | .hbm, ⟨12, _⟩ => ⟨S1x128, .f32⟩
  | .hbm, ⟨13, _⟩ => ⟨S1024x1024, .f32⟩
  | .hbm, ⟨14, _⟩ => ⟨S1024x1024, .bf16⟩
  | .hbm, ⟨15, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S1x6x1024, .f32⟩
  | .local _ .vmem, ⟨11, _⟩ => ⟨S4x1024, .f32⟩
  | .local _ .vmem, ⟨12, _⟩ => ⟨S31x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S4x64, .f32⟩
  | .local _ .vmem, ⟨17, _⟩ => ⟨S1x128, .f32⟩
  | .local _ .vmem, ⟨18, _⟩ => ⟨S1024x1024, .bf16⟩
  | .local _ .vmem, ⟨19, _⟩ => ⟨S256x1024, .f32⟩
  | .local _ .vmem, ⟨20, _⟩ => ⟨S256x1024, .f32⟩
  | .local _ .vmem, ⟨21, _⟩ => ⟨S256x512, .bf16⟩
  | .local _ .vmem, ⟨22, _⟩ => ⟨S256x512, .bf16⟩
  | .local _ .vmem, ⟨23, _⟩ => ⟨S288x512, .f32⟩
  | .local _ .vmem, ⟨24, _⟩ => ⟨S288x512, .f32⟩
  | .local _ .vmem, ⟨25, _⟩ => ⟨S7x280x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![32, 1], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S31x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MixRefIdeal.lean ====
abbrev S8192x1024 : Shape := ⟨2, ![8192, 1024]⟩
abbrev S8192x512 : Shape := ⟨2, ![8192, 512]⟩
abbrev S8x6x1024 : Shape := ⟨3, ![8, 6, 1024]⟩
abbrev S4x1024 : Shape := ⟨2, ![4, 1024]⟩
abbrev S31x512 : Shape := ⟨2, ![31, 512]⟩
abbrev S1x512 : Shape := ⟨2, ![1, 512]⟩
abbrev S4x64 : Shape := ⟨2, ![4, 64]⟩
abbrev S1x128 : Shape := ⟨2, ![1, 128]⟩
abbrev S1024x1024 : Shape := ⟨2, ![1024, 1024]⟩
abbrev S32x256x1024 : Shape := ⟨3, ![32, 256, 1024]⟩
abbrev S32x256x512 : Shape := ⟨3, ![32, 256, 512]⟩
abbrev S_ : Shape := ⟨0, ![]⟩
abbrev S32x286x512 : Shape := ⟨3, ![32, 286, 512]⟩
abbrev S512 : Shape := ⟨1, ![512]⟩
abbrev S1x1x512 : Shape := ⟨3, ![1, 1, 512]⟩
abbrev S32x256 : Shape := ⟨2, ![32, 256]⟩
abbrev S32x256x1 : Shape := ⟨3, ![32, 256, 1]⟩
abbrev S32x256x4x2x64 : Shape := ⟨5, ![32, 256, 4, 2, 64]⟩
abbrev S32x256x4x128 : Shape := ⟨4, ![32, 256, 4, 128]⟩
abbrev S1x64 : Shape := ⟨2, ![1, 64]⟩
abbrev S64 : Shape := ⟨1, ![64]⟩
abbrev S32x4x2x256x256 : Shape := ⟨5, ![32, 4, 2, 256, 256]⟩
abbrev S32x4x2x256 : Shape := ⟨4, ![32, 4, 2, 256]⟩
abbrev S32x4x2x256x1 : Shape := ⟨5, ![32, 4, 2, 256, 1]⟩
abbrev S32x4x1x256x256 : Shape := ⟨5, ![32, 4, 1, 256, 256]⟩
abbrev S32x4x256x256 : Shape := ⟨4, ![32, 4, 256, 256]⟩
abbrev S32x4x128x256 : Shape := ⟨4, ![32, 4, 128, 256]⟩
abbrev S32x256x4 : Shape := ⟨3, ![32, 256, 4]⟩
abbrev S32x256x4x1 : Shape := ⟨4, ![32, 256, 4, 1]⟩
abbrev S1x1x1x128 : Shape := ⟨4, ![1, 1, 1, 128]⟩
abbrev S1x1x1024 : Shape := ⟨3, ![1, 1, 1024]⟩
abbrev S1024 : Shape := ⟨1, ![1024]⟩
abbrev S1x1024 : Shape := ⟨2, ![1, 1024]⟩
abbrev S8192 : Shape := ⟨1, ![8192]⟩
abbrev S8192x1 : Shape := ⟨2, ![8192, 1]⟩

abbrev nBuf : Space → Nat
  | .hbm => 381
  | .vmem => 0
  | .smem => 0
  | _ => 0

abbrev hbmTy0_0 (i : Nat) : BufTy := match i % 128 with
  | 0 => ⟨S8192x1024, .f32⟩
  | 1 => ⟨S8192x512, .bf16⟩
  | 2 => ⟨S8192x512, .f32⟩
  | 3 => ⟨S8192x512, .f32⟩
  | 4 => ⟨S8192x1024, .f32⟩
  | 5 => ⟨S8x6x1024, .f32⟩
  | 6 => ⟨S4x1024, .f32⟩
  | 7 => ⟨S31x512, .f32⟩
  | 8 => ⟨S1x512, .f32⟩
  | 9 => ⟨S1x512, .f32⟩
  | 10 => ⟨S1x512, .f32⟩
  | 11 => ⟨S4x64, .f32⟩
  | 12 => ⟨S1x128, .f32⟩
  | 13 => ⟨S1024x1024, .f32⟩
  | 14 => ⟨S32x256x1024, .f32⟩
  | 15 => ⟨S32x256x512, .f32⟩
  | 16 => ⟨S32x256x512, .f32⟩
  | 17 => ⟨S32x256x512, .f32⟩
  | 18 => ⟨S32x256x512, .f32⟩
  | 19 => ⟨S_, .f32⟩
  | 20 => ⟨S32x256x512, .f32⟩
  | 21 => ⟨S32x256x512, .f32⟩
  | 22 => ⟨S_, .f32⟩
  | 23 => ⟨S32x256x512, .f32⟩
  | 24 => ⟨S32x256x512, .f32⟩
  | 25 => ⟨S32x256x512, .f32⟩
  | 26 => ⟨S_, .i32⟩
  | 27 => ⟨S_, .f32⟩
  | 28 => ⟨S32x286x512, .f32⟩
  | 29 => ⟨S32x256x512, .f32⟩
  | 30 => ⟨S1x512, .f32⟩
  | 31 => ⟨S512, .f32⟩
  | 32 => ⟨S1x1x512, .f32⟩
  | 33 => ⟨S32x256x512, .f32⟩
  | 34 => ⟨S32x256x512, .f32⟩
  | 35 => ⟨S32x256x512, .f32⟩
  | 36 => ⟨S1x512, .f32⟩
  | 37 => ⟨S512, .f32⟩
  | 38 => ⟨S1x1x512, .f32⟩
  | 39 => ⟨S32x256x512, .f32⟩
  | 40 => ⟨S32x256x512, .f32⟩
  | 41 => ⟨S32x256x512, .f32⟩
  | 42 => ⟨S32x256x512, .f32⟩
  | 43 => ⟨S1x512, .f32⟩
  | 44 => ⟨S512, .f32⟩
  | 45 => ⟨S1x1x512, .f32⟩
  | 46 => ⟨S32x256x512, .f32⟩
  | 47 => ⟨S32x256x512, .f32⟩
  | 48 => ⟨S32x256x512, .f32⟩
  | 49 => ⟨S32x256x512, .f32⟩
  | 50 => ⟨S1x512, .f32⟩
  | 51 => ⟨S512, .f32⟩
  | 52 => ⟨S1x1x512, .f32⟩
  | 53 => ⟨S32x256x512, .f32⟩
  | 54 => ⟨S32x256x512, .f32⟩
  | 55 => ⟨S32x256x512, .f32⟩
  | 56 => ⟨S32x256x512, .f32⟩
  | 57 => ⟨S1x512, .f32⟩
  | 58 => ⟨S512, .f32⟩
  | 59 => ⟨S1x1x512, .f32⟩
  | 60 => ⟨S32x256x512, .f32⟩
  | 61 => ⟨S32x256x512, .f32⟩
  | 62 => ⟨S32x256x512, .f32⟩
  | 63 => ⟨S32x256x512, .f32⟩
  | 64 => ⟨S1x512, .f32⟩
  | 65 => ⟨S512, .f32⟩
  | 66 => ⟨S1x1x512, .f32⟩
  | 67 => ⟨S32x256x512, .f32⟩
  | 68 => ⟨S32x256x512, .f32⟩
  | 69 => ⟨S32x256x512, .f32⟩
  | 70 => ⟨S32x256x512, .f32⟩
  | 71 => ⟨S1x512, .f32⟩
  | 72 => ⟨S512, .f32⟩
  | 73 => ⟨S1x1x512, .f32⟩
  | 74 => ⟨S32x256x512, .f32⟩
  | 75 => ⟨S32x256x512, .f32⟩
  | 76 => ⟨S32x256x512, .f32⟩
  | 77 => ⟨S32x256x512, .f32⟩
  | 78 => ⟨S1x512, .f32⟩
  | 79 => ⟨S512, .f32⟩
  | 80 => ⟨S1x1x512, .f32⟩
  | 81 => ⟨S32x256x512, .f32⟩
  | 82 => ⟨S32x256x512, .f32⟩
  | 83 => ⟨S32x256x512, .f32⟩
  | 84 => ⟨S32x256x512, .f32⟩
  | 85 => ⟨S1x512, .f32⟩
  | 86 => ⟨S512, .f32⟩
  | 87 => ⟨S1x1x512, .f32⟩
  | 88 => ⟨S32x256x512, .f32⟩
  | 89 => ⟨S32x256x512, .f32⟩
  | 90 => ⟨S32x256x512, .f32⟩
  | 91 => ⟨S32x256x512, .f32⟩
  | 92 => ⟨S1x512, .f32⟩
  | 93 => ⟨S512, .f32⟩
  | 94 => ⟨S1x1x512, .f32⟩
  | 95 => ⟨S32x256x512, .f32⟩
  | 96 => ⟨S32x256x512, .f32⟩
  | 97 => ⟨S32x256x512, .f32⟩
  | 98 => ⟨S32x256x512, .f32⟩
  | 99 => ⟨S1x512, .f32⟩
  | 100 => ⟨S512, .f32⟩
  | 101 => ⟨S1x1x512, .f32⟩
  | 102 => ⟨S32x256x512, .f32⟩
  | 103 => ⟨S32x256x512, .f32⟩
  | 104 => ⟨S32x256x512, .f32⟩
  | 105 => ⟨S32x256x512, .f32⟩
  | 106 => ⟨S1x512, .f32⟩
  | 107 => ⟨S512, .f32⟩
  | 108 => ⟨S1x1x512, .f32⟩
  | 109 => ⟨S32x256x512, .f32⟩
  | 110 => ⟨S32x256x512, .f32⟩
  | 111 => ⟨S32x256x512, .f32⟩
  | 112 => ⟨S32x256x512, .f32⟩
  | 113 => ⟨S1x512, .f32⟩
  | 114 => ⟨S512, .f32⟩
  | 115 => ⟨S1x1x512, .f32⟩
  | 116 => ⟨S32x256x512, .f32⟩
  | 117 => ⟨S32x256x512, .f32⟩
  | 118 => ⟨S32x256x512, .f32⟩
  | 119 => ⟨S32x256x512, .f32⟩
  | 120 => ⟨S1x512, .f32⟩
  | 121 => ⟨S512, .f32⟩
  | 122 => ⟨S1x1x512, .f32⟩
  | 123 => ⟨S32x256x512, .f32⟩
  | 124 => ⟨S32x256x512, .f32⟩
  | 125 => ⟨S32x256x512, .f32⟩
  | 126 => ⟨S32x256x512, .f32⟩
  | 127 => ⟨S1x512, .f32⟩
  | _ => ⟨S8192x1024, .f32⟩

abbrev hbmTy0_1 (i : Nat) : BufTy := match i % 128 with
  | 0 => ⟨S512, .f32⟩
  | 1 => ⟨S1x1x512, .f32⟩
  | 2 => ⟨S32x256x512, .f32⟩
  | 3 => ⟨S32x256x512, .f32⟩
  | 4 => ⟨S32x256x512, .f32⟩
  | 5 => ⟨S32x256x512, .f32⟩
  | 6 => ⟨S1x512, .f32⟩
  | 7 => ⟨S512, .f32⟩
  | 8 => ⟨S1x1x512, .f32⟩
  | 9 => ⟨S32x256x512, .f32⟩
  | 10 => ⟨S32x256x512, .f32⟩
  | 11 => ⟨S32x256x512, .f32⟩
  | 12 => ⟨S32x256x512, .f32⟩
  | 13 => ⟨S1x512, .f32⟩
  | 14 => ⟨S512, .f32⟩
  | 15 => ⟨S1x1x512, .f32⟩
  | 16 => ⟨S32x256x512, .f32⟩
  | 17 => ⟨S32x256x512, .f32⟩
  | 18 => ⟨S32x256x512, .f32⟩
  | 19 => ⟨S32x256x512, .f32⟩
  | 20 => ⟨S1x512, .f32⟩
  | 21 => ⟨S512, .f32⟩
  | 22 => ⟨S1x1x512, .f32⟩
  | 23 => ⟨S32x256x512, .f32⟩
  | 24 => ⟨S32x256x512, .f32⟩
  | 25 => ⟨S32x256x512, .f32⟩
  | 26 => ⟨S32x256x512, .f32⟩
  | 27 => ⟨S1x512, .f32⟩
  | 28 => ⟨S512, .f32⟩
  | 29 => ⟨S1x1x512, .f32⟩
  | 30 => ⟨S32x256x512, .f32⟩
  | 31 => ⟨S32x256x512, .f32⟩
  | 32 => ⟨S32x256x512, .f32⟩
  | 33 => ⟨S32x256x512, .f32⟩
  | 34 => ⟨S1x512, .f32⟩
  | 35 => ⟨S512, .f32⟩
  | 36 => ⟨S1x1x512, .f32⟩
  | 37 => ⟨S32x256x512, .f32⟩
  | 38 => ⟨S32x256x512, .f32⟩
  | 39 => ⟨S32x256x512, .f32⟩
  | 40 => ⟨S32x256x512, .f32⟩
  | 41 => ⟨S1x512, .f32⟩
  | 42 => ⟨S512, .f32⟩
  | 43 => ⟨S1x1x512, .f32⟩
  | 44 => ⟨S32x256x512, .f32⟩
  | 45 => ⟨S32x256x512, .f32⟩
  | 46 => ⟨S32x256x512, .f32⟩
  | 47 => ⟨S32x256x512, .f32⟩
  | 48 => ⟨S1x512, .f32⟩
  | 49 => ⟨S512, .f32⟩
  | 50 => ⟨S1x1x512, .f32⟩
  | 51 => ⟨S32x256x512, .f32⟩
  | 52 => ⟨S32x256x512, .f32⟩
  | 53 => ⟨S32x256x512, .f32⟩
  | 54 => ⟨S32x256x512, .f32⟩
  | 55 => ⟨S1x512, .f32⟩
  | 56 => ⟨S512, .f32⟩
  | 57 => ⟨S1x1x512, .f32⟩
  | 58 => ⟨S32x256x512, .f32⟩
  | 59 => ⟨S32x256x512, .f32⟩
  | 60 => ⟨S32x256x512, .f32⟩
  | 61 => ⟨S32x256x512, .f32⟩
  | 62 => ⟨S1x512, .f32⟩
  | 63 => ⟨S512, .f32⟩
  | 64 => ⟨S1x1x512, .f32⟩
  | 65 => ⟨S32x256x512, .f32⟩
  | 66 => ⟨S32x256x512, .f32⟩
  | 67 => ⟨S32x256x512, .f32⟩
  | 68 => ⟨S32x256x512, .f32⟩
  | 69 => ⟨S1x512, .f32⟩
  | 70 => ⟨S512, .f32⟩
  | 71 => ⟨S1x1x512, .f32⟩
  | 72 => ⟨S32x256x512, .f32⟩
  | 73 => ⟨S32x256x512, .f32⟩
  | 74 => ⟨S32x256x512, .f32⟩
  | 75 => ⟨S32x256x512, .f32⟩
  | 76 => ⟨S1x512, .f32⟩
  | 77 => ⟨S512, .f32⟩
  | 78 => ⟨S1x1x512, .f32⟩
  | 79 => ⟨S32x256x512, .f32⟩
  | 80 => ⟨S32x256x512, .f32⟩
  | 81 => ⟨S32x256x512, .f32⟩
  | 82 => ⟨S32x256x512, .f32⟩
  | 83 => ⟨S1x512, .f32⟩
  | 84 => ⟨S512, .f32⟩
  | 85 => ⟨S1x1x512, .f32⟩
  | 86 => ⟨S32x256x512, .f32⟩
  | 87 => ⟨S32x256x512, .f32⟩
  | 88 => ⟨S32x256x512, .f32⟩
  | 89 => ⟨S32x256x512, .f32⟩
  | 90 => ⟨S1x512, .f32⟩
  | 91 => ⟨S512, .f32⟩
  | 92 => ⟨S1x1x512, .f32⟩
  | 93 => ⟨S32x256x512, .f32⟩
  | 94 => ⟨S32x256x512, .f32⟩
  | 95 => ⟨S32x256x512, .f32⟩
  | 96 => ⟨S32x256x512, .f32⟩
  | 97 => ⟨S1x512, .f32⟩
  | 98 => ⟨S512, .f32⟩
  | 99 => ⟨S1x1x512, .f32⟩
  | 100 => ⟨S32x256x512, .f32⟩
  | 101 => ⟨S32x256x512, .f32⟩
  | 102 => ⟨S32x256x512, .f32⟩
  | 103 => ⟨S32x256x512, .f32⟩
  | 104 => ⟨S1x512, .f32⟩
  | 105 => ⟨S512, .f32⟩
  | 106 => ⟨S1x1x512, .f32⟩
  | 107 => ⟨S32x256x512, .f32⟩
  | 108 => ⟨S32x256x512, .f32⟩
  | 109 => ⟨S32x256x512, .f32⟩
  | 110 => ⟨S32x256x512, .f32⟩
  | 111 => ⟨S1x512, .f32⟩
  | 112 => ⟨S512, .f32⟩
  | 113 => ⟨S1x1x512, .f32⟩
  | 114 => ⟨S32x256x512, .f32⟩
  | 115 => ⟨S32x256x512, .f32⟩
  | 116 => ⟨S32x256x512, .f32⟩
  | 117 => ⟨S1x1x512, .f32⟩
  | 118 => ⟨S32x256x512, .f32⟩
  | 119 => ⟨S32x256x512, .f32⟩
  | 120 => ⟨S_, .f32⟩
  | 121 => ⟨S32x256, .f32⟩
  | 122 => ⟨S32x256x1, .f32⟩
  | 123 => ⟨S_, .f32⟩
  | 124 => ⟨S32x256x1, .f32⟩
  | 125 => ⟨S32x256x1, .f32⟩
  | 126 => ⟨S32x256x512, .f32⟩
  | 127 => ⟨S32x256x512, .f32⟩
  | _ => ⟨S8192x1024, .f32⟩

abbrev hbmTy0_2 (i : Nat) : BufTy := match i % 128 with
  | 0 => ⟨S32x256x512, .f32⟩
  | 1 => ⟨S_, .f32⟩
  | 2 => ⟨S32x256, .f32⟩
  | 3 => ⟨S32x256x1, .f32⟩
  | 4 => ⟨S_, .f32⟩
  | 5 => ⟨S32x256x1, .f32⟩
  | 6 => ⟨S32x256x1, .f32⟩
  | 7 => ⟨S_, .f32⟩
  | 8 => ⟨S32x256x1, .f32⟩
  | 9 => ⟨S32x256x1, .f32⟩
  | 10 => ⟨S32x256x1, .f32⟩
  | 11 => ⟨S32x256x512, .f32⟩
  | 12 => ⟨S32x256x512, .f32⟩
  | 13 => ⟨S1x1x512, .f32⟩
  | 14 => ⟨S32x256x512, .f32⟩
  | 15 => ⟨S32x256x512, .f32⟩
  | 16 => ⟨S1x1x512, .f32⟩
  | 17 => ⟨S32x256x512, .f32⟩
  | 18 => ⟨S32x256x512, .f32⟩
  | 19 => ⟨S32x256x512, .f32⟩
  | 20 => ⟨S32x256x512, .f32⟩
  | 21 => ⟨S_, .f32⟩
  | 22 => ⟨S32x256x512, .f32⟩
  | 23 => ⟨S32x256x512, .f32⟩
  | 24 => ⟨S_, .f32⟩
  | 25 => ⟨S32x256x512, .f32⟩
  | 26 => ⟨S32x256x512, .f32⟩
  | 27 => ⟨S32x256x512, .f32⟩
  | 28 => ⟨S8192x512, .f32⟩
  | 29 => ⟨S32x256x4x2x64, .f32⟩
  | 30 => ⟨S32x256x4x2x64, .f32⟩
  | 31 => ⟨S32x256x4x128, .f32⟩
  | 32 => ⟨S1x64, .f32⟩
  | 33 => ⟨S64, .f32⟩
  | 34 => ⟨S1x64, .f32⟩
  | 35 => ⟨S64, .f32⟩
  | 36 => ⟨S64, .f32⟩
  | 37 => ⟨S_, .f32⟩
  | 38 => ⟨S_, .f32⟩
  | 39 => ⟨S_, .f32⟩
  | 40 => ⟨S1x64, .f32⟩
  | 41 => ⟨S64, .f32⟩
  | 42 => ⟨S1x64, .f32⟩
  | 43 => ⟨S64, .f32⟩
  | 44 => ⟨S64, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S32x4x2x256x256, .f32⟩
  | 52 => ⟨S_, .f32⟩
  | 53 => ⟨S32x4x2x256x256, .f32⟩
  | 54 => ⟨S32x4x2x256x256, .f32⟩
  | 55 => ⟨S_, .f32⟩
  | 56 => ⟨S32x4x2x256, .f32⟩
  | 57 => ⟨S_, .f32⟩
  | 58 => ⟨S32x4x2x256, .f32⟩
  | 59 => ⟨S32x4x2x256, .f32⟩
  | 60 => ⟨S32x4x2x256x1, .f32⟩
  | 61 => ⟨S32x4x2x256x256, .f32⟩
  | 62 => ⟨S32x4x2x256x256, .f32⟩
  | 63 => ⟨S32x4x2x256x256, .f32⟩
  | 64 => ⟨S_, .f32⟩
  | 65 => ⟨S32x4x2x256, .f32⟩
  | 66 => ⟨S32x4x2x256x1, .f32⟩
  | 67 => ⟨S32x4x2x256x256, .f32⟩
  | 68 => ⟨S32x4x2x256x256, .f32⟩
  | 69 => ⟨S32x4x1x256x256, .f32⟩
  | 70 => ⟨S32x4x256x256, .f32⟩
  | 71 => ⟨S32x4x1x256x256, .f32⟩
  | 72 => ⟨S32x4x256x256, .f32⟩
  | 73 => ⟨S32x4x256x256, .f32⟩
  | 74 => ⟨S32x4x256x256, .f32⟩
  | 75 => ⟨S32x4x256x256, .f32⟩
  | 76 => ⟨S32x4x128x256, .f32⟩
  | 77 => ⟨S32x256x4x128, .f32⟩
  | 78 => ⟨S32x256x4x128, .f32⟩
  | 79 => ⟨S_, .f32⟩
  | 80 => ⟨S32x256x4, .f32⟩
  | 81 => ⟨S32x256x4x1, .f32⟩
  | 82 => ⟨S_, .f32⟩
  | 83 => ⟨S32x256x4x1, .f32⟩
  | 84 => ⟨S32x256x4x1, .f32⟩
  | 85 => ⟨S_, .f32⟩
  | 86 => ⟨S32x256x4x1, .f32⟩
  | 87 => ⟨S32x256x4x1, .f32⟩
  | 88 => ⟨S32x256x4x1, .f32⟩
  | 89 => ⟨S32x256x4x128, .f32⟩
  | 90 => ⟨S32x256x4x128, .f32⟩
  | 91 => ⟨S1x1x1x128, .f32⟩
  | 92 => ⟨S32x256x4x128, .f32⟩
  | 93 => ⟨S32x256x4x128, .f32⟩
  | 94 => ⟨S_, .f32⟩
  | 95 => ⟨S32x256x4x128, .f32⟩
  | 96 => ⟨S32x256x4x128, .f32⟩
  | 97 => ⟨S32x256x512, .f32⟩
  | 98 => ⟨S32x256x1024, .f32⟩
  | 99 => ⟨S32x256x1024, .f32⟩
  | 100 => ⟨S1x1x1024, .f32⟩
  | 101 => ⟨S1024, .f32⟩
  | 102 => ⟨S8192x1024, .f32⟩
  | 103 => ⟨S1x1024, .f32⟩
  | 104 => ⟨S1024, .f32⟩
  | 105 => ⟨S8192x1024, .f32⟩
  | 106 => ⟨S_, .f32⟩
  | 107 => ⟨S8192, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192x1, .f32⟩
  | 114 => ⟨S8192x1, .f32⟩
  | 115 => ⟨S8192x1, .f32⟩
  | 116 => ⟨S8192x1024, .f32⟩
  | 117 => ⟨S8192x1024, .f32⟩
  | 118 => ⟨S1x1024, .f32⟩
  | 119 => ⟨S8192x1024, .f32⟩
  | 120 => ⟨S8192x1024, .f32⟩
  | 121 => ⟨S1x1024, .f32⟩
  | 122 => ⟨S8192x1024, .f32⟩
  | 123 => ⟨S8192x1024, .f32⟩
  | 124 => ⟨S8192x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_call0_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_cst_1 : Ref sig .tc := ⟨.hbm, 248, rfl⟩
abbrev main_v230 : Ref sig .tc := ⟨.hbm, 249, rfl⟩
abbrev main_v231 : Ref sig .tc := ⟨.hbm, 250, rfl⟩
abbrev main_cst_2 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_v235 : Ref sig .tc := ⟨.hbm, 255, rfl⟩
abbrev main_v236 : Ref sig .tc := ⟨.hbm, 256, rfl⟩
abbrev main_cst_3 : Ref sig .tc := ⟨.hbm, 257, rfl⟩
abbrev main_v237 : Ref sig .tc := ⟨.hbm, 258, rfl⟩
abbrev main_v238 : Ref sig .tc := ⟨.hbm, 259, rfl⟩
abbrev main_cst_4 : Ref sig .tc := ⟨.hbm, 260, rfl⟩
abbrev main_v239 : Ref sig .tc := ⟨.hbm, 261, rfl⟩
abbrev main_v240 : Ref sig .tc := ⟨.hbm, 262, rfl⟩
abbrev main_cst_5 : Ref sig .tc := ⟨.hbm, 263, rfl⟩
abbrev main_v241 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_v245 : Ref sig .tc := ⟨.hbm, 268, rfl⟩
abbrev main_v246 : Ref sig .tc := ⟨.hbm, 269, rfl⟩
abbrev main_v247 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_call1_v0 : Ref sig .tc := ⟨.hbm, 275, rfl⟩
abbrev main_call1_v1 : Ref sig .tc := ⟨.hbm, 276, rfl⟩
abbrev main_call1_cst : Ref sig .tc := ⟨.hbm, 277, rfl⟩
abbrev main_call1_v2 : Ref sig .tc := ⟨.hbm, 278, rfl⟩
abbrev main_call1_v3 : Ref sig .tc := ⟨.hbm, 279, rfl⟩
abbrev main_call1_cst_0 : Ref sig .tc := ⟨.hbm, 280, rfl⟩
abbrev main_call1_v4 : Ref sig .tc := ⟨.hbm, 281, rfl⟩
abbrev main_call1_v5 : Ref sig .tc := ⟨.hbm, 282, rfl⟩
abbrev main_v252 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_cst_6 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_v267 : Ref sig .tc := ⟨.hbm, 299, rfl⟩
abbrev main_v268 : Ref sig .tc := ⟨.hbm, 300, rfl⟩
abbrev main_cst_7 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_cst_8 : Ref sig .tc := ⟨.hbm, 305, rfl⟩
abbrev main_v272 : Ref sig .tc := ⟨.hbm, 306, rfl⟩
abbrev main_v273 : Ref sig .tc := ⟨.hbm, 307, rfl⟩
abbrev main_cst_9 : Ref sig .tc := ⟨.hbm, 308, rfl⟩
abbrev main_v274 : Ref sig .tc := ⟨.hbm, 309, rfl⟩
abbrev main_v275 : Ref sig .tc := ⟨.hbm, 310, rfl⟩
abbrev main_cst_10 : Ref sig .tc := ⟨.hbm, 311, rfl⟩
abbrev main_v276 : Ref sig .tc := ⟨.hbm, 312, rfl⟩
abbrev main_cst_11 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_v280 : Ref sig .tc := ⟨.hbm, 317, rfl⟩
abbrev main_v281 : Ref sig .tc := ⟨.hbm, 318, rfl⟩
abbrev main_v282 : Ref sig .tc := ⟨.hbm, 319, rfl⟩
abbrev main_cst_12 : Ref sig .tc := ⟨.hbm, 320, rfl⟩
abbrev main_v283 : Ref sig .tc := ⟨.hbm, 321, rfl⟩
abbrev main_v284 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_v291 : Ref sig .tc := ⟨.hbm, 329, rfl⟩
abbrev main_v292 : Ref sig .tc := ⟨.hbm, 330, rfl⟩
abbrev main_v293 : Ref sig .tc := ⟨.hbm, 331, rfl⟩
abbrev main_v294 : Ref sig .tc := ⟨.hbm, 332, rfl⟩
abbrev main_v295 : Ref sig .tc := ⟨.hbm, 333, rfl⟩
abbrev main_v296 : Ref sig .tc := ⟨.hbm, 334, rfl⟩
abbrev main_cst_13 : Ref sig .tc := ⟨.hbm, 335, rfl⟩
abbrev main_v297 : Ref sig .tc := ⟨.hbm, 336, rfl⟩
abbrev main_v298 : Ref sig .tc := ⟨.hbm, 337, rfl⟩
abbrev main_cst_14 : Ref sig .tc := ⟨.hbm, 338, rfl⟩
abbrev main_v299 : Ref sig .tc := ⟨.hbm, 339, rfl⟩
abbrev main_v300 : Ref sig .tc := ⟨.hbm, 340, rfl⟩
abbrev main_cst_15 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_v306 : Ref sig .tc := ⟨.hbm, 347, rfl⟩
abbrev main_v307 : Ref sig .tc := ⟨.hbm, 348, rfl⟩
abbrev main_v308 : Ref sig .tc := ⟨.hbm, 349, rfl⟩
abbrev main_cst_16 : Ref sig .tc := ⟨.hbm, 350, rfl⟩
abbrev main_v309 : Ref sig .tc := ⟨.hbm, 351, rfl⟩
abbrev main_v310 : Ref sig .tc := ⟨.hbm, 352, rfl⟩
abbrev main_v311 : Ref sig .tc := ⟨.hbm, 353, rfl⟩
abbrev main_v312 : Ref sig .tc := ⟨.hbm, 354, rfl⟩
abbrev main_v313 : Ref sig .tc := ⟨.hbm, 355, rfl⟩
abbrev main_v314 : Ref sig .tc := ⟨.hbm, 356, rfl⟩
abbrev main_v315 : Ref sig .tc := ⟨.hbm, 357, rfl⟩
abbrev main_v316 : Ref sig .tc := ⟨.hbm, 358, rfl⟩
abbrev main_v317 : Ref sig .tc := ⟨.hbm, 359, rfl⟩
abbrev main_v318 : Ref sig .tc := ⟨.hbm, 360, rfl⟩
abbrev main_v319 : Ref sig .tc := ⟨.hbm, 361, rfl⟩
abbrev main_cst_17 : Ref sig .tc := ⟨.hbm, 362, rfl⟩
abbrev main_v320 : Ref sig .tc := ⟨.hbm, 363, rfl⟩
abbrev main_v321 : Ref sig .tc := ⟨.hbm, 364, rfl⟩
abbrev main_cst_18 : Ref sig .tc := ⟨.hbm, 365, rfl⟩
abbrev main_v322 : Ref sig .tc := ⟨.hbm, 366, rfl⟩
abbrev main_v323 : Ref sig .tc := ⟨.hbm, 367, rfl⟩
abbrev main_cst_19 : Ref sig .tc := ⟨.hbm, 368, rfl⟩
abbrev main_v324 : Ref sig .tc := ⟨.hbm, 369, rfl⟩
abbrev main_v325 : Ref sig .tc := ⟨.hbm, 370, rfl⟩
abbrev main_v326 : Ref sig .tc := ⟨.hbm, 371, rfl⟩
abbrev main_v327 : Ref sig .tc := ⟨.hbm, 372, rfl⟩
abbrev main_v328 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_v335 : Ref sig .tc := ⟨.hbm, 380, rfl⟩

abbrev nD : Nat := 1
abbrev τ : Topo := Topo.v7x

variable {F : FTy → Type} [FloatOps F]
-- ==== Mod.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Qkv.lean ====
abbrev S8192x1024 : Shape := ⟨2, ![8192, 1024]⟩
abbrev S8x6x1024 : Shape := ⟨3, ![8, 6, 1024]⟩
abbrev S4x1024 : Shape := ⟨2, ![4, 1024]⟩
abbrev S1024x1536 : Shape := ⟨2, ![1024, 1536]⟩
abbrev S8192x256 : Shape := ⟨2, ![8192, 256]⟩
abbrev S512x1024 : Shape := ⟨2, ![512, 1024]⟩
abbrev S1x6x1024 : Shape := ⟨3, ![1, 6, 1024]⟩
abbrev S512x256 : Shape := ⟨2, ![512, 256]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S512x1536 : Shape := ⟨2, ![512, 1536]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S4x1024, .f32⟩
  | .hbm, ⟨3, _⟩ => ⟨S1024x1536, .f32⟩
  | .hbm, ⟨4, _⟩ => ⟨S1024x1536, .bf16⟩
  | .hbm, ⟨5, _⟩ => ⟨S8192x1024, .bf16⟩
  | .hbm, ⟨6, _⟩ => ⟨S8192x256, .f32⟩
  | .hbm, ⟨7, _⟩ => ⟨S8192x256, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S4x1024, .f32⟩
  | .local _ .vmem, ⟨4, _⟩ => ⟨S1024x1536, .bf16⟩
  | .local _ .vmem, ⟨5, _⟩ => ⟨S512x1024, .bf16⟩
  | .local _ .vmem, ⟨6, _⟩ => ⟨S512x1024, .bf16⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QkvRefIdeal.lean ====
abbrev S8192x1024 : Shape := ⟨2, ![8192, 1024]⟩
abbrev S8x6x1024 : Shape := ⟨3, ![8, 6, 1024]⟩
abbrev S4x1024 : Shape := ⟨2, ![4, 1024]⟩
abbrev S1024x1536 : Shape := ⟨2, ![1024, 1536]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1x1024 : Shape := ⟨3, ![1, 1, 1024]⟩
abbrev S8192x1536 : Shape := ⟨2, ![8192, 1536]⟩
abbrev S8192x256 : Shape := ⟨2, ![8192, 256]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S4x1024, .f32⟩
  | .hbm, ⟨3, _⟩ => ⟨S1024x1536, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1x1x1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1x1024, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1536, .f32⟩
  | .hbm, ⟨36, _⟩ => ⟨S8192x1024, .f32⟩
  | .hbm, ⟨37, _⟩ => ⟨S8192x1024, .bf16⟩
  | .hbm, ⟨38, _⟩ => ⟨S8192x256, .f32⟩
  | .hbm, ⟨39, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Win.lean ====
abbrev S2048x1024 : Shape := ⟨2, ![2048, 1024]⟩
abbrev S2048x256 : Shape := ⟨2, ![2048, 256]⟩
abbrev S2x256x256 : Shape := ⟨3, ![2, 256, 256]⟩
abbrev S8x6x1024 : Shape := ⟨3, ![8, 6, 1024]⟩
abbrev S4x1024 : Shape := ⟨2, ![4, 1024]⟩
abbrev S16 : Shape := ⟨1, ![16]⟩
abbrev S1024x1024 : Shape := ⟨2, ![1024, 1024]⟩
abbrev S256x1024 : Shape := ⟨2, ![256, 1024]⟩
abbrev S1024x256 : Shape := ⟨2, ![1024, 256]⟩
abbrev S1x256x256 : Shape := ⟨3, ![1, 256, 256]⟩
abbrev S1x6x1024 : Shape := ⟨3, ![1, 6, 1024]⟩
abbrev S1536x256 : Shape := ⟨2, ![1536, 256]⟩
abbrev S128x256 : Shape := ⟨2, ![128, 256]⟩
abbrev S256x256 : Shape := ⟨2, ![256, 256]⟩
abbrev S256x128 : Shape := ⟨2, ![256, 128]⟩
abbrev S256x512 : Shape := ⟨2, ![256, 512]⟩
abbrev S1 : Shape := ⟨1, ![1]⟩
abbrev S512x128 : Shape := ⟨2, ![512, 128]⟩
abbrev S256 : Shape := ⟨1, ![256]⟩
abbrev S256x1 : Shape := ⟨2, ![256, 1]⟩
abbrev S1x1x1024 : Shape := ⟨3, ![1, 1, 1024]⟩
abbrev S1x1024 : Shape := ⟨2, ![1, 1024]⟩

abbrev nBuf : Space → Nat
  | .hbm => 12
  | .vmem => 20
  | .smem => 1
  | _ => 0

abbrev bufTy : (tb : Table) → Fin (tcTables nBuf tb) → BufTy
  | .hbm, ⟨0, _⟩ => ⟨S2048x1024, .bf16⟩
  | .hbm, ⟨1, _⟩ => ⟨S2048x256, .f32⟩
  | .hbm, ⟨2, _⟩ => ⟨S2048x256, .f32⟩
  | .hbm, ⟨3, _⟩ => ⟨S2x256x256, .f32⟩
  | .hbm, ⟨4, _⟩ => ⟨S2x256x256, .f32⟩
  | .hbm, ⟨5, _⟩ => ⟨S2048x1024, .f32⟩
  | .hbm, ⟨6, _⟩ => ⟨S8x6x1024, .f32⟩
  | .hbm, ⟨7, _⟩ => ⟨S4x1024, .f32⟩
  | .hbm, ⟨8, _⟩ => ⟨S16, .f32⟩
  | .hbm, ⟨9, _⟩ => ⟨S1024x1024, .f32⟩
  | .hbm, ⟨10, _⟩ => ⟨S1024x1024, .bf16⟩
  | .hbm, ⟨11, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S256x1024, .f32⟩
  | .local _ .vmem, ⟨11, _⟩ => ⟨S256x1024, .f32⟩
  | .local _ .vmem, ⟨12, _⟩ => ⟨S1x6x1024, .f32⟩
  | .local _ .vmem, ⟨13, _⟩ => ⟨S1x6x1024, .f32⟩
  | .local _ .vmem, ⟨14, _⟩ => ⟨S4x1024, .f32⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S1536x256, .bf16⟩
  | .local _ .vmem, ⟨19, _⟩ => ⟨S1536x256, .bf16⟩
  | .local _ .smem, ⟨0, _⟩ => ⟨S16, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c256_i32 : BitVec 32 := 256#32
  let v4 : BitVec 32 := Scalar.muli arg1 c256_i32
  v4
def k0_off1 (i : grid0.Coords) : Fin 2 → Nat :=
  let arg1 : BitVec 32 := BitVec.ofNat 32 (i 1).val
  let c256_i32 : BitVec 32 := 256#32
  let v4 : BitVec 32 := Scalar.muli arg1 c256_i32
  let v5 : BitVec 32 := v4
  let v31 : Index := Scalar.indexCast v5
  let c0_6 : Index := 0#32
  ![v31.toNat, 0]
def k0_off2 (i : grid0.Coords) : Fin 2 → Nat :=
  let arg1 : BitVec 32 := BitVec.ofNat 32 (i 1).val
  let c256_i32 : BitVec 32 := 256#32
  let v4 : BitVec 32 := Scalar.muli arg1 c256_i32
  let v5 : BitVec 32 := v4
  let v451 : Index := Scalar.indexCast v5
  let c128_169 : Index := 128#32
  ![v451.toNat, 128]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== WinIdeal.lean ====
variable {F : FTy → Type} [FloatOps F] [Named F]
def κ : String → Option EReal := fun
  | "mask" => some ⊥
  | _ => none
-- ==== WinRefIdeal.lean ====
abbrev S2048x1024 : Shape := ⟨2, ![2048, 1024]⟩
abbrev S2048x256 : Shape := ⟨2, ![2048, 256]⟩
abbrev S2x256x256 : Shape := ⟨3, ![2, 256, 256]⟩
abbrev S8x6x1024 : Shape := ⟨3, ![8, 6, 1024]⟩
abbrev S4x1024 : Shape := ⟨2, ![4, 1024]⟩
abbrev S16 : Shape := ⟨1, ![16]⟩
abbrev S1024x1024 : Shape := ⟨2, ![1024, 1024]⟩
abbrev S2x1024x4x4x64 : Shape := ⟨5, ![2, 1024, 4, 4, 64]⟩
abbrev S2x1024x4x64 : Shape := ⟨4, ![2, 1024, 4, 64]⟩
abbrev S2x256x4x64 : Shape := ⟨4, ![2, 256, 4, 64]⟩
abbrev S2x1280x4x64 : Shape := ⟨4, ![2, 1280, 4, 64]⟩
abbrev S2x4x1280x1024x4 : Shape := ⟨5, ![2, 4, 1280, 1024, 4]⟩
abbrev S2x4x4x1024x1280 : Shape := ⟨5, ![2, 4, 4, 1024, 1280]⟩
abbrev S_ : Shape := ⟨0, ![]⟩
abbrev S1024x1280 : Shape := ⟨2, ![1024, 1280]⟩
abbrev S4x4 : Shape := ⟨2, ![4, 4]⟩
abbrev S1x4x4x1x1 : Shape := ⟨5, ![1, 4, 4, 1, 1]⟩
abbrev S2x4x4x1024x1 : Shape := ⟨5, ![2, 4, 4, 1024, 1]⟩
abbrev S2x4x4x1024x1281 : Shape := ⟨5, ![2, 4, 4, 1024, 1281]⟩
abbrev S2x4x4x1024 : Shape := ⟨4, ![2, 4, 4, 1024]⟩
abbrev S2x4x64x4x1024 : Shape := ⟨5, ![2, 4, 64, 4, 1024]⟩
abbrev S2x1024x1024 : Shape := ⟨3, ![2, 1024, 1024]⟩
abbrev S2x1x1024 : Shape := ⟨3, ![2, 1, 1024]⟩
abbrev S2x1024 : Shape := ⟨2, ![2, 1024]⟩
abbrev S1x1024 : Shape := ⟨2, ![1, 1024]⟩
abbrev S1024 : Shape := ⟨1, ![1024]⟩
abbrev S2x1024x1 : Shape := ⟨3, ![2, 1024, 1]⟩
abbrev S1x1x1024 : Shape := ⟨3, ![1, 1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x256, .f32⟩
  | .hbm, ⟨2, _⟩ => ⟨S2048x256, .f32⟩
  | .hbm, ⟨3, _⟩ => ⟨S2x256x256, .f32⟩
  | .hbm, ⟨4, _⟩ => ⟨S2x256x256, .f32⟩
  | .hbm, ⟨5, _⟩ => ⟨S2048x1024, .f32⟩
  | .hbm, ⟨6, _⟩ => ⟨S8x6x1024, .f32⟩
  | .hbm, ⟨7, _⟩ => ⟨S4x1024, .f32⟩
  | .hbm, ⟨8, _⟩ => ⟨S16, .f32⟩
  | .hbm, ⟨9, _⟩ => ⟨S1024x1024, .f32⟩
  | .hbm, ⟨10, _⟩ => ⟨S2048x1024, .f32⟩
  | .hbm, ⟨11, _⟩ => ⟨S2x1024x4x4x64, .f32⟩
  | .hbm, ⟨12, _⟩ => ⟨S2x1024x4x64, .f32⟩
  | .hbm, ⟨13, _⟩ => ⟨S2x1024x4x64, .f32⟩
  | .hbm, ⟨14, _⟩ => ⟨S2x256x4x64, .f32⟩
  | .hbm, ⟨15, _⟩ => ⟨S2x256x4x64, .f32⟩
  | .hbm, ⟨16, _⟩ => ⟨S2x1280x4x64, .f32⟩
  | .hbm, ⟨17, _⟩ => ⟨S2x1280x4x64, .f32⟩
  | .hbm, ⟨18, _⟩ => ⟨S2x4x1280x1024x4, .f32⟩
  | .hbm, ⟨19, _⟩ => ⟨S2x4x4x1024x1280, .f32⟩
  | .hbm, ⟨20, _⟩ => ⟨S_, .f32⟩
  | .hbm, ⟨21, _⟩ => ⟨S2x4x4x1024x1280, .f32⟩
  | .hbm, ⟨22, _⟩ => ⟨S2x4x4x1024x1280, .f32⟩
  | .hbm, ⟨23, _⟩ => ⟨S1024x1280, .i32⟩
  | .hbm, ⟨24, _⟩ => ⟨S1024x1280, .i32⟩
  | .hbm, ⟨25, _⟩ => ⟨S1024x1280, .i32⟩
  | .hbm, ⟨26, _⟩ => ⟨S1024x1280, .i32⟩
  | .hbm, ⟨27, _⟩ => ⟨S_, .i32⟩
  | .hbm, ⟨28, _⟩ => ⟨S1024x1280, .i32⟩
  | .hbm, ⟨29, _⟩ => ⟨S1024x1280, .i1⟩
  | .hbm, ⟨30, _⟩ => ⟨S_, .i32⟩
  | .hbm, ⟨31, _⟩ => ⟨S1024x1280, .i32⟩
  | .hbm, ⟨32, _⟩ => ⟨S1024x1280, .i1⟩
  | .hbm, ⟨33, _⟩ => ⟨S1024x1280, .i1⟩
  | .hbm, ⟨34, _⟩ => ⟨S_, .f32⟩
  | .hbm, ⟨35, _⟩ => ⟨S_, .f32⟩
  | .hbm, ⟨36, _⟩ => ⟨S2x4x4x1024x1280, .i1⟩
  | .hbm, ⟨37, _⟩ => ⟨S2x4x4x1024x1280, .f32⟩
  | .hbm, ⟨38, _⟩ => ⟨S2x4x4x1024x1280, .f32⟩
  | .hbm, ⟨39, _⟩ => ⟨S4x4, .f32⟩
  | .hbm, ⟨40, _⟩ => ⟨S1x4x4x1x1, .f32⟩
  | .hbm, ⟨41, _⟩ => ⟨S2x4x4x1024x1, .f32⟩
  | .hbm, ⟨42, _⟩ => ⟨S2x4x4x1024x1281, .f32⟩
  | .hbm, ⟨43, _⟩ => ⟨S_, .f32⟩
  | .hbm, ⟨44, _⟩ => ⟨S2x4x4x1024, .f32⟩
  | .hbm, ⟨45, _⟩ => ⟨S_, .f32⟩
  | .hbm, ⟨46, _⟩ => ⟨S2x4x4x1024, .f32⟩
  | .hbm, ⟨47, _⟩ => ⟨S2x4x4x1024, .f32⟩
  | .hbm, ⟨48, _⟩ => ⟨S2x4x4x1024x1, .f32⟩
  | .hbm, ⟨49, _⟩ => ⟨S2x4x4x1024x1281, .f32⟩
  | .hbm, ⟨50, _⟩ => ⟨S2x4x4x1024x1281, .f32⟩
  | .hbm, ⟨51, _⟩ => ⟨S2x4x4x1024x1281, .f32⟩
  | .hbm, ⟨52, _⟩ => ⟨S_, .f32⟩
  | .hbm, ⟨53, _⟩ => ⟨S2x4x4x1024, .f32⟩
  | .hbm, ⟨54, _⟩ => ⟨S2x4x4x1024x1, .f32⟩
  | .hbm, ⟨55, _⟩ => ⟨S2x4x4x1024x1281, .f32⟩
  | .hbm, ⟨56, _⟩ => ⟨S2x4x4x1024x1281, .f32⟩
  | .hbm, ⟨57, _⟩ => ⟨S2x4x4x1024x1280, .f32⟩
  | .hbm, ⟨58, _⟩ => ⟨S2x4x64x4x1024, .f32⟩
  | .hbm, ⟨59, _⟩ => ⟨S2x1024x4x4x64, .f32⟩
  | .hbm, ⟨60, _⟩ => ⟨S2x1024x1024, .f32⟩
  | .hbm, ⟨61, _⟩ => ⟨S2x1024x1024, .f32⟩
  | .hbm, ⟨62, _⟩ => ⟨S2x1024x1024, .f32⟩
  | .hbm, ⟨63, _⟩ => ⟨S2x1x1024, .f32⟩
  | .hbm, ⟨64, _⟩ => ⟨S2x1024, .f32⟩
  | .hbm, ⟨65, _⟩ => ⟨S2x1x1024, .f32⟩
  | .hbm, ⟨66, _⟩ => ⟨S1x1024, .f32⟩
  | .hbm, ⟨67, _⟩ => ⟨S1024, .f32⟩
  | .hbm, ⟨68, _⟩ => ⟨S2x1024x1024, .f32⟩
  | .hbm, ⟨69, _⟩ => ⟨S_, .f32⟩
  | .hbm, ⟨70, _⟩ => ⟨S2x1024, .f32⟩
  | .hbm, ⟨71, _⟩ => ⟨S2x1024x1, .f32⟩
  | .hbm, ⟨72, _⟩ => ⟨S_, .f32⟩
  | .hbm, ⟨73, _⟩ => ⟨S2x1024x1, .f32⟩
  | .hbm, ⟨74, _⟩ => ⟨S2x1024x1, .f32⟩
  | .hbm, ⟨75, _⟩ => ⟨S_, .f32⟩
  | .hbm, ⟨76, _⟩ => ⟨S2x1024x1, .f32⟩
  | .hbm, ⟨77, _⟩ => ⟨S2x1024x1, .f32⟩
  | .hbm, ⟨78, _⟩ => ⟨S2x1024x1, .f32⟩
  | .hbm, ⟨79, _⟩ => ⟨S2x1024x1024, .f32⟩
  | .hbm, ⟨80, _⟩ => ⟨S2x1024x1024, .f32⟩
  | .hbm, ⟨81, _⟩ => ⟨S1x1x1024, .f32⟩
  | .hbm, ⟨82, _⟩ => ⟨S2x1024x1024, .f32⟩
  | .hbm, ⟨83, _⟩ => ⟨S2x1024x1024, .f32⟩
  | .hbm, ⟨84, _⟩ => ⟨S2x1024x1024, .f32⟩
  | .hbm, ⟨85, _⟩ => ⟨S2x1024x1024, .f32⟩
  | .hbm, ⟨86, _⟩ => ⟨S2x1024x1024, .f32⟩
  | .hbm, ⟨87, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]

def κ : String → Option EReal := fun
  | "mask" => some ⊥
  | _ => none
-- ==== Ffs.lean ====
abbrev S2048x1024 : Shape := ⟨2, ![2048, 1024]⟩
abbrev S8x6x1024 : Shape := ⟨3, ![8, 6, 1024]⟩
abbrev S4x1024 : Shape := ⟨2, ![4, 1024]⟩
abbrev S1024x5632 : Shape := ⟨2, ![1024, 5632]⟩
abbrev S2816x1024 : Shape := ⟨2, ![2816, 1024]⟩
abbrev S512x1024 : Shape := ⟨2, ![512, 1024]⟩
abbrev S1x6x1024 : Shape := ⟨3, ![1, 6, 1024]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1024x768 : Shape := ⟨2, ![1024, 768]⟩
abbrev S512x768 : Shape := ⟨2, ![512, 768]⟩
abbrev S768x1024 : Shape := ⟨2, ![768, 1024]⟩
abbrev S1024x512 : Shape := ⟨2, ![1024, 512]⟩
abbrev S512x512 : Shape := ⟨2, ![512, 512]⟩

abbrev nBuf : Space → Nat
  | .hbm => 8
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S8x6x1024, .f32⟩
  | .hbm, ⟨2, _⟩ => ⟨S4x1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S2816x1024, .bf16⟩
  | .hbm, ⟨7, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x5632, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfsRefIdeal.lean ====
abbrev S2048x1024 : Shape := ⟨2, ![2048, 1024]⟩
abbrev S8x6x1024 : Shape := ⟨3, ![8, 6, 1024]⟩
abbrev S4x1024 : Shape := ⟨2, ![4, 1024]⟩
abbrev S1024x5632 : Shape := ⟨2, ![1024, 5632]⟩
abbrev S2816x1024 : Shape := ⟨2, ![2816, 1024]⟩
abbrev S2x1024x1024 : Shape := ⟨3, ![2, 1024, 1024]⟩
abbrev S2x6x1024 : Shape := ⟨3, ![2, 6, 1024]⟩
abbrev S2x6x1x1024 : Shape := ⟨4, ![2, 6, 1, 1024]⟩
abbrev S1x1024 : Shape := ⟨2, ![1, 1024]⟩
abbrev S1024 : Shape := ⟨1, ![1024]⟩
abbrev S_ : Shape := ⟨0, ![]⟩
abbrev S2x1024 : Shape := ⟨2, ![2, 1024]⟩
abbrev S2x1024x1 : Shape := ⟨3, ![2, 1024, 1]⟩
abbrev S1x1x1024 : Shape := ⟨3, ![1, 1, 1024]⟩
abbrev S2x1x1x1024 : Shape := ⟨4, ![2, 1, 1, 1024]⟩
abbrev S2x1x1024 : Shape := ⟨3, ![2, 1, 1024]⟩
abbrev S2x1024x5632 : Shape := ⟨3, ![2, 1024, 5632]⟩
abbrev S2x1024x2816 : Shape := ⟨3, ![2, 1024, 2816]⟩

abbrev nBuf : Space → Nat
  | .hbm => 75
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x6x1024, .f32⟩
  | .hbm, ⟨2, _⟩ => ⟨S4x1024, .f32⟩
  | .hbm, ⟨3, _⟩ => ⟨S1024x5632, .f32⟩
  | .hbm, ⟨4, _⟩ => ⟨S2816x1024, .f32⟩
  | .hbm, ⟨5, _⟩ => ⟨S2x1024x1024, .f32⟩
  | .hbm, ⟨6, _⟩ => ⟨S2x6x1024, .f32⟩
  | .hbm, ⟨7, _⟩ => ⟨S2x6x1x1024, .f32⟩
  | .hbm, ⟨8, _⟩ => ⟨S1x1024, .f32⟩
  | .hbm, ⟨9, _⟩ => ⟨S1024, .f32⟩
  | .hbm, ⟨10, _⟩ => ⟨S2x1024x1024, .f32⟩
  | .hbm, ⟨11, _⟩ => ⟨S_, .f32⟩
  | .hbm, ⟨12, _⟩ => ⟨S2x1024, .f32⟩
  | .hbm, ⟨13, _⟩ => ⟨S2x1024x1, .f32⟩
  | .hbm, ⟨14, _⟩ => ⟨S_, .f32⟩
  | .hbm, ⟨15, _⟩ => ⟨S2x1024x1, .f32⟩
  | .hbm, ⟨16, _⟩ => ⟨S2x1024x1, .f32⟩
  | .hbm, ⟨17, _⟩ => ⟨S_, .f32⟩
  | .hbm, ⟨18, _⟩ => ⟨S2x1024x1, .f32⟩
  | .hbm, ⟨19, _⟩ => ⟨S2x1024x1, .f32⟩
  | .hbm, ⟨20, _⟩ => ⟨S2x1024x1, .f32⟩
  | .hbm, ⟨21, _⟩ => ⟨S2x1024x1024, .f32⟩
  | .hbm, ⟨22, _⟩ => ⟨S2x1024x1024, .f32⟩
  | .hbm, ⟨23, _⟩ => ⟨S1x1x1024, .f32⟩
  | .hbm, ⟨24, _⟩ => ⟨S2x1024x1024, .f32⟩
  | .hbm, ⟨25, _⟩ => ⟨S2x1024x1024, .f32⟩
  | .hbm, ⟨26, _⟩ => ⟨S2x1x1x1024, .f32⟩
  | .hbm, ⟨27, _⟩ => ⟨S2x1x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x1024x1024, .f32⟩
  | .hbm, ⟨32, _⟩ => ⟨S2x1024x1024, .f32⟩
  | .hbm, ⟨33, _⟩ => ⟨S2x1x1x1024, .f32⟩
  | .hbm, ⟨34, _⟩ => ⟨S2x1x1024, .f32⟩
  | .hbm, ⟨35, _⟩ => ⟨S2x1024x1024, .f32⟩
  | .hbm, ⟨36, _⟩ => ⟨S2x1024x1024, .f32⟩
  | .hbm, ⟨37, _⟩ => ⟨S2x1024x5632, .f32⟩
  | .hbm, ⟨38, _⟩ => ⟨S2x1024x2816, .f32⟩
  | .hbm, ⟨39, _⟩ => ⟨S2x1024x2816, .f32⟩
  | .hbm, ⟨40, _⟩ => ⟨S2x1024x2816, .f32⟩
  | .hbm, ⟨41, _⟩ => ⟨S2x1024x2816, .f32⟩
  | .hbm, ⟨42, _⟩ => ⟨S_, .f32⟩
  | .hbm, ⟨43, _⟩ => ⟨S2x1024x2816, .f32⟩
  | .hbm, ⟨44, _⟩ => ⟨S2x1024x2816, .f32⟩
  | .hbm, ⟨45, _⟩ => ⟨S_, .f32⟩
  | .hbm, ⟨46, _⟩ => ⟨S2x1024x2816, .f32⟩
  | .hbm, ⟨47, _⟩ => ⟨S2x1024x2816, .f32⟩
  | .hbm, ⟨48, _⟩ => ⟨S2x1024x2816, .f32⟩
  | .hbm, ⟨49, _⟩ => ⟨S2x1024x2816, .f32⟩
  | .hbm, ⟨50, _⟩ => ⟨S2x1024x1024, .f32⟩
  | .hbm, ⟨51, _⟩ => ⟨S2x1x1x1024, .f32⟩
  | .hbm, ⟨52, _⟩ => ⟨S2x1x1024, .f32⟩
  | .hbm, ⟨53, _⟩ => ⟨S1x1024, .f32⟩
  | .hbm, ⟨54, _⟩ => ⟨S1024, .f32⟩
  | .hbm, ⟨55, _⟩ => ⟨S2x1024x1024, .f32⟩
  | .hbm, ⟨56, _⟩ => ⟨S_, .f32⟩
  | .hbm, ⟨57, _⟩ => ⟨S2x1024, .f32⟩
  | .hbm, ⟨58, _⟩ => ⟨S2x1024x1, .f32⟩
  | .hbm, ⟨59, _⟩ => ⟨S_, .f32⟩
  | .hbm, ⟨60, _⟩ => ⟨S2x1024x1, .f32⟩
  | .hbm, ⟨61, _⟩ => ⟨S2x1024x1, .f32⟩
  | .hbm, ⟨62, _⟩ => ⟨S_, .f32⟩
  | .hbm, ⟨63, _⟩ => ⟨S2x1024x1, .f32⟩
  | .hbm, ⟨64, _⟩ => ⟨S2x1024x1, .f32⟩
  | .hbm, ⟨65, _⟩ => ⟨S2x1024x1, .f32⟩
  | .hbm, ⟨66, _⟩ => ⟨S2x1024x1024, .f32⟩
  | .hbm, ⟨67, _⟩ => ⟨S2x1024x1024, .f32⟩
  | .hbm, ⟨68, _⟩ => ⟨S1x1x1024, .f32⟩
  | .hbm, ⟨69, _⟩ => ⟨S2x1024x1024, .f32⟩
  | .hbm, ⟨70, _⟩ => ⟨S2x1024x1024, .f32⟩
  | .hbm, ⟨71, _⟩ => ⟨S2x1024x1024, .f32⟩
  | .hbm, ⟨72, _⟩ => ⟨S2x1024x1024, .f32⟩
  | .hbm, ⟨73, _⟩ => ⟨S2x1024x1024, .f32⟩
  | .hbm, ⟨74, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Prs.lean ====
abbrev S2048x1024 : Shape := ⟨2, ![2048, 1024]⟩
abbrev S8x6x1024 : Shape := ⟨3, ![8, 6, 1024]⟩
abbrev S4x1024 : Shape := ⟨2, ![4, 1024]⟩
abbrev S1024x2560 : Shape := ⟨2, ![1024, 2560]⟩
abbrev S1024x16 : Shape := ⟨2, ![1024, 16]⟩
abbrev S1024x64 : Shape := ⟨2, ![1024, 64]⟩
abbrev S1024x128 : Shape := ⟨2, ![1024, 128]⟩
abbrev S2048x512 : Shape := ⟨2, ![2048, 512]⟩
abbrev S512x1024 : Shape := ⟨2, ![512, 1024]⟩
abbrev S1x6x1024 : Shape := ⟨3, ![1, 6, 1024]⟩
abbrev S512x128 : Shape := ⟨2, ![512, 128]⟩
abbrev S512x512 : Shape := ⟨2, ![512, 512]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S512x2560 : Shape := ⟨2, ![512, 2560]⟩

abbrev nBuf : Space → Nat
  | .hbm => 19
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S8x6x1024, .f32⟩
  | .hbm, ⟨2, _⟩ => ⟨S4x1024, .f32⟩
  | .hbm, ⟨3, _⟩ => ⟨S1024x2560, .f32⟩
  | .hbm, ⟨4, _⟩ => ⟨S1024x16, .f32⟩
  | .hbm, ⟨5, _⟩ => ⟨S1024x16, .f32⟩
  | .hbm, ⟨6, _⟩ => ⟨S1024x16, .f32⟩
  | .hbm, ⟨7, _⟩ => ⟨S1024x16, .f32⟩
  | .hbm, ⟨8, _⟩ => ⟨S1024x2560, .bf16⟩
  | .hbm, ⟨9, _⟩ => ⟨S1024x64, .f32⟩
  | .hbm, ⟨10, _⟩ => ⟨S1024x16, .f32⟩
  | .hbm, ⟨11, _⟩ => ⟨S1024x16, .f32⟩
  | .hbm, ⟨12, _⟩ => ⟨S1024x64, .f32⟩
  | .hbm, ⟨13, _⟩ => ⟨S1024x128, .f32⟩
  | .hbm, ⟨14, _⟩ => ⟨S1024x128, .f32⟩
  | .hbm, ⟨15, _⟩ => ⟨S2048x1024, .f32⟩
  | .hbm, ⟨16, _⟩ => ⟨S2048x512, .bf16⟩
  | .hbm, ⟨17, _⟩ => ⟨S2048x512, .f32⟩
  | .hbm, ⟨18, _⟩ => ⟨S2048x512, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x2560, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .f32⟩
  | .local _ .vmem, ⟨11, _⟩ => ⟨S512x1024, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PrsRefIdeal.lean ====
abbrev S2048x1024 : Shape := ⟨2, ![2048, 1024]⟩
abbrev S8x6x1024 : Shape := ⟨3, ![8, 6, 1024]⟩
abbrev S4x1024 : Shape := ⟨2, ![4, 1024]⟩
abbrev S1024x2560 : Shape := ⟨2, ![1024, 2560]⟩
abbrev S1024x16 : Shape := ⟨2, ![1024, 16]⟩
abbrev S2x6x1024 : Shape := ⟨3, ![2, 6, 1024]⟩
abbrev S2x6x1x1024 : Shape := ⟨4, ![2, 6, 1, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S2x1024 : Shape := ⟨2, ![2, 1024]⟩
abbrev S2x1024x1 : Shape := ⟨3, ![2, 1024, 1]⟩
abbrev S1x1x1024 : Shape := ⟨3, ![1, 1, 1024]⟩
abbrev S2x1x1x1024 : Shape := ⟨4, ![2, 1, 1, 1024]⟩
abbrev S2x1x1024 : Shape := ⟨3, ![2, 1, 1024]⟩
abbrev S2x1024x2560 : Shape := ⟨3, ![2, 1024, 2560]⟩
abbrev S2x1024x512 : Shape := ⟨3, ![2, 1024, 512]⟩
abbrev S2x1024x8x64 : Shape := ⟨4, ![2, 1024, 8, 64]⟩
abbrev S2x1024x8x32 : Shape := ⟨4, ![2, 1024, 8, 32]⟩
abbrev S1x1024x1x16 : Shape := ⟨4, ![1, 1024, 1, 16]⟩
abbrev S2x1024x8x16 : Shape := ⟨4, ![2, 1024, 8, 16]⟩
abbrev S2048x512 : Shape := ⟨2, ![2048, 512]⟩

abbrev nBuf : Space → Nat
  | .hbm => 118
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x6x1024, .f32⟩
  | .hbm, ⟨2, _⟩ => ⟨S4x1024, .f32⟩
  | .hbm, ⟨3, _⟩ => ⟨S1024x2560, .f32⟩
  | .hbm, ⟨4, _⟩ => ⟨S1024x16, .f32⟩
  | .hbm, ⟨5, _⟩ => ⟨S1024x16, .f32⟩
  | .hbm, ⟨6, _⟩ => ⟨S1024x16, .f32⟩
  | .hbm, ⟨7, _⟩ => ⟨S1024x16, .f32⟩
  | .hbm, ⟨8, _⟩ => ⟨S2x6x1024, .f32⟩
  | .hbm, ⟨9, _⟩ => ⟨S2x6x1x1024, .f32⟩
  | .hbm, ⟨10, _⟩ => ⟨S2x1024x1024, .f32⟩
  | .hbm, ⟨11, _⟩ => ⟨S1x1024, .f32⟩
  | .hbm, ⟨12, _⟩ => ⟨S1024, .f32⟩
  | .hbm, ⟨13, _⟩ => ⟨S2x1024x1024, .f32⟩
  | .hbm, ⟨14, _⟩ => ⟨S_, .f32⟩
  | .hbm, ⟨15, _⟩ => ⟨S2x1024, .f32⟩
  | .hbm, ⟨16, _⟩ => ⟨S2x1024x1, .f32⟩
  | .hbm, ⟨17, _⟩ => ⟨S_, .f32⟩
  | .hbm, ⟨18, _⟩ => ⟨S2x1024x1, .f32⟩
  | .hbm, ⟨19, _⟩ => ⟨S2x1024x1, .f32⟩
  | .hbm, ⟨20, _⟩ => ⟨S_, .f32⟩
  | .hbm, ⟨21, _⟩ => ⟨S2x1024x1, .f32⟩
  | .hbm, ⟨22, _⟩ => ⟨S2x1024x1, .f32⟩
  | .hbm, ⟨23, _⟩ => ⟨S2x1024x1, .f32⟩
  | .hbm, ⟨24, _⟩ => ⟨S2x1024x1024, .f32⟩
  | .hbm, ⟨25, _⟩ => ⟨S2x1024x1024, .f32⟩
  | .hbm, ⟨26, _⟩ => ⟨S1x1x1024, .f32⟩
  | .hbm, ⟨27, _⟩ => ⟨S2x1024x1024, .f32⟩
  | .hbm, ⟨28, _⟩ => ⟨S2x1024x1024, .f32⟩
  | .hbm, ⟨29, _⟩ => ⟨S2x1x1x1024, .f32⟩
  | .hbm, ⟨30, _⟩ => ⟨S2x1x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x1024x1024, .f32⟩
  | .hbm, ⟨35, _⟩ => ⟨S2x1024x1024, .f32⟩
  | .hbm, ⟨36, _⟩ => ⟨S2x1x1x1024, .f32⟩
  | .hbm, ⟨37, _⟩ => ⟨S2x1x1024, .f32⟩
  | .hbm, ⟨38, _⟩ => ⟨S2x1024x1024, .f32⟩
  | .hbm, ⟨39, _⟩ => ⟨S2x1024x1024, .f32⟩
  | .hbm, ⟨40, _⟩ => ⟨S2x1024x2560, .f32⟩
  | .hbm, ⟨41, _⟩ => ⟨S2x1024x1024, .f32⟩
  | .hbm, ⟨42, _⟩ => ⟨S2x1024x512, .f32⟩
  | .hbm, ⟨43, _⟩ => ⟨S2x1024x8x64, .f32⟩
  | .hbm, ⟨44, _⟩ => ⟨S2x1024x8x32, .f32⟩
  | .hbm, ⟨45, _⟩ => ⟨S1x1024x1x16, .f32⟩
  | .hbm, ⟨46, _⟩ => ⟨S1x1024x1x16, .f32⟩
  | .hbm, ⟨47, _⟩ => ⟨S2x1024x8x16, .f32⟩
  | .hbm, ⟨48, _⟩ => ⟨S2x1024x8x16, .f32⟩
  | .hbm, ⟨49, _⟩ => ⟨S2x1024x8x16, .f32⟩
  | .hbm, ⟨50, _⟩ => ⟨S2x1024x8x16, .f32⟩
  | .hbm, ⟨51, _⟩ => ⟨S2x1024x8x16, .f32⟩
  | .hbm, ⟨52, _⟩ => ⟨S2x1024x8x16, .f32⟩
  | .hbm, ⟨53, _⟩ => ⟨S2x1024x8x16, .f32⟩
  | .hbm, ⟨54, _⟩ => ⟨S2x1024x8x16, .f32⟩
  | .hbm, ⟨55, _⟩ => ⟨S2x1024x8x16, .f32⟩
  | .hbm, ⟨56, _⟩ => ⟨S2x1024x8x16, .f32⟩
  | .hbm, ⟨57, _⟩ => ⟨S2x1024x8x16, .f32⟩
  | .hbm, ⟨58, _⟩ => ⟨S2x1024x8x16, .f32⟩
  | .hbm, ⟨59, _⟩ => ⟨S2x1024x8x32, .f32⟩
  | .hbm, ⟨60, _⟩ => ⟨S2x1024x8x32, .f32⟩
  | .hbm, ⟨61, _⟩ => ⟨S1x1024x1x16, .f32⟩
  | .hbm, ⟨62, _⟩ => ⟨S1x1024x1x16, .f32⟩
  | .hbm, ⟨63, _⟩ => ⟨S2x1024x8x16, .f32⟩
  | .hbm, ⟨64, _⟩ => ⟨S2x1024x8x16, .f32⟩
  | .hbm, ⟨65, _⟩ => ⟨S2x1024x8x16, .f32⟩
  | .hbm, ⟨66, _⟩ => ⟨S2x1024x8x16, .f32⟩
  | .hbm, ⟨67, _⟩ => ⟨S2x1024x8x16, .f32⟩
  | .hbm, ⟨68, _⟩ => ⟨S2x1024x8x16, .f32⟩
  | .hbm, ⟨69, _⟩ => ⟨S2x1024x8x16, .f32⟩
  | .hbm, ⟨70, _⟩ => ⟨S2x1024x8x16, .f32⟩
  | .hbm, ⟨71, _⟩ => ⟨S2x1024x8x16, .f32⟩
  | .hbm, ⟨72, _⟩ => ⟨S2x1024x8x16, .f32⟩
  | .hbm, ⟨73, _⟩ => ⟨S2x1024x8x16, .f32⟩
  | .hbm, ⟨74, _⟩ => ⟨S2x1024x8x16, .f32⟩
  | .hbm, ⟨75, _⟩ => ⟨S2x1024x8x32, .f32⟩
  | .hbm, ⟨76, _⟩ => ⟨S2x1024x8x64, .f32⟩
  | .hbm, ⟨77, _⟩ => ⟨S2048x512, .f32⟩
  | .hbm, ⟨78, _⟩ => ⟨S2x1024x512, .f32⟩
  | .hbm, ⟨79, _⟩ => ⟨S2x1024x8x64, .f32⟩
  | .hbm, ⟨80, _⟩ => ⟨S2x1024x8x32, .f32⟩
  | .hbm, ⟨81, _⟩ => ⟨S1x1024x1x16, .f32⟩
  | .hbm, ⟨82, _⟩ => ⟨S1x1024x1x16, .f32⟩
  | .hbm, ⟨83, _⟩ => ⟨S2x1024x8x16, .f32⟩
  | .hbm, ⟨84, _⟩ => ⟨S2x1024x8x16, .f32⟩
  | .hbm, ⟨85, _⟩ => ⟨S2x1024x8x16, .f32⟩
  | .hbm, ⟨86, _⟩ => ⟨S2x1024x8x16, .f32⟩
  | .hbm, ⟨87, _⟩ => ⟨S2x1024x8x16, .f32⟩
  | .hbm, ⟨88, _⟩ => ⟨S2x1024x8x16, .f32⟩
  | .hbm, ⟨89, _⟩ => ⟨S2x1024x8x16, .f32⟩
  | .hbm, ⟨90, _⟩ => ⟨S2x1024x8x16, .f32⟩
  | .hbm, ⟨91, _⟩ => ⟨S2x1024x8x16, .f32⟩
  | .hbm, ⟨92, _⟩ => ⟨S2x1024x8x16, .f32⟩
  | .hbm, ⟨93, _⟩ => ⟨S2x1024x8x16, .f32⟩
  | .hbm, ⟨94, _⟩ => ⟨S2x1024x8x16, .f32⟩
  | .hbm, ⟨95, _⟩ => ⟨S2x1024x8x32, .f32⟩
  | .hbm, ⟨96, _⟩ => ⟨S2x1024x8x32, .f32⟩
  | .hbm, ⟨97, _⟩ => ⟨S1x1024x1x16, .f32⟩
  | .hbm, ⟨98, _⟩ => ⟨S1x1024x1x16, .f32⟩
  | .hbm, ⟨99, _⟩ => ⟨S2x1024x8x16, .f32⟩
  | .hbm, ⟨100, _⟩ => ⟨S2x1024x8x16, .f32⟩
  | .hbm, ⟨101, _⟩ => ⟨S2x1024x8x16, .f32⟩
  | .hbm, ⟨102, _⟩ => ⟨S2x1024x8x16, .f32⟩
  | .hbm, ⟨103, _⟩ => ⟨S2x1024x8x16, .f32⟩
  | .hbm, ⟨104, _⟩ => ⟨S2x1024x8x16, .f32⟩
  | .hbm, ⟨105, _⟩ => ⟨S2x1024x8x16, .f32⟩
  | .hbm, ⟨106, _⟩ => ⟨S2x1024x8x16, .f32⟩
  | .hbm, ⟨107, _⟩ => ⟨S2x1024x8x16, .f32⟩
  | .hbm, ⟨108, _⟩ => ⟨S2x1024x8x16, .f32⟩
  | .hbm, ⟨109, _⟩ => ⟨S2x1024x8x16, .f32⟩
  | .hbm, ⟨110, _⟩ => ⟨S2x1024x8x16, .f32⟩
  | .hbm, ⟨111, _⟩ => ⟨S2x1024x8x32, .f32⟩
  | .hbm, ⟨112, _⟩ => ⟨S2x1024x8x64, .f32⟩
  | .hbm, ⟨113, _⟩ => ⟨S2048x512, .f32⟩
  | .hbm, ⟨114, _⟩ => ⟨S2x1024x512, .f32⟩
  | .hbm, ⟨115, _⟩ => ⟨S2048x1024, .f32⟩
  | .hbm, ⟨116, _⟩ => ⟨S2048x512, .bf16⟩
  | .hbm, ⟨117, _⟩ => ⟨S2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩

abbrev nD : Nat := 1
abbrev τ : Topo := Topo.v7x

variable {F : FTy → Type} [FloatOps F]
-- ==== Qks.lean ====
abbrev S2048x1024 : Shape := ⟨2, ![2048, 1024]⟩
abbrev S8x6x1024 : Shape := ⟨3, ![8, 6, 1024]⟩
abbrev S4x1024 : Shape := ⟨2, ![4, 1024]⟩
abbrev S1024x1536 : Shape := ⟨2, ![1024, 1536]⟩
abbrev S1024x16 : Shape := ⟨2, ![1024, 16]⟩
abbrev S1024x64 : Shape := ⟨2, ![1024, 64]⟩
abbrev S1024x128 : Shape := ⟨2, ![1024, 128]⟩
abbrev S2048x256 : Shape := ⟨2, ![2048, 256]⟩
abbrev S512x1024 : Shape := ⟨2, ![512, 1024]⟩
abbrev S1x6x1024 : Shape := ⟨3, ![1, 6, 1024]⟩
abbrev S512x128 : Shape := ⟨2, ![512, 128]⟩
abbrev S512x256 : Shape := ⟨2, ![512, 256]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S512x1536 : Shape := ⟨2, ![512, 1536]⟩

abbrev nBuf : Space → Nat
  | .hbm => 18
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S8x6x1024, .f32⟩
  | .hbm, ⟨2, _⟩ => ⟨S4x1024, .f32⟩
  | .hbm, ⟨3, _⟩ => ⟨S1024x1536, .f32⟩
  | .hbm, ⟨4, _⟩ => ⟨S1024x16, .f32⟩
  | .hbm, ⟨5, _⟩ => ⟨S1024x16, .f32⟩
  | .hbm, ⟨6, _⟩ => ⟨S1024x16, .f32⟩
  | .hbm, ⟨7, _⟩ => ⟨S1024x16, .f32⟩
  | .hbm, ⟨8, _⟩ => ⟨S1024x1536, .bf16⟩
  | .hbm, ⟨9, _⟩ => ⟨S1024x64, .f32⟩
  | .hbm, ⟨10, _⟩ => ⟨S1024x16, .f32⟩
  | .hbm, ⟨11, _⟩ => ⟨S1024x16, .f32⟩
  | .hbm, ⟨12, _⟩ => ⟨S1024x64, .f32⟩
  | .hbm, ⟨13, _⟩ => ⟨S1024x128, .f32⟩
  | .hbm, ⟨14, _⟩ => ⟨S1024x128, .f32⟩
  | .hbm, ⟨15, _⟩ => ⟨S2048x1024, .bf16⟩
  | .hbm, ⟨16, _⟩ => ⟨S2048x256, .f32⟩
  | .hbm, ⟨17, _⟩ => ⟨S2048x256, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x1536, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QksRefIdeal.lean ====
abbrev S2048x1024 : Shape := ⟨2, ![2048, 1024]⟩
abbrev S8x6x1024 : Shape := ⟨3, ![8, 6, 1024]⟩
abbrev S4x1024 : Shape := ⟨2, ![4, 1024]⟩
abbrev S1024x1536 : Shape := ⟨2, ![1024, 1536]⟩
abbrev S1024x16 : Shape := ⟨2, ![1024, 16]⟩
abbrev S2x6x1024 : Shape := ⟨3, ![2, 6, 1024]⟩
abbrev S2x6x1x1024 : Shape := ⟨4, ![2, 6, 1, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S2x1024 : Shape := ⟨2, ![2, 1024]⟩
abbrev S2x1024x1 : Shape := ⟨3, ![2, 1024, 1]⟩
abbrev S1x1x1024 : Shape := ⟨3, ![1, 1, 1024]⟩
abbrev S2x1x1x1024 : Shape := ⟨4, ![2, 1, 1, 1024]⟩
abbrev S2x1x1024 : Shape := ⟨3, ![2, 1, 1024]⟩
abbrev S2x1024x1536 : Shape := ⟨3, ![2, 1024, 1536]⟩
abbrev S2x1024x16x64 : Shape := ⟨4, ![2, 1024, 16, 64]⟩
abbrev S2x1024x16x32 : Shape := ⟨4, ![2, 1024, 16, 32]⟩
abbrev S1x1024x1x16 : Shape := ⟨4, ![1, 1024, 1, 16]⟩
abbrev S2x1024x16x16 : Shape := ⟨4, ![2, 1024, 16, 16]⟩
abbrev S2x1024x256 : Shape := ⟨3, ![2, 1024, 256]⟩
abbrev S2x1024x4x64 : Shape := ⟨4, ![2, 1024, 4, 64]⟩
abbrev S2x1024x4x32 : Shape := ⟨4, ![2, 1024, 4, 32]⟩
abbrev S2x1024x4x16 : Shape := ⟨4, ![2, 1024, 4, 16]⟩
abbrev S2048x256 : Shape := ⟨2, ![2048, 256]⟩

abbrev nBuf : Space → Nat
  | .hbm => 116
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x6x1024, .f32⟩
  | .hbm, ⟨2, _⟩ => ⟨S4x1024, .f32⟩
  | .hbm, ⟨3, _⟩ => ⟨S1024x1536, .f32⟩
  | .hbm, ⟨4, _⟩ => ⟨S1024x16, .f32⟩
  | .hbm, ⟨5, _⟩ => ⟨S1024x16, .f32⟩
  | .hbm, ⟨6, _⟩ => ⟨S1024x16, .f32⟩
  | .hbm, ⟨7, _⟩ => ⟨S1024x16, .f32⟩
  | .hbm, ⟨8, _⟩ => ⟨S2x6x1024, .f32⟩
  | .hbm, ⟨9, _⟩ => ⟨S2x6x1x1024, .f32⟩
  | .hbm, ⟨10, _⟩ => ⟨S2x1024x1024, .f32⟩
  | .hbm, ⟨11, _⟩ => ⟨S1x1024, .f32⟩
  | .hbm, ⟨12, _⟩ => ⟨S1024, .f32⟩
  | .hbm, ⟨13, _⟩ => ⟨S2x1024x1024, .f32⟩
  | .hbm, ⟨14, _⟩ => ⟨S_, .f32⟩
  | .hbm, ⟨15, _⟩ => ⟨S2x1024, .f32⟩
  | .hbm, ⟨16, _⟩ => ⟨S2x1024x1, .f32⟩
  | .hbm, ⟨17, _⟩ => ⟨S_, .f32⟩
  | .hbm, ⟨18, _⟩ => ⟨S2x1024x1, .f32⟩
  | .hbm, ⟨19, _⟩ => ⟨S2x1024x1, .f32⟩
  | .hbm, ⟨20, _⟩ => ⟨S_, .f32⟩
  | .hbm, ⟨21, _⟩ => ⟨S2x1024x1, .f32⟩
  | .hbm, ⟨22, _⟩ => ⟨S2x1024x1, .f32⟩
  | .hbm, ⟨23, _⟩ => ⟨S2x1024x1, .f32⟩
  | .hbm, ⟨24, _⟩ => ⟨S2x1024x1024, .f32⟩
  | .hbm, ⟨25, _⟩ => ⟨S2x1024x1024, .f32⟩
  | .hbm, ⟨26, _⟩ => ⟨S1x1x1024, .f32⟩
  | .hbm, ⟨27, _⟩ => ⟨S2x1024x1024, .f32⟩
  | .hbm, ⟨28, _⟩ => ⟨S2x1024x1024, .f32⟩
  | .hbm, ⟨29, _⟩ => ⟨S2x1x1x1024, .f32⟩
  | .hbm, ⟨30, _⟩ => ⟨S2x1x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x1024x1024, .f32⟩
  | .hbm, ⟨35, _⟩ => ⟨S2x1024x1024, .f32⟩
  | .hbm, ⟨36, _⟩ => ⟨S2x1x1x1024, .f32⟩
  | .hbm, ⟨37, _⟩ => ⟨S2x1x1024, .f32⟩
  | .hbm, ⟨38, _⟩ => ⟨S2x1024x1024, .f32⟩
  | .hbm, ⟨39, _⟩ => ⟨S2x1024x1024, .f32⟩
  | .hbm, ⟨40, _⟩ => ⟨S2x1024x1536, .f32⟩
  | .hbm, ⟨41, _⟩ => ⟨S2x1024x1024, .f32⟩
  | .hbm, ⟨42, _⟩ => ⟨S2x1024x16x64, .f32⟩
  | .hbm, ⟨43, _⟩ => ⟨S2x1024x16x32, .f32⟩
  | .hbm, ⟨44, _⟩ => ⟨S1x1024x1x16, .f32⟩
  | .hbm, ⟨45, _⟩ => ⟨S1x1024x1x16, .f32⟩
  | .hbm, ⟨46, _⟩ => ⟨S2x1024x16x16, .f32⟩
  | .hbm, ⟨47, _⟩ => ⟨S2x1024x16x16, .f32⟩
  | .hbm, ⟨48, _⟩ => ⟨S2x1024x16x16, .f32⟩
  | .hbm, ⟨49, _⟩ => ⟨S2x1024x16x16, .f32⟩
  | .hbm, ⟨50, _⟩ => ⟨S2x1024x16x16, .f32⟩
  | .hbm, ⟨51, _⟩ => ⟨S2x1024x16x16, .f32⟩
  | .hbm, ⟨52, _⟩ => ⟨S2x1024x16x16, .f32⟩
  | .hbm, ⟨53, _⟩ => ⟨S2x1024x16x16, .f32⟩
  | .hbm, ⟨54, _⟩ => ⟨S2x1024x16x16, .f32⟩
  | .hbm, ⟨55, _⟩ => ⟨S2x1024x16x16, .f32⟩
  | .hbm, ⟨56, _⟩ => ⟨S2x1024x16x16, .f32⟩
  | .hbm, ⟨57, _⟩ => ⟨S2x1024x16x16, .f32⟩
  | .hbm, ⟨58, _⟩ => ⟨S2x1024x16x32, .f32⟩
  | .hbm, ⟨59, _⟩ => ⟨S2x1024x16x32, .f32⟩
  | .hbm, ⟨60, _⟩ => ⟨S1x1024x1x16, .f32⟩
  | .hbm, ⟨61, _⟩ => ⟨S1x1024x1x16, .f32⟩
  | .hbm, ⟨62, _⟩ => ⟨S2x1024x16x16, .f32⟩
  | .hbm, ⟨63, _⟩ => ⟨S2x1024x16x16, .f32⟩
  | .hbm, ⟨64, _⟩ => ⟨S2x1024x16x16, .f32⟩
  | .hbm, ⟨65, _⟩ => ⟨S2x1024x16x16, .f32⟩
  | .hbm, ⟨66, _⟩ => ⟨S2x1024x16x16, .f32⟩
  | .hbm, ⟨67, _⟩ => ⟨S2x1024x16x16, .f32⟩
  | .hbm, ⟨68, _⟩ => ⟨S2x1024x16x16, .f32⟩
  | .hbm, ⟨69, _⟩ => ⟨S2x1024x16x16, .f32⟩
  | .hbm, ⟨70, _⟩ => ⟨S2x1024x16x16, .f32⟩
  | .hbm, ⟨71, _⟩ => ⟨S2x1024x16x16, .f32⟩
  | .hbm, ⟨72, _⟩ => ⟨S2x1024x16x16, .f32⟩
  | .hbm, ⟨73, _⟩ => ⟨S2x1024x16x16, .f32⟩
  | .hbm, ⟨74, _⟩ => ⟨S2x1024x16x32, .f32⟩
  | .hbm, ⟨75, _⟩ => ⟨S2x1024x16x64, .f32⟩
  | .hbm, ⟨76, _⟩ => ⟨S2048x1024, .f32⟩
  | .hbm, ⟨77, _⟩ => ⟨S2x1024x256, .f32⟩
  | .hbm, ⟨78, _⟩ => ⟨S2x1024x4x64, .f32⟩
  | .hbm, ⟨79, _⟩ => ⟨S2x1024x4x32, .f32⟩
  | .hbm, ⟨80, _⟩ => ⟨S1x1024x1x16, .f32⟩
  | .hbm, ⟨81, _⟩ => ⟨S1x1024x1x16, .f32⟩
  | .hbm, ⟨82, _⟩ => ⟨S2x1024x4x16, .f32⟩
  | .hbm, ⟨83, _⟩ => ⟨S2x1024x4x16, .f32⟩
  | .hbm, ⟨84, _⟩ => ⟨S2x1024x4x16, .f32⟩
  | .hbm, ⟨85, _⟩ => ⟨S2x1024x4x16, .f32⟩
  | .hbm, ⟨86, _⟩ => ⟨S2x1024x4x16, .f32⟩
  | .hbm, ⟨87, _⟩ => ⟨S2x1024x4x16, .f32⟩
  | .hbm, ⟨88, _⟩ => ⟨S2x1024x4x16, .f32⟩
  | .hbm, ⟨89, _⟩ => ⟨S2x1024x4x16, .f32⟩
  | .hbm, ⟨90, _⟩ => ⟨S2x1024x4x16, .f32⟩
  | .hbm, ⟨91, _⟩ => ⟨S2x1024x4x16, .f32⟩
  | .hbm, ⟨92, _⟩ => ⟨S2x1024x4x16, .f32⟩
  | .hbm, ⟨93, _⟩ => ⟨S2x1024x4x16, .f32⟩
  | .hbm, ⟨94, _⟩ => ⟨S2x1024x4x32, .f32⟩
  | .hbm, ⟨95, _⟩ => ⟨S2x1024x4x32, .f32⟩
  | .hbm, ⟨96, _⟩ => ⟨S1x1024x1x16, .f32⟩
  | .hbm, ⟨97, _⟩ => ⟨S1x1024x1x16, .f32⟩
  | .hbm, ⟨98, _⟩ => ⟨S2x1024x4x16, .f32⟩
  | .hbm, ⟨99, _⟩ => ⟨S2x1024x4x16, .f32⟩
  | .hbm, ⟨100, _⟩ => ⟨S2x1024x4x16, .f32⟩
  | .hbm, ⟨101, _⟩ => ⟨S2x1024x4x16, .f32⟩
  | .hbm, ⟨102, _⟩ => ⟨S2x1024x4x16, .f32⟩
  | .hbm, ⟨103, _⟩ => ⟨S2x1024x4x16, .f32⟩
  | .hbm, ⟨104, _⟩ => ⟨S2x1024x4x16, .f32⟩
  | .hbm, ⟨105, _⟩ => ⟨S2x1024x4x16, .f32⟩
  | .hbm, ⟨106, _⟩ => ⟨S2x1024x4x16, .f32⟩
  | .hbm, ⟨107, _⟩ => ⟨S2x1024x4x16, .f32⟩
  | .hbm, ⟨108, _⟩ => ⟨S2x1024x4x16, .f32⟩
  | .hbm, ⟨109, _⟩ => ⟨S2x1024x4x16, .f32⟩
  | .hbm, ⟨110, _⟩ => ⟨S2x1024x4x32, .f32⟩
  | .hbm, ⟨111, _⟩ => ⟨S2x1024x4x64, .f32⟩
  | .hbm, ⟨112, _⟩ => ⟨S2048x256, .f32⟩
  | .hbm, ⟨113, _⟩ => ⟨S2048x1024, .bf16⟩
  | .hbm, ⟨114, _⟩ => ⟨S2x1024x256, .f32⟩
  | .hbm, ⟨115, _⟩ => ⟨S2048x256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩

abbrev nD : Nat := 1
abbrev τ : Topo := Topo.v7x

variable {F : FTy → Type} [FloatOps F]
-- ==== Proof.Softmax.lean ====
module

public import Idealize.ShloMosaic.Lib.Pipeline.ValueKit
public import Idealize.ShloMosaic.Lib.Pointwise
public import Idealize.ShloMosaic.Lib.Claim

@[expose] public section

noncomputable section

open Idealize.ShloMosaic Idealize.ShloMosaic.TcCoe

namespace Cert.Softmax

/-! ## Numbers -/

/-- The pattern of −∞ denotes ⊥. -/
theorem lowest : Ideal.ofBits FTy.f32 4286578688#32 = (⊥ : EReal) := by
  simp [Ideal.ofBits, Ideal.ieee]

/-- The bfloat16 pattern of 1/8 denotes 1/8. -/
theorem eighth_bf16 : Ideal.ofBits FTy.bf16 15872#16 = (((1 : ℝ) / 8 : ℝ) : EReal) := by
  simp [Ideal.ofBits, Ideal.ieee]
  norm_num
  rw [← EReal.coe_mul]
  norm_num

/-- The float32 pattern of 1/8 denotes 1/8. -/
theorem eighth_f32 : Ideal.ofBits FTy.f32 1040187392#32 = (((1 : ℝ) / 8 : ℝ) : EReal) := by
  simp [Ideal.ofBits, Ideal.ieee]
  norm_num
  rw [← EReal.coe_mul]
  norm_num

/-- An exponential is not negative. -/
theorem exp_nonneg (x : EReal) : 0 ≤ Ideal.exp x := by
  induction x with
  | bot => simp
  | top => simp
  | coe r => simpa using (Real.exp_pos r).le

/-- The exponential of anything above ⊥ is positive. -/
theorem exp_pos {x : EReal} (h : x ≠ ⊥) : 0 < Ideal.exp x := by
  induction x with
  | bot => exact absurd rfl h
  | top => simp
  | coe r => simpa using Real.exp_pos r

/-- A quotient by a number that is not zero is the product with its reciprocal. -/
theorem mul_div_one (x : EReal) {d : EReal} (h : d ≠ 0) : x * Ideal.div 1 d = Ideal.div x d := by
  simp [Ideal.div, h]

/-- A finite sum times a nonnegative real, summand by summand. -/
theorem sum_mul_real {ι : Type*} (s : Finset ι) (f : ι → EReal) (c : ℝ) (hc : 0 ≤ c) :
    (∑ x ∈ s, f x) * (c : EReal) = ∑ x ∈ s, f x * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A finite sum of numbers none of which is ⊤ is not ⊤. -/
theorem sum_ne_top {ι : Type*} (s : Finset ι) (f : ι → EReal) (h : ∀ x, f x ≠ ⊤) : ∑ x ∈ s, f x ≠ ⊤ := by
  classical
  induction s using Finset.induction_on with
  | empty => simp
  | insert a s ha ih =>
    rw [Finset.sum_insert ha]
    exact EReal.add_ne_top (h a) ih

/-! ## Maxima -/

/-- The fold of the maximum from ⊥ lies below a number exactly if every element does. -/
theorem fold_max_le {n : ℕ} (f : Fin n → EReal) (c : EReal) :
    Finset.fold max ⊥ f Finset.univ ≤ c ↔ ∀ x, f x ≤ c := by
  simp [Finset.fold_max_le]

/-- The maximum of a row and one more number, at its end, is the maximum of the row's and that number. -/
theorem fold_max_succ {n : ℕ} (f : Fin (n + 1) → EReal) :
    Finset.fold max ⊥ f Finset.univ = max (Finset.fold max ⊥ (fun x : Fin n => f x.castSucc) Finset.univ) (f (Fin.last n)) := by
  refine eq_of_forall_ge_iff fun c => ?_
  rw [fold_max_le, max_le_iff, fold_max_le, Fin.forall_fin_succ']

/-- The maximum of finitely many numbers none of which is ⊤ is not ⊤. -/
theorem fold_max_ne_top {n : ℕ} (f : Fin n → EReal) (h : ∀ x, f x ≠ ⊤) : Finset.fold max ⊥ f Finset.univ ≠ ⊤ := by
  rw [← lt_top_iff_ne_top, Finset.fold_max_lt]
  exact ⟨bot_lt_top, fun x _ => lt_top_iff_ne_top.2 (h x)⟩

/-! ## The softmax with a sink logit -/

/-- The greatest of a row's scores and the sink logit. -/
def top {n : ℕ} (s : Fin n → EReal) (a : EReal) : EReal := max (Finset.fold max ⊥ s Finset.univ) a

/-- The softmax's denominator: the exponentials of the scores and of the sink logit, less the greatest. -/
def total {n : ℕ} (s : Fin n → EReal) (a : EReal) : EReal :=
  ∑ x, Ideal.exp (s x - top s a) + Ideal.exp (a - top s a)

/-- One output number of a head: the softmax's weights of the keys, the sink's left out, times the values. -/
def head {n : ℕ} (s : Fin n → EReal) (a : EReal) (v : Fin n → EReal) : EReal :=
  ∑ x, Ideal.div (Ideal.exp (s x - top s a)) (total s a) * v x

/-- With no score ⊤ and a finite sink logit the greatest score is not ⊤. -/
theorem top_ne_top {n : ℕ} (s : Fin n → EReal) {a : EReal} (hs : ∀ x, s x ≠ ⊤) (ha : a ≠ ⊤) : top s a ≠ ⊤ := by
  unfold top
  rcases max_choice (Finset.fold max ⊥ s Finset.univ) a with h | h <;> rw [h]
  exacts [fold_max_ne_top s hs, ha]

/-- With no score ⊤ and a finite sink logit the denominator is not zero. -/
theorem total_ne_zero {n : ℕ} (s : Fin n → EReal) {a : EReal} (hs : ∀ x, s x ≠ ⊤) (ha : a ≠ ⊤) (hb : a ≠ ⊥) :
    total s a ≠ 0 := by
  refine ne_of_gt (lt_of_lt_of_le (exp_pos ?_) (le_add_of_nonneg_left (Finset.sum_nonneg fun x _ => exp_nonneg _)))
  have ht := top_ne_top s hs ha
  induction a with
  | bot => exact absurd rfl hb
  | top => exact absurd rfl ha
  | coe r =>
    have hl : top s (r : EReal) ≠ ⊥ := ne_of_gt (lt_of_lt_of_le (EReal.bot_lt_coe r) (le_max_right _ _))
    lift top s (r : EReal) to ℝ using ⟨ht, hl⟩ with t
    exact_mod_cast EReal.coe_ne_bot (r - t)

/-- A head computed by multiplying each exponential by the denominator's reciprocal. -/
theorem head_reciprocal {n : ℕ} (s : Fin n → EReal) {a : EReal} (v : Fin n → EReal) (hs : ∀ x, s x ≠ ⊤) (ha : a ≠ ⊤) (hb : a ≠ ⊥) :
    ∑ x, Ideal.exp (s x - top s a) * Ideal.div 1 (total s a) * v x = head s a v :=
  Finset.sum_congr rfl fun x _ => by rw [mul_div_one _ (total_ne_zero s hs ha hb)]

/-- A head computed from the row of the scores with the sink logit at its end, the values on the left. -/
theorem head_row {n : ℕ} (S : Fin (n + 1) → EReal) (v : Fin n → EReal) :
    ∑ x : Fin n, v x * Ideal.div (Ideal.exp (S x.castSucc - max ⊥ (Finset.fold max ⊥ S Finset.univ)))
        (∑ x, Ideal.exp (S x - max ⊥ (Finset.fold max ⊥ S Finset.univ)))
      = head (fun x => S x.castSucc) (S (Fin.last n)) v := by
  have ht : max ⊥ (Finset.fold max ⊥ S Finset.univ) = top (fun x : Fin n => S x.castSucc) (S (Fin.last n)) := by
    rw [max_eq_right bot_le, fold_max_succ]; rfl
  rw [ht, Fin.sum_univ_castSucc]
  exact Finset.sum_congr rfl fun x _ => mul_comm _ _

/-! ## Sums over the lanes of a pair of heads -/

/-- A sum over 128 lanes that are zero from lane 64 on. -/
theorem sum_low (f : Fin 128 → EReal) (h : ∀ x, 64 ≤ x.val → f x = 0) :
    ∑ x, f x = ∑ d : Fin 64, f ⟨d.val, by omega⟩ := by
  have e := Fin.sum_univ_add (a := 64) (b := 64) f
  rw [show ∑ x, f x = _ from e, Finset.sum_eq_zero (s := Finset.univ) (f := fun i : Fin 64 => f (Fin.natAdd 64 i))
    (fun i _ => h _ (by simp)), add_zero]
  rfl

/-- A sum over 128 lanes that are zero below lane 64. -/
theorem sum_high (f : Fin 128 → EReal) (h : ∀ x, x.val < 64 → f x = 0) :
    ∑ x, f x = ∑ d : Fin 64, f ⟨64 + d.val, by omega⟩ := by
  have e := Fin.sum_univ_add (a := 64) (b := 64) f
  rw [show ∑ x, f x = _ from e, Finset.sum_eq_zero (s := Finset.univ) (f := fun i : Fin 64 => f (Fin.castAdd 64 i))
    (fun i _ => h _ (by simp)), zero_add]
  rfl

/-! ## A maximum over the last axis of a rank-5 array -/

/-- The maximum over the last axis, from an initial value, is the fold over that axis. -/
theorem reduce_max {n0 n1 n2 n3 n4 : ℕ} (x : FVec Ideal ⟨5, ![n0, n1, n2, n3, n4]⟩ .f32) (b : BitVec 32)
    (h : (⟨5, ![n0, n1, n2, n3, n4]⟩ : Shape).ReducesTo [4] ⟨4, ![n0, n1, n2, n3]⟩) (hu : 0 < (⟨0, ![]⟩ : Shape).numel)
    (i : Fin n0) (j : Fin n1) (k : Fin n2) (l : Fin n3) :
    Host.reduce FloatOps.maximumf x (constant ⟨0, ![]⟩ .f32 b) h hu (ix4 i j k l)
      = Finset.fold max (Ideal.ofBits .f32 b) (fun t : Fin n4 => x (ix5 i j k l t)) Finset.univ := by
  simp only [pointwise]

end Cert.Softmax

end
-- ==== Proof.AttnHead.lean ====
module

public import proofs.«01_k».proof.Proof.Gen.AttnIdeal.Value
public import proofs.«01_k».proof.Proof.Softmax
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Proved

open Cert.AttnIdeal Cert.AttnIdeal.Gen

/-- The scores of the block's queries (already scaled, zero outside one head's lanes) against its keys. -/
abbrev SCORE (q k : FVec Ideal S256x128 .bf16) : FVec Ideal S256x256 .f32 :=
  matmul dot_S256x128_S256x128_S256x256_1_1_0_0_n_n none q k (constant S256x256 .f32 0x00000000#32)

/-- The greatest score of each row, the sink logit among them. -/
abbrev TOP (s : FVec Ideal S256x256 .f32) (a : Ideal .f32) : FVec Ideal S256x1 .f32 :=
  maximumf (shapeCast S256x1 (multiReduction .maximumf [1] S256 s 0xFF800000#32 reduces_S256x256_S256 (.inl rfl) rfl) shapeCasts_S256_S256x1)
    (broadcast S256x1 a)

/-- The exponentials of the scores less the row's greatest. -/
abbrev EXPS (s : FVec Ideal S256x256 .f32) (a : Ideal .f32) : FVec Ideal S256x256 .f32 :=
  exp (subf s (broadcastTo S256x256 (TOP s a) broadcasts_S256x1_S256x256))

/-- One head: the softmax of the scores and the sink, without the sink's own weight, times the values. -/
def HEAD (q k v : FVec Ideal S256x128 .bf16) (a : Ideal .f32) : FVec Ideal S256x128 .f32 :=
  matmul dot_S256x256_S256x128_S256x128_1_0_0_1_n_n none
    (truncf .bf16 (mulf (EXPS (SCORE q k) a) (broadcastTo S256x256 (divf (broadcast S256x1 (Scalar.ofBits .f32 0x3F800000#32))
      (addf (shapeCast S256x1 (multiReduction .add [1] S256 (EXPS (SCORE q k) a) 0x00000000#32 reduces_S256x256_S256 (.inl rfl) rfl) shapeCasts_S256_S256x1)
        (exp (subf (broadcast S256x1 a) (TOP (SCORE q k) a))))) broadcasts_S256x1_S256x256)) bitsLt_bf16_f32)
    v (constant S256x128 .f32 0x00000000#32)

/-- The queries times 1/8. -/
def SCALED (q : FVec Ideal S256x128 .bf16) : FVec Ideal S256x128 .bf16 := mulf q (broadcast S256x128 (Scalar.ofBits .bf16 0x3E00#16))

/-- The lane number of each element. -/
abbrev LANE : IVec S256x128 32 := iota .tc S256x128 32 [1] iota_S256x128_d1_w32

/-- The lanes of the first head of a pair, and zero in the others'. -/
def LOW (q : FVec Ideal S256x128 .bf16) : FVec Ideal S256x128 .bf16 :=
  select (cmpi .slt LANE (broadcast S256x128 64#32)) q (broadcast S256x128 (Scalar.ofBits .bf16 0x0000#16))

/-- The lanes of the second head of a pair, and zero in the others'. -/
def HIGH (q : FVec Ideal S256x128 .bf16) : FVec Ideal S256x128 .bf16 :=
  select (cmpi .sge LANE (broadcast S256x128 64#32)) q (broadcast S256x128 (Scalar.ofBits .bf16 0x0000#16))

/-- The two halves of the lanes exchanged. -/
def SWAP {φ : FTy} (q : FVec Ideal S256x128 φ) : FVec Ideal S256x128 φ := dynamicRotate 1 64#32 none q rotates_S256x128_d1

/-- Two heads' outputs side by side, each in its lanes. -/
abbrev JOIN (a b : FVec Ideal S256x128 .f32) : FVec Ideal S256x128 .bf16 :=
  truncf .bf16 (select (cmpi .slt LANE (broadcast S256x128 64#32)) a b) bitsLt_bf16_f32

/-- A pair of heads whose keys and values lie in the low lanes. -/
abbrev PAIRLOW (q k v : FVec Ideal S256x128 .bf16) (a b : Ideal .f32) : FVec Ideal S256x128 .bf16 :=
  JOIN (HEAD (LOW (SCALED q)) k v a) (SWAP (HEAD (LOW (SWAP (SCALED q))) k v b))

/-- A pair of heads whose keys and values lie in the high lanes. -/
abbrev PAIRHIGH (q k v : FVec Ideal S256x128 .bf16) (a b : Ideal .f32) : FVec Ideal S256x128 .bf16 :=
  JOIN (SWAP (HEAD (HIGH (SWAP (SCALED q))) k v a)) (HEAD (HIGH (SCALED q)) k v b)

/-- A head's output number, from its scores, its sink logit and its lane of the values. -/
theorem head_at (q k v : FVec Ideal S256x128 .bf16) (a : Ideal .f32) (r : Fin 256) (l : Fin 128) :
    HEAD q k v a (ix2 r l) = ∑ x, Ideal.exp ((∑ e, q (ix2 r e) * k (ix2 x e)) - Softmax.top (fun x => ∑ e, q (ix2 r e) * k (ix2 x e)) a)
      * Ideal.div 1 (Softmax.total (fun x => ∑ e, q (ix2 r e) * k (ix2 x e)) a) * v (ix2 x l) := by
  pointwise [HEAD, Softmax.total, Softmax.top]
  rw [Softmax.lowest]

/-- The scaled queries, lane by lane. -/
theorem scaled_at (q : FVec Ideal S256x128 .bf16) (r : Fin 256) (l : Fin 128) :
    SCALED q (ix2 r l) = q (ix2 r l) * Ideal.ofBits FTy.bf16 15872#16 := by
  pointwise [SCALED]

/-- The exchange of the halves, lane by lane. -/
theorem swap_at {φ : FTy} (q : FVec Ideal S256x128 φ) (r : Fin 256) (l : Fin 128) :
    SWAP q (ix2 r l) = q (ix2 r ⟨(l.val + 64) % 128, by omega⟩) := by
  have h : (l.val + 64) % 128 = (l.val + 128 - 64) % 128 := by omega
  simp only [h]
  pointwise [SWAP]

/-- The comparison of a lane number with 64, as a bit. -/
theorem lane_lt : ∀ l : Fin 128, IntOp.cmpi CmpIPredicate.slt (BitVec.ofNat 32 l.val) 64#32 = if l.val < 64 then 1#1 else 0#1 := by
  decide +kernel

/-- The comparison of a lane number with 64, the other way. -/
theorem lane_ge : ∀ l : Fin 128, IntOp.cmpi CmpIPredicate.sge (BitVec.ofNat 32 l.val) 64#32 = if l.val < 64 then 0#1 else 1#1 := by
  decide +kernel

/-- The first head's lanes. -/
theorem low_at (q : FVec Ideal S256x128 .bf16) (r : Fin 256) (l : Fin 128) :
    LOW q (ix2 r l) = if l.val < 64 then q (ix2 r l) else 0 := by
  pointwise [LOW]
  rw [lane_lt]
  split_ifs <;> rfl

/-- The second head's lanes. -/
theorem high_at (q : FVec Ideal S256x128 .bf16) (r : Fin 256) (l : Fin 128) :
    HIGH q (ix2 r l) = if l.val < 64 then 0 else q (ix2 r l) := by
  pointwise [HIGH]
  rw [lane_ge]
  split_ifs <;> rfl

/-- Two outputs side by side, lane by lane. -/
theorem join_at (a b : FVec Ideal S256x128 .f32) (r : Fin 256) (l : Fin 128) :
    JOIN a b (ix2 r l) = if l.val < 64 then a (ix2 r l) else b (ix2 r l) := by
  pointwise []
  rw [lane_lt]
  split_ifs <;> rfl

end Cert.AttnIdeal.Proved

end
-- ==== Proof.AttnReference.lean ====
module

public import proofs.«01_k».proof.Proof.Gen.AttnRefIdeal.Run
public import proofs.«01_k».proof.Proof.Softmax
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AttnRefIdeal.Proved

open Cert.AttnRefIdeal Cert.AttnRefIdeal.Gen

/-- The reference's scores, a row's sink logit after them. -/
def SCORES (q : FVec Ideal S8192x1024 .bf16) (k : FVec Ideal S8192x256 .f32) (sink : FVec Ideal S16 .f32) :
    FVec Ideal S32x4x4x256x257 .f32 :=
  concatenate S32x4x4x256x257 4 [⟨S32x4x4x256x256, (mulf (transpose S32x4x4x256x256 [0, 1, 4, 3, 2]
      (Host.dotGeneral dot_S32x256x4x64_S32x256x4x4x64_S32x4x256x256x4_3_4_1_13_02_02 none
        (shapeCast S32x256x4x64 k shapeCasts_S8192x256_S32x256x4x64)
        (shapeCast S32x256x4x4x64 (extf .f32 q bitsLt_bf16_f32) shapeCasts_S8192x1024_S32x256x4x4x64))
      transposes_S32x4x256x256x4_S32x4x4x256x256_0_1_4_3_2)
      (broadcastInDim S32x4x4x256x256 ![] bcast_S_S32x4x4x256x256 (constant S_ .f32 0x3E000000#32)))⟩,
    ⟨S32x4x4x256x1, (broadcastInDim S32x4x4x256x1 ![0, 1, 2, 3, 4] bcast_S1x4x4x1x1_S32x4x4x256x1_0_1_2_3_4
      (broadcastInDim S1x4x4x1x1 ![1, 2] bcast_S4x4_S1x4x4x1x1_1_2 (shapeCast S4x4 sink shapeCasts_S16_S4x4)))⟩]
    concatenates_S32x4x4x256x256_S32x4x4x256x1_S32x4x4x256x257_d4

/-- The greatest score of each row. -/
def TOP (s : FVec Ideal S32x4x4x256x257 .f32) : FVec Ideal S32x4x4x256 .f32 :=
  maximumf (broadcastInDim S32x4x4x256 ![] bcast_S_S32x4x4x256 (constant S_ .f32 0xFF800000#32))
    (Host.reduce FloatOps.maximumf s (constant S_ .f32 0xFF800000#32) reducesTo_S32x4x4x256x257_S32x4x4x256_d4 h_S_)

/-- The exponentials of the scores less the row's greatest. -/
def EXPS (s : FVec Ideal S32x4x4x256x257 .f32) : FVec Ideal S32x4x4x256x257 .f32 :=
  Host.exp (subf s (broadcastInDim S32x4x4x256x257 ![0, 1, 2, 3, 4] bcast_S32x4x4x256x1_S32x4x4x256x257_0_1_2_3_4
    (broadcastInDim S32x4x4x256x1 ![0, 1, 2, 3] bcast_S32x4x4x256_S32x4x4x256x1_0_1_2_3 (TOP s))))

/-- The sum of each row. -/
def TOTAL (e : FVec Ideal S32x4x4x256x257 .f32) : FVec Ideal S32x4x4x256 .f32 :=
  Host.reduceAdd e (constant S_ .f32 0x00000000#32) reducesTo_S32x4x4x256x257_S32x4x4x256_d4 h_S_

/-- The softmax's weights of the keys, the sink's left out. -/
def WEIGHTS (e : FVec Ideal S32x4x4x256x257 .f32) : FVec Ideal S32x4x4x256x256 .f32 :=
  extractStridedSlice S32x4x4x256x256 ![0, 0, 0, 0, 0] (Host.divf e
    (broadcastInDim S32x4x4x256x257 ![0, 1, 2, 3, 4] bcast_S32x4x4x256x1_S32x4x4x256x257_0_1_2_3_4
      (broadcastInDim S32x4x4x256x1 ![0, 1, 2, 3] bcast_S32x4x4x256_S32x4x4x256x1_0_1_2_3 (TOTAL e))))
    slices_S32x4x4x256x257_S32x4x4x256x256_0_0_0_0_0

/-- The attention's output, the heads' lanes side by side, from the weights and the values. -/
def OUT (p : FVec Ideal S32x4x4x256x256 .f32) (v : FVec Ideal S8192x256 .f32) : FVec Ideal S8192x1024 .f32 :=
  shapeCast S8192x1024 (transpose S32x256x4x4x64 [0, 4, 1, 3, 2]
    (Host.dotGeneral dot_S32x256x4x64_S32x4x4x256x256_S32x4x64x4x256_1_4_3_23_02_01 none
      (shapeCast S32x256x4x64 v shapeCasts_S8192x256_S32x256x4x64) p)
    transposes_S32x4x64x4x256_S32x256x4x4x64_0_4_1_3_2) shapeCasts_S32x256x4x4x64_S8192x1024

/-- The root-mean-square factor of each row, broadcast over the row. -/
abbrev RMS (x : FVec Ideal S8192x1024 .f32) : FVec Ideal S8192x1024 .f32 :=
  broadcastInDim S8192x1024 ![0, 1] bcast_S8192x1_S8192x1024_0_1 (Host.rsqrt (addf (Host.divf
    (broadcastInDim S8192x1 ![0] bcast_S8192_S8192x1_0
      (Host.reduceAdd (mulf x x) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))))

/-- A row of 1024 numbers broadcast over the 8192 rows. -/
abbrev ROW (x : FVec Ideal S1024 .f32) : FVec Ideal S8192x1024 .f32 :=
  broadcastInDim S8192x1024 ![0, 1] bcast_S1x1024_S8192x1024_0_1 (broadcastInDim S1x1024 ![1] bcast_S1024_S1x1024_1 x)

/-- The residual plus the gated, normalised output projection of the attention's output `o`. -/
def TAIL (o x : FVec Ideal S8192x1024 .f32) (md : FVec Ideal S8x6x1024 .f32) (g : FVec Ideal S4x1024 .f32)
    (w : FVec Ideal S1024x1024 .f32) : FVec Ideal S8192x1024 .f32 :=
  addf x (mulf (ROW (shapeCast _ (extractStridedSlice S1x1x1024 ![0, 2, 0] md slices_S8x6x1024_S1x1x1024_0_2_0) shapeCasts_S1x1x1024_S1024))
    (mulf (mulf (Host.dotGeneral dot_S8192x1024_S1024x1024_S8192x1024_1_0_0_1_n_n none o w)
        (RMS (Host.dotGeneral dot_S8192x1024_S1024x1024_S8192x1024_1_0_0_1_n_n none o w)))
      (ROW (shapeCast _ (extractStridedSlice S1x1024 ![1, 0] g slices_S4x1024_S1x1024_1_0) shapeCasts_S1x1024_S1024))))

/-- The reference's result, by its layers. -/
theorem result (m : (ℓ : Loc nD τ sig) → Buf (Elt Ideal) ℓ) (c : Dev nD) :
    Value.res_main_v48 m c = TAIL (OUT (WEIGHTS (EXPS (SCORES (m ((c.tc : Thread nD τ).loc main_arg0)) (m ((c.tc : Thread nD τ).loc main_arg1))
        (m ((c.tc : Thread nD τ).loc main_arg6))))) (m ((c.tc : Thread nD τ).loc main_arg2)))
      (m ((c.tc : Thread nD τ).loc main_arg3)) (m ((c.tc : Thread nD τ).loc main_arg4))
      (m ((c.tc : Thread nD τ).loc main_arg5)) (m ((c.tc : Thread nD τ).loc main_arg7)) := by
  unfold Value.res_main_v48 TAIL OUT WEIGHTS TOTAL EXPS TOP SCORES
  rfl

/-- A score of the reference: a query's product with a key's, over the head's 64 lanes, times 1/8. -/
theorem scores_at (q : FVec Ideal S8192x1024 .bf16) (k : FVec Ideal S8192x256 .f32) (sink : FVec Ideal S16 .f32)
    (b : Fin 32) (h g : Fin 4) (r x : Fin 256) :
    SCORES q k sink (ix5 b h g r x.castSucc) = ∑ e : Fin 64,
      q (ix2 ⟨b.val * 256 + r.val, by omega⟩ ⟨h.val * 256 + g.val * 64 + e.val, by omega⟩) * Ideal.ofBits FTy.bf16 15872#16
        * k (ix2 ⟨b.val * 256 + x.val, by omega⟩ ⟨h.val * 64 + e.val, by omega⟩) := by
  show SCORES q k sink (ix5 b h g r ⟨x.val, by omega⟩) = _
  pointwise [SCORES]
  rw [Softmax.eighth_f32, Softmax.eighth_bf16, Softmax.sum_mul_real _ _ _ (by norm_num)]
  refine Finset.sum_congr rfl fun e _ => ?_
  rw [mul_comm (k _) (q _), mul_right_comm]

/-- The sink logit at the end of a row of the reference's scores. -/
theorem sink_at (q : FVec Ideal S8192x1024 .bf16) (k : FVec Ideal S8192x256 .f32) (sink : FVec Ideal S16 .f32)
    (b : Fin 32) (h g : Fin 4) (r : Fin 256) :
    SCORES q k sink (ix5 b h g r (Fin.last 256)) = sink (ix1 ⟨h.val * 4 + g.val, by omega⟩) := by
  show SCORES q k sink (ix5 b h g r ⟨256, by omega⟩) = _
  pointwise [SCORES]

/-- The maximum with −∞ changes nothing but the form. -/
theorem max_lowest (R : FVec Ideal S32x4x4x256 .f32) (b : Fin 32) (h g : Fin 4) (r : Fin 256) :
    maximumf (broadcastInDim S32x4x4x256 ![] bcast_S_S32x4x4x256 (constant S_ .f32 0xFF800000#32)) R (ix4 b h g r)
      = max ⊥ (R (ix4 b h g r)) := by
  pointwise []
  rw [Softmax.lowest]

/-- The maximum over the scores of a row. -/
theorem row_max (s : FVec Ideal S32x4x4x256x257 .f32) (b : Fin 32) (h g : Fin 4) (r : Fin 256) :
    Host.reduce FloatOps.maximumf s (constant S_ .f32 0xFF800000#32) reducesTo_S32x4x4x256x257_S32x4x4x256_d4 h_S_ (ix4 b h g r)
      = Finset.fold max (Ideal.ofBits .f32 0xFF800000#32) (fun x => s (ix5 b h g r x)) Finset.univ :=
  Softmax.reduce_max s 0xFF800000#32 reducesTo_S32x4x4x256x257_S32x4x4x256_d4 h_S_ b h g r

/-- The greatest of a row. -/
theorem top_at (s : FVec Ideal S32x4x4x256x257 .f32) (b : Fin 32) (h g : Fin 4) (r : Fin 256) :
    TOP s (ix4 b h g r) = max ⊥ (Finset.fold max ⊥ (fun x => s (ix5 b h g r x)) Finset.univ) :=
  (max_lowest _ b h g r).trans (congrArg (max ⊥) ((row_max s b h g r).trans
    (congrArg (fun c => Finset.fold max c (fun x => s (ix5 b h g r x)) Finset.univ) Softmax.lowest)))

/-- A weight of the softmax. -/
theorem weights_at (s : FVec Ideal S32x4x4x256x257 .f32) (b : Fin 32) (h g : Fin 4) (r x : Fin 256) :
    WEIGHTS (EXPS s) (ix5 b h g r x)
      = Ideal.div (Ideal.exp (s (ix5 b h g r x.castSucc) - TOP s (ix4 b h g r)))
          (∑ x, Ideal.exp (s (ix5 b h g r x) - TOP s (ix4 b h g r))) := by
  pointwise [WEIGHTS, TOTAL, EXPS]
  rfl

/-- An output number of the attention: the weights of its head's row times its lane of the values. -/
theorem out_at (p : FVec Ideal S32x4x4x256x256 .f32) (v : FVec Ideal S8192x256 .f32)
    (b : Fin 32) (h g : Fin 4) (r : Fin 256) (d : Fin 64) :
    OUT p v (ix2 ⟨b.val * 256 + r.val, by omega⟩ ⟨h.val * 256 + g.val * 64 + d.val, by omega⟩)
      = ∑ x : Fin 256, v (ix2 ⟨b.val * 256 + x.val, by omega⟩ ⟨h.val * 64 + d.val, by omega⟩) * p (ix5 b h g r x) := by
  pointwise [OUT]

/-- An output number of the reference's attention is a head of its scores, its sink logit and its lane of the values. -/
theorem attention_at (q : FVec Ideal S8192x1024 .bf16) (k v : FVec Ideal S8192x256 .f32) (sink : FVec Ideal S16 .f32)
    (b : Fin 32) (h g : Fin 4) (r : Fin 256) (d : Fin 64) :
    OUT (WEIGHTS (EXPS (SCORES q k sink))) v (ix2 ⟨b.val * 256 + r.val, by omega⟩ ⟨h.val * 256 + g.val * 64 + d.val, by omega⟩)
      = Softmax.head (fun x : Fin 256 => ∑ e : Fin 64,
          q (ix2 ⟨b.val * 256 + r.val, by omega⟩ ⟨h.val * 256 + g.val * 64 + e.val, by omega⟩) * Ideal.ofBits FTy.bf16 15872#16
            * k (ix2 ⟨b.val * 256 + x.val, by omega⟩ ⟨h.val * 64 + e.val, by omega⟩))
          (sink (ix1 ⟨h.val * 4 + g.val, by omega⟩))
          (fun x => v (ix2 ⟨b.val * 256 + x.val, by omega⟩ ⟨h.val * 64 + d.val, by omega⟩)) := by
  rw [out_at]
  simp only [weights_at, top_at]
  rw [Softmax.head_row (fun x => SCORES q k sink (ix5 b h g r x))]
  simp only [scores_at, sink_at]

end Cert.AttnRefIdeal.Proved

end
-- ==== Proof.AttnPair.lean ====
module

public import proofs.«01_k».proof.Proof.AttnHead
public import proofs.«01_k».proof.Proof.AttnReference

@[expose] public section

set_option maxRecDepth 16384

noncomputable section

open Idealize.ShloMosaic Idealize.ShloMosaic.TcCoe Idealize.SL.Sem

namespace Cert.AttnIdeal.Proved

open Cert.AttnIdeal Cert.AttnIdeal.Gen
open Cert.AttnRefIdeal.Proved (attention_at)

/-- A number that is neither infinity. -/
def Finite (x : EReal) : Prop := x ≠ ⊤ ∧ x ≠ ⊥

/-- The score of a query and a key, over a head's 64 lanes, is not ⊤ when both are finite. -/
theorem score_ne_top (q k : Fin 64 → EReal) (hq : ∀ e, Finite (q e)) (hk : ∀ e, Finite (k e)) :
    ∑ e, q e * Ideal.ofBits FTy.bf16 15872#16 * k e ≠ ⊤ := by
  refine Softmax.sum_ne_top _ _ fun e => ?_
  have h := hq e
  have h' := hk e
  generalize q e = x at h
  generalize k e = y at h'
  lift x to ℝ using h
  lift y to ℝ using h'
  rw [Softmax.eighth_bf16, ← EReal.coe_mul, ← EReal.coe_mul]
  exact EReal.coe_ne_top _

/-- A head whose queries are zero in the high lanes. -/
theorem head_low (q k v : FVec Ideal S256x128 .bf16) (a : Ideal .f32) (r : Fin 256) (l : Fin 128)
    (hq : ∀ e : Fin 128, 64 ≤ e.val → q (ix2 r e) = 0)
    (hs : ∀ x, ∑ e : Fin 64, q (ix2 r ⟨e.val, by omega⟩) * k (ix2 x ⟨e.val, by omega⟩) ≠ ⊤) (ha : Finite a) :
    HEAD q k v a (ix2 r l) = Softmax.head (fun x : Fin 256 => ∑ e : Fin 64, q (ix2 r ⟨e.val, by omega⟩) * k (ix2 x ⟨e.val, by omega⟩)) a
      (fun x => v (ix2 x l)) := by
  rw [head_at]
  have h : ∀ x : Fin 256, ∑ e : Fin 128, q (ix2 r e) * k (ix2 x e)
      = ∑ e : Fin 64, q (ix2 r ⟨e.val, by omega⟩) * k (ix2 x ⟨e.val, by omega⟩) :=
    fun x => Softmax.sum_low _ fun e he => by rw [hq e he, zero_mul]
  simp only [h]
  exact Softmax.head_reciprocal _ _ hs ha.1 ha.2

/-- A head whose queries are zero in the low lanes. -/
theorem head_high (q k v : FVec Ideal S256x128 .bf16) (a : Ideal .f32) (r : Fin 256) (l : Fin 128)
    (hq : ∀ e : Fin 128, e.val < 64 → q (ix2 r e) = 0)
    (hs : ∀ x, ∑ e : Fin 64, q (ix2 r ⟨64 + e.val, by omega⟩) * k (ix2 x ⟨64 + e.val, by omega⟩) ≠ ⊤) (ha : Finite a) :
    HEAD q k v a (ix2 r l) = Softmax.head (fun x : Fin 256 => ∑ e : Fin 64, q (ix2 r ⟨64 + e.val, by omega⟩) * k (ix2 x ⟨64 + e.val, by omega⟩)) a
      (fun x => v (ix2 x l)) := by
  rw [head_at]
  have h : ∀ x : Fin 256, ∑ e : Fin 128, q (ix2 r e) * k (ix2 x e)
      = ∑ e : Fin 64, q (ix2 r ⟨64 + e.val, by omega⟩) * k (ix2 x ⟨64 + e.val, by omega⟩) :=
    fun x => Softmax.sum_high _ fun e he => by rw [hq e he, zero_mul]
  simp only [h]
  exact Softmax.head_reciprocal _ _ hs ha.1 ha.2

/-- The queries of the first head of a pair, scaled, in the low lanes. -/
theorem first_low (q : FVec Ideal S256x128 .bf16) (r : Fin 256) (e : Fin 64) :
    LOW (SCALED q) (ix2 r ⟨e.val, by omega⟩) = q (ix2 r ⟨e.val, by omega⟩) * Ideal.ofBits FTy.bf16 15872#16 := by
  rw [low_at, if_pos e.isLt, scaled_at]

/-- The queries of the second head of a pair, scaled, moved to the low lanes. -/
theorem second_low (q : FVec Ideal S256x128 .bf16) (r : Fin 256) (e : Fin 64) :
    LOW (SWAP (SCALED q)) (ix2 r ⟨e.val, by omega⟩) = q (ix2 r ⟨64 + e.val, by omega⟩) * Ideal.ofBits FTy.bf16 15872#16 := by
  have h : (e.val + 64) % 128 = 64 + e.val := by omega
  rw [low_at, if_pos e.isLt, swap_at, scaled_at]
  simp only [h]

/-- The queries of the first head of a pair, scaled, moved to the high lanes. -/
theorem first_high (q : FVec Ideal S256x128 .bf16) (r : Fin 256) (e : Fin 64) :
    HIGH (SWAP (SCALED q)) (ix2 r ⟨64 + e.val, by omega⟩) = q (ix2 r ⟨e.val, by omega⟩) * Ideal.ofBits FTy.bf16 15872#16 := by
  have h : (64 + e.val + 64) % 128 = e.val := by omega
  rw [high_at, if_neg (by simp), swap_at, scaled_at]
  simp only [h]

/-- The queries of the second head of a pair, scaled, in the high lanes. -/
theorem second_high (q : FVec Ideal S256x128 .bf16) (r : Fin 256) (e : Fin 64) :
    HIGH (SCALED q) (ix2 r ⟨64 + e.val, by omega⟩) = q (ix2 r ⟨64 + e.val, by omega⟩) * Ideal.ofBits FTy.bf16 15872#16 := by
  rw [high_at, if_neg (by simp), scaled_at]

section Arrays

variable (Q : FVec Ideal Cert.AttnRefIdeal.S8192x1024 .bf16) (K V : FVec Ideal Cert.AttnRefIdeal.S8192x256 .f32)
  (S : FVec Ideal Cert.AttnRefIdeal.S16 .f32)

/-- The reference's attention output. -/
abbrev REF : FVec Ideal Cert.AttnRefIdeal.S8192x1024 .f32 :=
  Cert.AttnRefIdeal.Proved.OUT (Cert.AttnRefIdeal.Proved.WEIGHTS (Cert.AttnRefIdeal.Proved.EXPS (Cert.AttnRefIdeal.Proved.SCORES Q K S))) V

/-- Every query, key and sink logit is finite. -/
structure FiniteScores : Prop where
  q : ∀ i j, Finite (Q (ix2 i j))
  k : ∀ i j, Finite (K (ix2 i j))
  s : ∀ i, Finite (S (ix1 i))

variable {Q K V S} (fin : FiniteScores Q K S)
include fin

/-- A pair of heads in the low lanes of the keys is the reference's attention, in the pair's columns. -/
theorem pair_low {q k v : FVec Ideal S256x128 .bf16} {a a' : Ideal .f32} (b : Fin 32) (h : Fin 4) (u : Fin 2)
    (hq : ∀ (r : Fin 256) (e : Fin 128), q (ix2 r e) = Q (ix2 ⟨b.val * 256 + r.val, by omega⟩ ⟨h.val * 256 + u.val * 128 + e.val, by omega⟩))
    (hk : ∀ (x : Fin 256) (e : Fin 64), k (ix2 x ⟨e.val, by omega⟩) = K (ix2 ⟨b.val * 256 + x.val, by omega⟩ ⟨h.val * 64 + e.val, by omega⟩))
    (hv : ∀ (x : Fin 256) (e : Fin 64), v (ix2 x ⟨e.val, by omega⟩) = V (ix2 ⟨b.val * 256 + x.val, by omega⟩ ⟨h.val * 64 + e.val, by omega⟩))
    (ha : a = S (ix1 ⟨h.val * 4 + u.val * 2, by omega⟩)) (ha' : a' = S (ix1 ⟨h.val * 4 + (u.val * 2 + 1), by omega⟩)) (r : Fin 256) (l : Fin 128) :
    PAIRLOW q k v a a' (ix2 r l) = REF Q K V S (ix2 ⟨b.val * 256 + r.val, by omega⟩ ⟨h.val * 256 + u.val * 128 + l.val, by omega⟩) := by
  refine (join_at _ _ _ _).trans ?_
  by_cases hl : l.val < 64
  · rw [if_pos hl, head_low _ _ _ _ _ _ (fun e he => by rw [low_at, if_neg (by omega)]) (fun x => by
      simp only [first_low, hq, hk]; exact score_ne_top _ _ (fun e => fin.q _ _) fun e => fin.k _ _) (by rw [ha]; exact fin.s _)]
    refine Eq.trans ?_ ((attention_at Q K V S b h ⟨u.val * 2, by omega⟩ r ⟨l.val, hl⟩).symm.trans
      (congrArg (fun j => REF Q K V S (ix2 _ j)) (Fin.ext (by simp; omega))))
    have i : ∀ e : Fin 64, h.val * 256 + u.val * 128 + e.val = h.val * 256 + u.val * 2 * 64 + e.val := by omega
    simp only [first_low, hq, hk, ha, i]
    exact congrArg _ (funext fun x => hv x ⟨l.val, hl⟩)
  · rw [if_neg hl, swap_at, head_low _ _ _ _ _ _ (fun e he => by rw [low_at, if_neg (by omega)]) (fun x => by
      simp only [second_low, hq, hk]; exact score_ne_top _ _ (fun e => fin.q _ _) fun e => fin.k _ _) (by rw [ha']; exact fin.s _)]
    refine Eq.trans ?_ ((attention_at Q K V S b h ⟨u.val * 2 + 1, by omega⟩ r ⟨l.val - 64, by omega⟩).symm.trans
      (congrArg (fun j => REF Q K V S (ix2 _ j)) (Fin.ext (by simp; omega))))
    have i : ∀ e : Fin 64, h.val * 256 + u.val * 128 + (64 + e.val) = h.val * 256 + (u.val * 2 + 1) * 64 + e.val := by omega
    have j : (l.val + 64) % 128 = l.val - 64 := by omega
    simp only [second_low, hq, hk, ha', i, j]
    exact congrArg _ (funext fun x => hv x ⟨l.val - 64, by omega⟩)

/-- A pair of heads in the high lanes of the keys is the reference's attention, in the pair's columns. -/
theorem pair_high {q k v : FVec Ideal S256x128 .bf16} {a a' : Ideal .f32} (b : Fin 32) (h : Fin 4) (u : Fin 2)
    (hq : ∀ (r : Fin 256) (e : Fin 128), q (ix2 r e) = Q (ix2 ⟨b.val * 256 + r.val, by omega⟩ ⟨h.val * 256 + u.val * 128 + e.val, by omega⟩))
    (hk : ∀ (x : Fin 256) (e : Fin 64), k (ix2 x ⟨64 + e.val, by omega⟩) = K (ix2 ⟨b.val * 256 + x.val, by omega⟩ ⟨h.val * 64 + e.val, by omega⟩))
    (hv : ∀ (x : Fin 256) (e : Fin 64), v (ix2 x ⟨64 + e.val, by omega⟩) = V (ix2 ⟨b.val * 256 + x.val, by omega⟩ ⟨h.val * 64 + e.val, by omega⟩))
    (ha : a = S (ix1 ⟨h.val * 4 + u.val * 2, by omega⟩)) (ha' : a' = S (ix1 ⟨h.val * 4 + (u.val * 2 + 1), by omega⟩)) (r : Fin 256) (l : Fin 128) :
    PAIRHIGH q k v a a' (ix2 r l) = REF Q K V S (ix2 ⟨b.val * 256 + r.val, by omega⟩ ⟨h.val * 256 + u.val * 128 + l.val, by omega⟩) := by
  refine (join_at _ _ _ _).trans ?_
  by_cases hl : l.val < 64
  · rw [if_pos hl, swap_at, head_high _ _ _ _ _ _ (fun e he => by rw [high_at, if_pos (by omega)]) (fun x => by
      simp only [first_high, hq, hk]; exact score_ne_top _ _ (fun e => fin.q _ _) fun e => fin.k _ _) (by rw [ha]; exact fin.s _)]
    refine Eq.trans ?_ ((attention_at Q K V S b h ⟨u.val * 2, by omega⟩ r ⟨l.val, hl⟩).symm.trans
      (congrArg (fun j => REF Q K V S (ix2 _ j)) (Fin.ext (by simp; omega))))
    have i : ∀ e : Fin 64, h.val * 256 + u.val * 128 + e.val = h.val * 256 + u.val * 2 * 64 + e.val := by omega
    have j : (l.val + 64) % 128 = 64 + l.val := by omega
    simp only [first_high, hq, hk, ha, i, j]
    exact congrArg _ (funext fun x => hv x ⟨l.val, hl⟩)
  · rw [if_neg hl, head_high _ _ _ _ _ _ (fun e he => by rw [high_at, if_pos (by omega)]) (fun x => by
      simp only [second_high, hq, hk]; exact score_ne_top _ _ (fun e => fin.q _ _) fun e => fin.k _ _) (by rw [ha']; exact fin.s _)]
    refine Eq.trans ?_ ((attention_at Q K V S b h ⟨u.val * 2 + 1, by omega⟩ r ⟨l.val - 64, by omega⟩).symm.trans
      (congrArg (fun j => REF Q K V S (ix2 _ j)) (Fin.ext (by simp; omega))))
    have i : ∀ e : Fin 64, h.val * 256 + u.val * 128 + (64 + e.val) = h.val * 256 + (u.val * 2 + 1) * 64 + e.val := by omega
    have j : l = ⟨64 + (l.val - 64), by omega⟩ := Fin.ext (by simp; omega)
    simp only [second_high, hq, hk, ha', i]
    exact congrArg _ (funext fun x => (congrArg (fun z => v (ix2 x z)) j).trans (hv x ⟨l.val - 64, by omega⟩))

end Arrays

end Cert.AttnIdeal.Proved

end
-- ==== Proof.FiniteScores.lean ====
module

public import proofs.«01_k».proof.Defs
public import proofs.«01_k».proof.Proof.AttnPair
public import Idealize.ShloMosaic.Lib.Pointwise

@[expose] public section

set_option maxRecDepth 16384

noncomputable section

open Idealize.ShloMosaic Idealize.ShloMosaic.TcCoe Idealize.SL.Sem

namespace Cert.Pre_finite_scores.Proved

open Cert.Pre_finite_scores
open Cert.AttnIdeal.Proved (Finite FiniteScores)

/-- The side conditions the precondition's operations take. -/
instance facts : Cert.Pre_finite_scores.Facts where
  bitsLt_bf16_f32 := by decide
  bcast_S16_S1x16_1 := by decide
  bcast_S1x16_S8192x16_0_1 := by decide
  concatenates_S8192x1024_S8192x256_S8192x16_S8192x1296_d1 := by decide
  bcast_S_S8192x1296 := by decide

/-- The pattern of +∞ denotes ⊤. -/
theorem infinity : Ideal.ofBits FTy.f32 2139095040#32 = (⊤ : EReal) := by
  simp [Ideal.ofBits, Ideal.ieee]

/-- A number whose absolute value compares below ⊤ is finite. -/
theorem finite_of_lt {x : Ideal .f32} (h : FloatOps.cmpf CmpFPredicate.olt (FloatOps.hostAbsf x) (Ideal.ofBits FTy.f32 2139095040#32) = 1#1) :
    Finite x := by
  rw [infinity] at h
  constructor
  · rintro rfl
    revert h
    simp [FloatOps.cmpf, FloatOps.hostAbsf, Ideal.cmp]
  · rintro rfl
    revert h
    simp [FloatOps.cmpf, FloatOps.hostAbsf, Ideal.cmp]

/-- The precondition says that every query, key and sink logit is finite. -/
theorem finite_scores {q : FVec Ideal S8192x1024 .bf16} {k v : FVec Ideal S8192x256 .f32} {x : FVec Ideal S8192x1024 .f32}
    {md : FVec Ideal S8x6x1024 .f32} {g : FVec Ideal S4x1024 .f32} {s : FVec Ideal S16 .f32} {w : FVec Ideal S1024x1024 .f32}
    (h : fn (F := Ideal) q k v x md g s w = fun _ => 1#1) : FiniteScores q k s where
  q i j := by
    refine finite_of_lt (Eq.trans ?_ (congrFun h (ix2 i ⟨j.val, by omega⟩)))
    pointwise [fn]
  k i j := by
    refine finite_of_lt (Eq.trans ?_ (congrFun h (ix2 i ⟨1024 + j.val, by omega⟩)))
    pointwise [fn]
  s i := by
    refine finite_of_lt (Eq.trans ?_ (congrFun h (ix2 0 ⟨1280 + i.val, by omega⟩)))
    have e : 1280 + i.val - 1024 - 256 = i.val := by omega
    pointwise [fn]
    rw [dif_neg (by omega), dif_neg (by omega)]
    simp only [e]

end Cert.Pre_finite_scores.Proved

end
-- ==== Proof.Mixer.lean ====
module

public import proofs.«01_k».proof.Proof.Softmax

@[expose] public section

noncomputable section

open Idealize.ShloMosaic Idealize.ShloMosaic.TcCoe

namespace Cert.Mixer

/-! ## The numbers both programs compute, row by row -/

/-- The first `n` taps of a convolution, summed. -/
def taps (f w : ℕ → EReal) : ℕ → EReal
  | 0 => 0
  | n + 1 => taps f w n + f n * w n

/-- A number of a row less the row's mean. -/
def centred (s : Fin 512 → EReal) (l : Fin 512) : EReal := s l - Ideal.div (∑ x, s x) (Ideal.ofBits .f32 0x44000000#32)

/-- A number of a centred row over the row's standard deviation, scaled and shifted. -/
def scaled (d : Fin 512 → EReal) (g b : EReal) (l : Fin 512) : EReal :=
  d l * Ideal.rsqrt (Ideal.div (∑ x, d x * d x) (Ideal.ofBits .f32 0x44000000#32) + Ideal.ofBits .f32 0x358637BD#32) * g + b

/-- A number times its logistic function. -/
def swish (x : EReal) : EReal := x * Ideal.div 1 (1 + Ideal.exp (-x))

/-- A number of a head's row over the row's root mean square, scaled by lane and by a constant. -/
def subnorm (o : Fin 128 → EReal) (g : EReal) (l : Fin 128) : EReal :=
  o l * Ideal.rsqrt (Ideal.div (∑ x, o x * o x) (Ideal.ofBits .f32 0x43000000#32) + Ideal.ofBits .f32 0x358637BD#32) * g * Ideal.ofBits .f32 0x3F4CCCCD#32

/-- A head's score of a query and a key, the query scaled first. -/
def score (q k : Fin 64 → EReal) : EReal := ∑ e, q e * Ideal.ofBits .bf16 0x3E00#16 * k e

/-- The greatest of a row's scores. -/
def top (s : Fin 256 → EReal) : EReal := Finset.fold max ⊥ s Finset.univ

/-- A weight of the softmax of a row. -/
def soft (s : Fin 256 → EReal) (x : Fin 256) : EReal := Ideal.div (Ideal.exp (s x - top s)) (∑ x, Ideal.exp (s x - top s))

/-- The difference of two softmaxes times the values. -/
def diff (lam : EReal) (p p' v : Fin 256 → EReal) : EReal := ∑ x, (p x - lam * p' x) * v x

/-- A number times the logistic function of its gate. -/
def gate (a b : EReal) : EReal := a * Ideal.div 1 (1 + Ideal.exp (-b))

/-- A sequence's gated rows with fifteen rows of zeros before and after, by number. -/
def window (u : Fin 256 → Fin 1024 → EReal) (l : Fin 512) (i : ℕ) : EReal :=
  if h : 15 ≤ i ∧ i - 15 < 256 then gate (u ⟨i - 15, h.2⟩ ⟨l.val, by omega⟩) (u ⟨i - 15, h.2⟩ ⟨512 + l.val, by omega⟩) else 0

/-- The convolution's rows, their bias added. -/
def convolved (u : Fin 256 → Fin 1024 → EReal) (w : Fin 31 → Fin 512 → EReal) (b : Fin 512 → EReal) (r : Fin 256) (l : Fin 512) : EReal :=
  taps (fun n => window u l (r.val + n)) (fun n => w ⟨n % 31, Nat.mod_lt _ (by decide)⟩ l) 31 + b l

/-- The convolution part's output. -/
def convPart (u : Fin 256 → Fin 1024 → EReal) (w : Fin 31 → Fin 512 → EReal) (cb g b : Fin 512 → EReal) (r : Fin 256) (l : Fin 512) : EReal :=
  swish (scaled (centred (convolved u w cb r)) (g l) (b l) l)

/-- The factor of the second softmax. -/
def factor (x : Fin 4 → Fin 64 → EReal) : EReal :=
  Ideal.exp (∑ e, x 0 e * x 1 e) - Ideal.exp (∑ e, x 2 e * x 3 e) + Ideal.ofBits .f32 0x3E4CCCCD#32

/-- The scores of a query's first half-head. -/
def low (q k : Fin 256 → Fin 128 → EReal) (r x : Fin 256) : EReal :=
  score (fun e => q r ⟨e.val, by omega⟩) (fun e => k x ⟨e.val, by omega⟩)

/-- The scores of a query's second half-head. -/
def high (q k : Fin 256 → Fin 128 → EReal) (r x : Fin 256) : EReal :=
  score (fun e => q r ⟨64 + e.val, by omega⟩) (fun e => k x ⟨64 + e.val, by omega⟩)

/-- A head's output. -/
def headPart (lam : EReal) (q k v : Fin 256 → Fin 128 → EReal) (g : Fin 128 → EReal) (r : Fin 256) (l : Fin 128) : EReal :=
  subnorm (fun l => diff lam (soft (low q k r)) (soft (high q k r)) (fun x => v x l)) (g l) l

/-- Taps of equal numbers are equal. -/
theorem taps_congr {f f' w w' : ℕ → EReal} (n : ℕ) (hf : ∀ i, i < n → f i = f' i) (hw : ∀ i, i < n → w i = w' i) : taps f w n = taps f' w' n := by
  induction n with
  | zero => rfl
  | succ n ih =>
    show taps f w n + f n * w n = taps f' w' n + f' n * w' n
    rw [ih (fun i hi => hf i (Nat.lt_succ_of_lt hi)) (fun i hi => hw i (Nat.lt_succ_of_lt hi)), hf n (Nat.lt_succ_self n), hw n (Nat.lt_succ_self n)]

/-! ## The softmax with a reciprocal -/

/-- With finite scores the softmax's denominator is not zero. -/
theorem total_ne_zero (s : Fin 256 → EReal) (ht : ∀ x, s x ≠ ⊤) (hb : ∀ x, s x ≠ ⊥) : ∑ x, Ideal.exp (s x - top s) ≠ 0 := by
  have h : 0 < Ideal.exp (s 0 - top s) := by
    refine Softmax.exp_pos ?_
    have ht' : top s ≠ ⊤ := Softmax.fold_max_ne_top s ht
    have hl : top s ≠ ⊥ := ne_of_gt (lt_of_lt_of_le (bot_lt_iff_ne_bot.mpr (hb 0)) ((Softmax.fold_max_le s (top s)).mp le_rfl 0))
    have h0 := ht 0
    have h1 := hb 0
    generalize s 0 = x at h0 h1
    generalize top s = y at ht' hl
    lift x to ℝ using ⟨h0, h1⟩
    lift y to ℝ using ⟨ht', hl⟩
    exact_mod_cast EReal.coe_ne_bot (x - y)
  exact ne_of_gt (lt_of_lt_of_le h (Finset.single_le_sum (f := fun x => Ideal.exp (s x - top s)) (fun x _ => Softmax.exp_nonneg _) (Finset.mem_univ 0)))

/-- With finite scores an exponential times the denominator's reciprocal is the softmax's weight. -/
theorem soft_reciprocal (s : Fin 256 → EReal) (ht : ∀ x, s x ≠ ⊤) (hb : ∀ x, s x ≠ ⊥) (x : Fin 256) :
    Ideal.exp (s x - top s) * Ideal.div 1 (∑ x, Ideal.exp (s x - top s)) = soft s x :=
  Softmax.mul_div_one _ (total_ne_zero s ht hb)

/-- A sum of real numbers is real. -/
theorem sum_real {ι : Type*} (s : Finset ι) (f : ι → EReal) (h : ∀ x, ∃ r : ℝ, f x = r) : ∃ r : ℝ, ∑ x ∈ s, f x = r := by
  classical
  induction s using Finset.induction_on with
  | empty => exact ⟨0, by simp⟩
  | insert a s ha ih =>
    obtain ⟨r, hr⟩ := ih
    obtain ⟨t, ht⟩ := h a
    exact ⟨t + r, by rw [Finset.sum_insert ha, hr, ht, EReal.coe_add]⟩

/-- The score of finite queries and keys is finite. -/
theorem score_real (q k : Fin 64 → EReal) (hq : ∀ e, q e ≠ ⊤ ∧ q e ≠ ⊥) (hk : ∀ e, k e ≠ ⊤ ∧ k e ≠ ⊥) :
    score q k ≠ ⊤ ∧ score q k ≠ ⊥ := by
  obtain ⟨r, hr⟩ : ∃ r : ℝ, score q k = r := by
    refine sum_real _ _ fun e => ?_
    have h := hq e
    have h' := hk e
    generalize q e = x at h
    generalize k e = y at h'
    lift x to ℝ using h
    lift y to ℝ using h'
    exact ⟨x * ((1 : ℝ) / 8) * y, by rw [Softmax.eighth_bf16, EReal.coe_mul, EReal.coe_mul]⟩
  rw [hr]
  exact ⟨EReal.coe_ne_top r, EReal.coe_ne_bot r⟩

end Cert.Mixer

end
-- ==== Proof.MixLoads.lean ====
module

public import proofs.«01_k».proof.Proof.Gen.MixIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixIdeal.Proved

open Cert.MixIdeal Cert.MixIdeal.Gen

/-- Loads through stores that are blocks of one function are that function's values, where the stores cover. -/
theorem read_blocks {κ : Kind} {sp : Space} {Val : EltTy → Type} [∀ e, Nonempty (Val e)] {s : Shape} {e : EltTy} (G : s.Idx → Val e)
    (L : List (View.Piece Val s e)) (hL : View.PiecesOf G L) (hc : ∀ y, ∃ p ∈ L, y ∈ p.1.set) (v : View sig κ sp s e) (r : LoadRect s) :
    v.readCov L r = fun j => G (r.idx j) := by
  rw [View.readCov_eq_canon']
  exact funext fun j => View.canon_apply_of_pieces G L hL.mem _ (hc _)

/-- 64 rows of the padded window, from row `n` on, as a one-slot array. -/
def SLOT (z : FVec Ideal S288x512 .f32) (n : ℕ) : FVec Ideal S1x64x512 .f32 :=
  fun y => z (ix2 ⟨(n + (y 1).val) % 288, by omega⟩ (y 2))

/-- 64 rows of the padded window, from row `n` on. -/
def ROWS (z : FVec Ideal S288x512 .f32) (n : ℕ) : FVec Ideal S64x512 .f32 :=
  fun y => z (ix2 ⟨(n + (y 0).val) % 288, by omega⟩ (y 1))

/-- One row of the convolution's weights. -/
def WEIGHT (w : FVec Ideal S31x512 .f32) (j : ℕ) : FVec Ideal S1x512 .f32 :=
  fun y => w (ix2 ⟨(j + (y 0).val) % 31, by omega⟩ (y 1))

/-- The seven shifted copies of the padded window, as the stores leave them. -/
abbrev SHIFTS (z : FVec Ideal S288x512 .f32) : List (View.Piece (Elt Ideal) S7x280x512 .f32) :=
  [⟨Rect.unit ![6, 0, 0] ![1, 280, 512] inb_S7x280x512_S1x280x512_6_0_0, k0_pay14 (F := Ideal) (View.ld (Val := Elt Ideal) (e' := .f32) z (Rect.unit (s := S288x512) ![7, 0] ![280, 512] inb_S288x512_S280x512_7_0))⟩,
   ⟨Rect.unit ![5, 0, 0] ![1, 280, 512] inb_S7x280x512_S1x280x512_5_0_0, k0_pay13 (F := Ideal) (View.ld (Val := Elt Ideal) (e' := .f32) z (Rect.unit (s := S288x512) ![6, 0] ![280, 512] inb_S288x512_S280x512_6_0))⟩,
   ⟨Rect.unit ![4, 0, 0] ![1, 280, 512] inb_S7x280x512_S1x280x512_4_0_0, k0_pay12 (F := Ideal) (View.ld (Val := Elt Ideal) (e' := .f32) z (Rect.unit (s := S288x512) ![5, 0] ![280, 512] inb_S288x512_S280x512_5_0))⟩,
   ⟨Rect.unit ![3, 0, 0] ![1, 280, 512] inb_S7x280x512_S1x280x512_3_0_0, k0_pay11 (F := Ideal) (View.ld (Val := Elt Ideal) (e' := .f32) z (Rect.unit (s := S288x512) ![4, 0] ![280, 512] inb_S288x512_S280x512_4_0))⟩,
   ⟨Rect.unit ![2, 0, 0] ![1, 280, 512] inb_S7x280x512_S1x280x512_2_0_0, k0_pay10 (F := Ideal) (View.ld (Val := Elt Ideal) (e' := .f32) z (Rect.unit (s := S288x512) ![3, 0] ![280, 512] inb_S288x512_S280x512_3_0))⟩,
   ⟨Rect.unit ![1, 0, 0] ![1, 280, 512] inb_S7x280x512_S1x280x512_1_0_0, k0_pay9 (F := Ideal) (View.ld (Val := Elt Ideal) (e' := .f32) z (Rect.unit (s := S288x512) ![2, 0] ![280, 512] inb_S288x512_S280x512_2_0))⟩,
   ⟨Rect.unit ![0, 0, 0] ![1, 280, 512] inb_S7x280x512_S1x280x512_0_0_0, k0_pay8 (F := Ideal) (View.ld (Val := Elt Ideal) (e' := .f32) z (Rect.unit (s := S288x512) ![1, 0] ![280, 512] inb_S288x512_S280x512_1_0))⟩]

/-- What the seven copies hold: slot `b`, row `i` is the window's row `b + i + 1`. -/
def SHIFTED (z : FVec Ideal S288x512 .f32) : FVec Ideal S7x280x512 .f32 :=
  fun y => z (ix2 ⟨((y 0).val + (y 1).val + 1) % 288, by omega⟩ (y 2))

/-- A slab of one slot, element by element. -/
theorem stack_at (V : FVec Ideal S280x512 .f32) (i : Fin 1) (j : Fin 280) (k : Fin 512) :
    shapeCast S1x280x512 V shapeCasts_S280x512_S1x280x512 (ix3 i j k) = V (ix2 j k) := by
  pointwise []

/-- A copy's store is its block of the shifted copies. -/
theorem shift_at (z : FVec Ideal S288x512 .f32) (b : ℕ) (inb : ∀ a, (![b, 0, 0] : Fin 3 → ℕ) a + (![1, 280, 512] : Fin 3 → ℕ) a ≤ S7x280x512.size a)
    (inb' : ∀ a, (![b + 1, 0] : Fin 2 → ℕ) a + (![280, 512] : Fin 2 → ℕ) a ≤ S288x512.size a) (x : S1x280x512.Idx) :
    shapeCast S1x280x512 (View.ld (Val := Elt Ideal) (e' := .f32) z (Rect.unit (s := S288x512) ![b + 1, 0] ![280, 512] inb')) shapeCasts_S280x512_S1x280x512 x
      = SHIFTED z ((Rect.unit (s := S7x280x512) ![b, 0, 0] ![1, 280, 512] inb).emb x) := by
  have hb : b + 1 ≤ 7 := inb 0
  obtain ⟨i, j, k, rfl⟩ : ∃ (i : Fin 1) (j : Fin 280) (k : Fin 512), x = ix3 i j k := ⟨x 0, x 1, x 2, by
    funext a; match a with | 0 => rfl | 1 => rfl | 2 => rfl⟩
  refine (stack_at _ i j k).trans (congrArg z (funext (Fin.forall_fin_two.mpr ⟨Fin.ext ?_, Fin.ext ?_⟩)))
  · show b + 1 + 1 * j.val = (b + 1 * i.val + (0 + 1 * j.val) + 1) % 288
    omega
  · show 0 + 1 * k.val = 0 + 1 * k.val
    rfl

/-- Every element of the shifted copies lies in one of the seven stores. -/
theorem shifts_cover (z : FVec Ideal S288x512 .f32) (y : S7x280x512.Idx) : ∃ p ∈ SHIFTS z, y ∈ p.1.set := by
  obtain ⟨i, j, k, rfl⟩ : ∃ (i : Fin 7) (j : Fin 280) (k : Fin 512), y = ix3 i j k := ⟨y 0, y 1, y 2, by
    funext a; match a with | 0 => rfl | 1 => rfl | 2 => rfl⟩
  have h : ∀ (b : ℕ) (inb), i.val = b → ix3 i j k ∈ (Rect.unit (s := S7x280x512) ![b, 0, 0] ![1, 280, 512] inb).set := by
    intro b inb hb
    refine Rect.mem_set_unit.mpr fun a => ?_
    match a with
    | 0 => exact ⟨hb.ge, by show i.val < b + 1; omega⟩
    | 1 => exact ⟨Nat.zero_le _, by show j.val < 0 + 280; omega⟩
    | 2 => exact ⟨Nat.zero_le _, by show k.val < 0 + 512; omega⟩
  obtain ⟨i, hi⟩ := i
  interval_cases i
  · exact ⟨_, .tail _ (.tail _ (.tail _ (.tail _ (.tail _ (.tail _ (.head _)))))), h 0 inb_S7x280x512_S1x280x512_0_0_0 rfl⟩
  · exact ⟨_, .tail _ (.tail _ (.tail _ (.tail _ (.tail _ (.head _))))), h 1 inb_S7x280x512_S1x280x512_1_0_0 rfl⟩
  · exact ⟨_, .tail _ (.tail _ (.tail _ (.tail _ (.head _)))), h 2 inb_S7x280x512_S1x280x512_2_0_0 rfl⟩
  · exact ⟨_, .tail _ (.tail _ (.tail _ (.head _))), h 3 inb_S7x280x512_S1x280x512_3_0_0 rfl⟩
  · exact ⟨_, .tail _ (.tail _ (.head _)), h 4 inb_S7x280x512_S1x280x512_4_0_0 rfl⟩
  · exact ⟨_, .tail _ (.head _), h 5 inb_S7x280x512_S1x280x512_5_0_0 rfl⟩
  · exact ⟨_, .head _, h 6 inb_S7x280x512_S1x280x512_6_0_0 rfl⟩

/-- The seven stores are blocks of the shifted copies. -/
theorem shifts_pieces (z : FVec Ideal S288x512 .f32) : View.PiecesOf (SHIFTED z) (SHIFTS z) :=
  ⟨fun x => shift_at z 6 inb_S7x280x512_S1x280x512_6_0_0 inb_S288x512_S280x512_7_0 x, fun x => shift_at z 5 inb_S7x280x512_S1x280x512_5_0_0 inb_S288x512_S280x512_6_0 x,
    fun x => shift_at z 4 inb_S7x280x512_S1x280x512_4_0_0 inb_S288x512_S280x512_5_0 x, fun x => shift_at z 3 inb_S7x280x512_S1x280x512_3_0_0 inb_S288x512_S280x512_4_0 x,
    fun x => shift_at z 2 inb_S7x280x512_S1x280x512_2_0_0 inb_S288x512_S280x512_3_0 x, fun x => shift_at z 1 inb_S7x280x512_S1x280x512_1_0_0 inb_S288x512_S280x512_2_0 x,
    fun x => shift_at z 0 inb_S7x280x512_S1x280x512_0_0_0 inb_S288x512_S280x512_1_0 x, trivial⟩

/-- A load of 64 rows of one shifted copy is 64 rows of the padded window. -/
theorem slot_read {κ : Kind} {sp : Space} (v : View sig κ sp S7x280x512 .f32) (z : FVec Ideal S288x512 .f32) (b o : ℕ)
    (inb : ∀ a, (![b, o, 0] : Fin 3 → ℕ) a + (![1, 64, 512] : Fin 3 → ℕ) a ≤ S7x280x512.size a) :
    v.readCov (SHIFTS z) (Rect.unit (s := S7x280x512) ![b, o, 0] ![1, 64, 512] inb).toLoadRect = SLOT z (b + o + 1) := by
  refine (read_blocks (SHIFTED z) (SHIFTS z) (shifts_pieces z) (shifts_cover z) v _).trans (funext fun x => congrArg z (funext (Fin.forall_fin_two.mpr ⟨Fin.ext ?_, Fin.ext ?_⟩)))
  · have h0 : (x 0).val < 1 := (x 0).isLt
    show (b + 1 * (x 0).val + (o + 1 * (x 1).val) + 1) % 288 = (b + o + 1 + (x 1).val) % 288
    congr 1
    omega
  · show 0 + 1 * (x 2).val = (x 2).val
    omega

/-- A load of 64 rows of the padded window. -/
theorem rows_read (z : FVec Ideal S288x512 .f32) (n : ℕ) (inb : ∀ a, (![n, 0] : Fin 2 → ℕ) a + (![64, 512] : Fin 2 → ℕ) a ≤ S288x512.size a) :
    View.ld (Val := Elt Ideal) (e' := .f32) z (Rect.unit (s := S288x512) ![n, 0] ![64, 512] inb) = ROWS z n := by
  have hn : n + 64 ≤ 288 := inb 0
  refine funext fun x => congrArg z (funext (Fin.forall_fin_two.mpr ⟨Fin.ext ?_, Fin.ext ?_⟩))
  · have h0 : (x 0).val < 64 := (x 0).isLt
    show n + 1 * (x 0).val = (n + (x 0).val) % 288
    omega
  · show 0 + 1 * (x 1).val = (x 1).val
    omega

/-- A load of one row of the convolution's weights. -/
theorem weight_read (w : FVec Ideal S31x512 .f32) (n : ℕ) (inb : ∀ a, (![n, 0] : Fin 2 → ℕ) a + (![1, 512] : Fin 2 → ℕ) a ≤ S31x512.size a) :
    View.ld (Val := Elt Ideal) (e' := .f32) w (Rect.unit (s := S31x512) ![n, 0] ![1, 512] inb) = WEIGHT w n := by
  have hn : n + 1 ≤ 31 := inb 0
  refine funext fun x => congrArg w (funext (Fin.forall_fin_two.mpr ⟨Fin.ext ?_, Fin.ext ?_⟩))
  · have h0 : (x 0).val < 1 := (x 0).isLt
    show n + 1 * (x 0).val = (n + (x 0).val) % 31
    omega
  · show 0 + 1 * (x 1).val = (x 1).val
    omega

/-- The origin's offsets are zero. -/
theorem origin : ∀ a : Fin 2, (![0, 0] : Fin 2 → ℕ) a = 0 := Fin.forall_fin_two.mpr ⟨rfl, rfl⟩

/-- A load from a scratch buffer, filled whole by one store, is a load from what was stored. -/
theorem scratch_read {κ : Kind} {sp : Space} {Val : EltTy → Type} [∀ e, Nonempty (Val e)] {s : Shape} {e : EltTy} {off : Fin s.rank → ℕ}
    (h : ∀ a, off a = 0) (v : View sig κ sp s e) (z : s.Idx → Val e) (inb : ∀ a, off a + s.size a ≤ s.size a) (r : Rect s) :
    v.readCov [⟨Rect.unit off s.size inb, z⟩] r.toLoadRect = View.ld z r :=
  View.readCov_fill v inb z [] r h

/-- A load of as many rows as the padded array has is that array. -/
theorem window_read (z : FVec Ideal S288x512 .f32) (o : Fin 2 → ℕ) (inb : ∀ a, o a + (![288, 512] : Fin 2 → ℕ) a ≤ S288x512.size a) :
    View.ld (Val := Elt Ideal) (e' := .f32) z (Rect.unit (s := S288x512) o ![288, 512] inb) = z := by
  have h0 : o 0 + 288 ≤ 288 := inb 0
  have h1 : o 1 + 512 ≤ 512 := inb 1
  refine funext fun x => congrArg z (funext (Fin.forall_fin_two.mpr ⟨Fin.ext ?_, Fin.ext ?_⟩))
  · show o 0 + 1 * (x 0).val = (x 0).val
    omega
  · show o 1 + 1 * (x 1).val = (x 1).val
    omega

/-- The second copy of the padded window is the window. -/
theorem copy_whole (z : FVec Ideal S288x512 .f32) : k0_pay7 (F := Ideal) z = z := by
  funext y
  idx_vars y
  pointwise [k0_pay7]

/-- The sequence's gated rows with sixteen rows of zeros before and after. -/
def PADDED (u : FVec Ideal S256x1024 .f32) : FVec Ideal S288x512 .f32 := fun y =>
  if h : 16 ≤ (y 0).val ∧ (y 0).val < 272 then
    u (ix2 ⟨(y 0).val - 16, by omega⟩ ⟨(y 1).val, Nat.lt_of_lt_of_le (y 1).isLt (by decide)⟩) *
      Ideal.div (1) (1 + Ideal.exp (0 -
        u (ix2 ⟨(y 0).val - 16, by omega⟩ ⟨512 + (y 1).val, Nat.add_lt_add_left (y 1).isLt 512⟩)))
  else 0

/-- Outside the sequence the padded window is zero. -/
theorem padded_zero (u : FVec Ideal S256x1024 .f32) (y : S288x512.Idx) (h : ¬ (16 ≤ (y 0).val ∧ (y 0).val < 272)) : PADDED u y = 0 :=
  dif_neg h

/-- The stores that fill the padded window. -/
abbrev FILL (u : FVec Ideal S256x1024 .f32) : List (View.Piece (Elt Ideal) S288x512 .f32) :=
  [⟨Rect.unit ![16, 0] ![256, 512] inb_S288x512_S256x512_16_0, k0_pay6 (F := Ideal)
      (View.ld (Val := Elt Ideal) (e' := .f32) u (Rect.unit (s := S256x1024) ![0, 0] ![256, 512] inb_S256x1024_S256x512_0_0))
      (View.ld (Val := Elt Ideal) (e' := .f32) u (Rect.unit (s := S256x1024) ![0, 512] ![256, 512] inb_S256x1024_S256x512_0_512))⟩,
   ⟨Rect.unit ![272, 0] ![16, 512] inb_S288x512_S16x512_272_0, k0_pay5 (F := Ideal)⟩,
   ⟨Rect.unit ![0, 0] ![16, 512] inb_S288x512_S16x512_0_0, k0_pay4 (F := Ideal)⟩]

/-- A gated row. -/
theorem gate_at (a b : FVec Ideal S256x512 .f32) (i : Fin 256) (j : Fin 512) :
    k0_pay6 (F := Ideal) a b (ix2 i j) = a (ix2 i j) * Ideal.div (1)
      (1 + Ideal.exp (0 - b (ix2 i j))) := by
  pointwise [k0_pay6]

/-- The zero rows after the sequence. -/
theorem after_at (y : S16x512.Idx) : k0_pay5 (F := Ideal) y = 0 := by
  idx_vars y
  pointwise [k0_pay5]

/-- The zero rows before the sequence. -/
theorem before_at (y : S16x512.Idx) : k0_pay4 (F := Ideal) y = 0 := by
  idx_vars y
  pointwise [k0_pay4]

/-- The middle store is its block of the padded window. -/
theorem middle_at (u : FVec Ideal S256x1024 .f32) (x : S256x512.Idx) :
    k0_pay6 (F := Ideal)
      (View.ld (Val := Elt Ideal) (e' := .f32) u (Rect.unit (s := S256x1024) ![0, 0] ![256, 512] inb_S256x1024_S256x512_0_0))
      (View.ld (Val := Elt Ideal) (e' := .f32) u (Rect.unit (s := S256x1024) ![0, 512] ![256, 512] inb_S256x1024_S256x512_0_512)) x
      = PADDED u ((Rect.unit (s := S288x512) ![16, 0] ![256, 512] inb_S288x512_S256x512_16_0).emb x) := by
  obtain ⟨i, j, rfl⟩ : ∃ (i : Fin 256) (j : Fin 512), x = ix2 i j := ⟨x 0, x 1, by
    funext a; match a with | 0 => rfl | 1 => rfl⟩
  have h : 16 ≤ 16 + 1 * i.val ∧ 16 + 1 * i.val < 272 := ⟨by omega, by omega⟩
  refine (gate_at _ _ i j).trans ?_
  refine Eq.trans ?_ (dif_pos h).symm
  congr 4
  · refine congrArg u (funext (Fin.forall_fin_two.mpr ⟨Fin.ext ?_, Fin.ext ?_⟩))
    · show 0 + 1 * i.val = 16 + 1 * i.val - 16
      omega
    · show 0 + 1 * j.val = 0 + 1 * j.val
      rfl
  · refine congrArg (fun z => 0 - u z) (funext (Fin.forall_fin_two.mpr ⟨Fin.ext ?_, Fin.ext ?_⟩))
    · show 0 + 1 * i.val = 16 + 1 * i.val - 16
      omega
    · show 512 + 1 * j.val = 512 + (0 + 1 * j.val)
      omega

/-- The stores fill the padded window. -/
theorem window_filled (u : FVec Ideal S256x1024 .f32) : View.canon (FILL u) = PADDED u := by
  have hp : View.PiecesOf (PADDED u) (FILL u) := ⟨fun x => middle_at u x,
    fun x => (after_at x).trans (padded_zero u _ (by
      show ¬ (16 ≤ 272 + 1 * (x 0).val ∧ 272 + 1 * (x 0).val < 272)
      omega)).symm,
    fun x => (before_at x).trans (padded_zero u _ (by
      show ¬ (16 ≤ 0 + 1 * (x 0).val ∧ 0 + 1 * (x 0).val < 272)
      exact fun h => absurd (x 0).isLt (by show ¬ (x 0).val < 16; omega))).symm, trivial⟩
  refine funext fun y => View.canon_apply_of_pieces (PADDED u) (FILL u) hp.mem y ?_
  have h0 : (y 0).val < 288 := (y 0).isLt
  have h1 : (y 1).val < 512 := (y 1).isLt
  have key : ∀ (n k : ℕ) (inb), n ≤ (y 0).val → (y 0).val < n + k → y ∈ (Rect.unit (s := S288x512) ![n, 0] ![k, 512] inb).set :=
    fun n k inb h h' => Rect.mem_set_unit.mpr (Fin.forall_fin_two.mpr
      ⟨⟨h, h'⟩, ⟨Nat.zero_le _, by show (y 1).val < 0 + 512; omega⟩⟩)
  rcases Nat.lt_or_ge (y 0).val 16 with h | h
  · exact ⟨_, .tail _ (.tail _ (.head _)), key 0 16 inb_S288x512_S16x512_0_0 (Nat.zero_le _) (by omega)⟩
  · rcases Nat.lt_or_ge (y 0).val 272 with h' | h'
    · exact ⟨_, .head _, key 16 256 inb_S288x512_S256x512_16_0 h (by omega)⟩
    · exact ⟨_, .tail _ (.head _), key 272 16 inb_S288x512_S16x512_272_0 h' (by omega)⟩

end Cert.MixIdeal.Proved

end
-- ==== Proof.MixBody.lean ====
module

public import proofs.«01_k».proof.Proof.MixLoads

@[expose] public section

set_option maxRecDepth 16384

noncomputable section

open Idealize.ShloMosaic Idealize.ShloMosaic.TcCoe Idealize.SL.Sem
open Idealize.ShloMosaic.Pipeline (Dat)

namespace Cert.MixIdeal.Proved

open Cert.MixIdeal Cert.MixIdeal.Gen

/-- The rows of the padded window that tap `n` of the convolution takes for the 64 rows from `c` on. Every eighth tap
is read from the window itself, the others from its shifted copies. -/
def TAP (z : FVec Ideal S288x512 .f32) (c n : ℕ) : FVec Ideal S64x512 .f32 :=
  bif Nat.beq (n % 8) 7 then ROWS z (c + n + 1) else shapeCast S64x512 (SLOT z (c + n + 1)) shapeCasts_S1x64x512_S64x512

/-- The first `n` taps of the convolution, summed from zero. -/
def TAPS (z : FVec Ideal S288x512 .f32) (w : FVec Ideal S31x512 .f32) (c : ℕ) : ℕ → FVec Ideal S64x512 .f32
  | 0 => broadcast S64x512 (Scalar.ofBits .f32 0x00000000#32)
  | n + 1 => addf (TAPS z w c n) (mulf (TAP z c n) (broadcastTo S64x512 (WEIGHT w n) broadcasts_S1x512_S64x512))

/-- Rows less their mean. -/
def CENTRED (s : FVec Ideal S64x512 .f32) : FVec Ideal S64x512 .f32 :=
  subf s (broadcastTo S64x512 (divf (shapeCast S64x1 (multiReduction .add [1] S64 s 0x00000000#32 reduces_S64x512_S64 (.inl rfl) rfl) shapeCasts_S64_S64x1)
    (broadcast S64x1 (Scalar.ofBits .f32 0x44000000#32))) broadcasts_S64x1_S64x512)

/-- Centred rows over their standard deviation, scaled and shifted by lane. -/
def SCALED (d : FVec Ideal S64x512 .f32) (g b : FVec Ideal S1x512 .f32) : FVec Ideal S64x512 .f32 :=
  addf (mulf (mulf d (broadcastTo S64x512 (rsqrt (addf (divf (shapeCast S64x1 (multiReduction .add [1] S64 (mulf d d) 0x00000000#32 reduces_S64x512_S64 (.inl rfl) rfl) shapeCasts_S64_S64x1)
    (broadcast S64x1 (Scalar.ofBits .f32 0x44000000#32))) (broadcast S64x1 (Scalar.ofBits .f32 0x358637BD#32)))) broadcasts_S64x1_S64x512))
    (broadcastTo S64x512 g broadcasts_S1x512_S64x512)) (broadcastTo S64x512 b broadcasts_S1x512_S64x512)

/-- Each number times its logistic function. -/
def SWISH (s : FVec Ideal S64x512 .f32) : FVec Ideal S64x512 .bf16 :=
  truncf .bf16 (mulf s (divf (broadcast S64x512 (Scalar.ofBits .f32 0x3F800000#32)) (addf (broadcast S64x512 (Scalar.ofBits .f32 0x3F800000#32))
    (exp (subf (broadcast S64x512 (Scalar.ofBits .f32 0x00000000#32)) s))))) bitsLt_bf16_f32

/-- The convolution part's output for the 64 rows from `c` on. -/
def CHUNK (z : FVec Ideal S288x512 .f32) (w : FVec Ideal S31x512 .f32) (cb g b : FVec Ideal S1x512 .f32) (c : ℕ) : FVec Ideal S64x512 .bf16 :=
  SWISH (SCALED (CENTRED (addf (TAPS z w c 31) (broadcastTo S64x512 cb broadcasts_S1x512_S64x512))) g b)

/-- The convolution part's output of the block. -/
def CONV (z : FVec Ideal S288x512 .f32) (w : FVec Ideal S31x512 .f32) (cb g b : FVec Ideal S1x512 .f32) : FVec Ideal S256x512 .bf16 :=
  concatenate S256x512 0 [⟨S64x512, CHUNK z w cb g b 0⟩, ⟨S64x512, CHUNK z w cb g b 64⟩, ⟨S64x512, CHUNK z w cb g b 128⟩, ⟨S64x512, CHUNK z w cb g b 192⟩]
    concatenates_S64x512_S64x512_S64x512_S64x512_S256x512_d0

/-- The factor of the second softmax. -/
def FACTOR (x11 : FVec Ideal S4x64 .f32) : FVec Ideal S1x1 .f32 :=
  k0_pay57 (F := Ideal) (View.ld (Val := Elt Ideal) (e' := .f32) x11 (Rect.unit (s := S4x64) ![0, 0] ![1, 64] inb_S4x64_S1x64_0_0))
    (View.ld (Val := Elt Ideal) (e' := .f32) x11 (Rect.unit (s := S4x64) ![1, 0] ![1, 64] inb_S4x64_S1x64_1_0))
    (View.ld (Val := Elt Ideal) (e' := .f32) x11 (Rect.unit (s := S4x64) ![2, 0] ![1, 64] inb_S4x64_S1x64_2_0))
    (View.ld (Val := Elt Ideal) (e' := .f32) x11 (Rect.unit (s := S4x64) ![3, 0] ![1, 64] inb_S4x64_S1x64_3_0))

/-- The lane number of each element. -/
abbrev LANE : IVec S256x128 32 := iota .tc S256x128 32 [1] iota_S256x128_d1_w32

/-- The queries times 1/8, the first 64 lanes in the upper rows and the last 64 in the lower rows, zero elsewhere. -/
def STACKED (q : FVec Ideal S256x128 .bf16) : FVec Ideal S512x128 .bf16 :=
  concatenate S512x128 0 [⟨S256x128, select (cmpi .slt LANE (broadcast S256x128 64#32)) (mulf q (broadcast S256x128 (Scalar.ofBits .bf16 0x3E00#16))) (broadcast S256x128 (Scalar.ofBits .bf16 0x0000#16))⟩,
    ⟨S256x128, select (cmpi .sge LANE (broadcast S256x128 64#32)) (mulf q (broadcast S256x128 (Scalar.ofBits .bf16 0x3E00#16))) (broadcast S256x128 (Scalar.ofBits .bf16 0x0000#16))⟩] concatenates_S256x128_S256x128_S512x128_d0

/-- The scores of both softmaxes. -/
def SCORE (q k : FVec Ideal S256x128 .bf16) : FVec Ideal S512x256 .f32 :=
  matmul dot_S512x128_S256x128_S512x256_1_1_0_0_n_n none (STACKED q) k (constant S512x256 .f32 0x00000000#32)

/-- The exponentials of the scores less the row's greatest. -/
def EXPS (s : FVec Ideal S512x256 .f32) : FVec Ideal S512x256 .f32 :=
  exp (subf s (broadcastTo S512x256 (shapeCast S512x1 (multiReduction .maximumf [1] S512 s 0xFF800000#32 reduces_S512x256_S512 (.inl rfl) rfl) shapeCasts_S512_S512x1) broadcasts_S512x1_S512x256))

/-- The exponentials over the row's sum. -/
def WEIGHTS (e : FVec Ideal S512x256 .f32) : FVec Ideal S512x256 .f32 :=
  mulf e (broadcastTo S512x256 (divf (broadcast S512x1 (Scalar.ofBits .f32 0x3F800000#32)) (shapeCast S512x1 (multiReduction .add [1] S512 e 0x00000000#32 reduces_S512x256_S512 (.inl rfl) rfl) shapeCasts_S512_S512x1)) broadcasts_S512x1_S512x256)

/-- The difference of the two softmaxes times the values. -/
def DIFF (lam : FVec Ideal S1x1 .f32) (p : FVec Ideal S512x256 .f32) (v : FVec Ideal S256x128 .bf16) : FVec Ideal S256x128 .f32 :=
  matmul dot_S256x256_S256x128_S256x128_1_0_0_1_n_n none (truncf .bf16 (subf (extractStridedSlice S256x256 ![0, 0] p slices_S512x256_o0_0_S256x256)
    (mulf (broadcastTo S256x256 lam broadcasts_S1x1_S256x256) (extractStridedSlice S256x256 ![256, 0] p slices_S512x256_o256_0_S256x256))) bitsLt_bf16_f32)
    v (constant S256x128 .f32 0x00000000#32)

/-- Rows over their root mean square, scaled by lane and by a constant. -/
def SUBNORM (o : FVec Ideal S256x128 .f32) (g : FVec Ideal S1x128 .f32) : FVec Ideal S256x128 .bf16 :=
  truncf .bf16 (mulf (mulf (mulf o (broadcastTo S256x128 (rsqrt (addf (divf (shapeCast S256x1 (multiReduction .add [1] S256 (mulf o o) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128))
    (broadcastTo S256x128 g broadcasts_S1x128_S256x128)) (broadcast S256x128 (Scalar.ofBits .f32 0x3F4CCCCD#32))) bitsLt_bf16_f32

/-- One head. -/
def HEAD (lam : FVec Ideal S1x1 .f32) (q k v : FVec Ideal S256x128 .bf16) (g : FVec Ideal S1x128 .f32) : FVec Ideal S256x128 .bf16 :=
  SUBNORM (DIFF lam (WEIGHTS (EXPS (SCORE q k))) v) g

/-- One head's lanes of an array. -/
abbrev LANES (x : FVec Ideal S256x512 .bf16) (o : ℕ) (h : ∀ a, (![0, o] : Fin 2 → ℕ) a + (![256, 128] : Fin 2 → ℕ) a ≤ S256x512.size a) :
    FVec Ideal S256x128 .bf16 :=
  View.ld (Val := Elt Ideal) (e' := .bf16) x (Rect.unit (s := S256x512) ![0, o] ![256, 128] h)

/-- One head of the block. -/
def HEADAT (x1 : FVec Ideal S256x512 .bf16) (x2 x3 : FVec Ideal S256x512 .f32) (x11 : FVec Ideal S4x64 .f32) (x12 : FVec Ideal S1x128 .f32)
    (o : ℕ) (h : ∀ a, (![0, o] : Fin 2 → ℕ) a + (![256, 128] : Fin 2 → ℕ) a ≤ S256x512.size a) : FVec Ideal S256x128 .bf16 :=
  HEAD (FACTOR x11) (LANES x1 o h) (LANES (k0_pay2 (F := Ideal) x2) o h) (LANES (k0_pay3 (F := Ideal) x3) o h) x12

/-- The convolution part and the four heads, side by side. -/
def JOINED (cv : FVec Ideal S256x512 .bf16) (h0 h1 h2 h3 : FVec Ideal S256x128 .bf16) : FVec Ideal S256x1024 .bf16 :=
  concatenate S256x1024 1 [⟨S256x512, cv⟩, ⟨S256x128, h0⟩, ⟨S256x128, h1⟩, ⟨S256x128, h2⟩, ⟨S256x128, h3⟩]
    concatenates_S256x512_S256x128_S256x128_S256x128_S256x128_S256x1024_d1

/-- The output projection. -/
abbrev MIXED (o : FVec Ideal S256x1024 .bf16) (w : FVec Ideal S1024x1024 .bf16) : FVec Ideal S256x1024 .f32 :=
  matmul dot_S256x1024_S1024x1024_S256x1024_1_0_0_1_n_n none o (shapeCast S1024x1024 w shapeCasts_S1024x1024_S1024x1024) (constant S256x1024 .f32 0x00000000#32)

/-- The residual plus the gated, normalised output projection. -/
def TAIL (o : FVec Ideal S256x1024 .bf16) (x4 : FVec Ideal S256x1024 .f32) (x5 : FVec Ideal S1x6x1024 .f32) (x6 : FVec Ideal S4x1024 .f32)
    (x13 : FVec Ideal S1024x1024 .bf16) : FVec Ideal S256x1024 .f32 :=
  k0_pay1 (F := Ideal) (MIXED o x13) x4
    (View.ld (Val := Elt Ideal) (e' := .f32) x5 (Rect.unit (s := S1x6x1024) ![0, 2, 0] ![1, 1, 1024] inb_S1x6x1024_S1x1x1024_0_2_0))
    (View.ld (Val := Elt Ideal) (e' := .f32) x6 (Rect.unit (s := S4x1024) ![1, 0] ![1, 1024] inb_S4x1024_S1x1024_1_0))

variable (m : (ℓ : Loc nD τ sig) → Buf (Elt Ideal) ℓ)

/-- What the body leaves in the output's block. -/
theorem body (c : Dev nD) (t : Fin (cfgs 0).N) (y) :
    (dats m 0 c).after 14 t y = TAIL (JOINED (CONV (PADDED (iblk m c 0 t)) (iblk m c 7 t) (iblk m c 8 t) (iblk m c 9 t) (iblk m c 10 t))
      (HEADAT (iblk m c 1 t) (iblk m c 2 t) (iblk m c 3 t) (iblk m c 11 t) (iblk m c 12 t) 0 inb_S256x512_S256x128_0_0)
      (HEADAT (iblk m c 1 t) (iblk m c 2 t) (iblk m c 3 t) (iblk m c 11 t) (iblk m c 12 t) 128 inb_S256x512_S256x128_0_128)
      (HEADAT (iblk m c 1 t) (iblk m c 2 t) (iblk m c 3 t) (iblk m c 11 t) (iblk m c 12 t) 256 inb_S256x512_S256x128_0_256)
      (HEADAT (iblk m c 1 t) (iblk m c 2 t) (iblk m c 3 t) (iblk m c 11 t) (iblk m c 12 t) 384 inb_S256x512_S256x128_0_384))
      (iblk m c 4 t) (iblk m c 5 t) (iblk m c 6 t) (iblk m c 13 t) y := by
  rw [after0_14]
  unfold outsAt0
  frame_out
  simp only [scratch_read (s := S256x512) origin, scratch_read (s := S288x512) origin, window_filled, window_read, copy_whole, slot_read, rows_read, weight_read]
  rfl

end Cert.MixIdeal.Proved

end
-- ==== Proof.MixPoints.lean ====
module

public import proofs.«01_k».proof.Proof.Mixer
public import proofs.«01_k».proof.Proof.MixBody

@[expose] public section

set_option maxRecDepth 16384

noncomputable section

open Idealize.ShloMosaic Idealize.ShloMosaic.TcCoe Idealize.SL.Sem

namespace Cert.MixIdeal.Proved

open Cert.MixIdeal Cert.MixIdeal.Gen

/-- The padded window, number by number: its row `i + 1` is row `i` of the fifteen-row padding. -/
theorem padded_at (u : FVec Ideal S256x1024 .f32) (i : ℕ) (hi : i + 1 < 288) (l : Fin 512) :
    PADDED u (ix2 ⟨i + 1, hi⟩ l) = Mixer.window (fun i j => u (ix2 i j)) l i := by
  by_cases h : 15 ≤ i ∧ i - 15 < 256
  · have h' : 16 ≤ i + 1 ∧ i + 1 < 272 := by omega
    refine (dif_pos h').trans (Eq.trans ?_ (dif_pos h).symm)
    show _ * Ideal.div 1 (1 + Ideal.exp (0 - _)) = Mixer.gate _ _
    rw [zero_sub]
    rfl
  · refine (padded_zero u _ (by show ¬ (16 ≤ i + 1 ∧ i + 1 < 272); omega)).trans ?_
    unfold Mixer.window
    rw [dif_neg h]

/-- A slab of one slot of the copies, number by number. -/
theorem slab_at (z : FVec Ideal S1x64x512 .f32) (r : Fin 64) (l : Fin 512) :
    shapeCast S64x512 z shapeCasts_S1x64x512_S64x512 (ix2 r l) = z (ix3 0 r l) := by
  pointwise []

/-- A tap's rows, number by number. -/
theorem tap_at (z : FVec Ideal S288x512 .f32) (c n : ℕ) (r : Fin 64) (l : Fin 512) (h : c + r.val + n + 1 < 288) :
    TAP z c n (ix2 r l) = z (ix2 ⟨c + r.val + n + 1, h⟩ l) := by
  have e : (c + n + 1 + r.val) % 288 = c + r.val + n + 1 := by omega
  unfold TAP
  cases Nat.beq (n % 8) 7
  · exact (slab_at (SLOT z (c + n + 1)) r l).trans (congrArg (fun k => z (ix2 k l)) (Fin.ext e))
  · exact congrArg (fun k => z (ix2 k l)) (Fin.ext e)

/-- A tap added to the sum, number by number. -/
theorem add_tap_at (s t : FVec Ideal S64x512 .f32) (w : FVec Ideal S1x512 .f32) (r : Fin 64) (l : Fin 512) :
    addf s (mulf t (broadcastTo S64x512 w broadcasts_S1x512_S64x512)) (ix2 r l) = s (ix2 r l) + t (ix2 r l) * w (ix2 0 l) := by
  pointwise []

/-- The sum of no taps is zero. -/
theorem no_tap_at (r : Fin 64) (l : Fin 512) : (broadcast S64x512 (Scalar.ofBits .f32 0x00000000#32) : FVec Ideal S64x512 .f32) (ix2 r l) = 0 := by
  pointwise []

/-- The taps' sum, number by number. -/
theorem taps_at (u : FVec Ideal S256x1024 .f32) (w : FVec Ideal S31x512 .f32) (c : ℕ) (r : Fin 64) (l : Fin 512) (hc : c + 64 ≤ 256) (n : ℕ) (hn : n ≤ 31) :
    TAPS (PADDED u) w c n (ix2 r l) = Mixer.taps (fun n => Mixer.window (fun i j => u (ix2 i j)) l (c + r.val + n))
      (fun n => w (ix2 ⟨n % 31, Nat.mod_lt _ (by decide)⟩ l)) n := by
  induction n with
  | zero => exact no_tap_at r l
  | succ n ih =>
    refine (add_tap_at _ _ _ r l).trans (congrArg₂ (· + ·) (ih (Nat.le_of_succ_le hn)) (congrArg₂ (· * ·) ?_ ?_))
    · exact (tap_at _ c n r l (by omega)).trans (padded_at u _ _ l)
    · rfl

/-- Centred rows, number by number. -/
theorem centred_at (s : FVec Ideal S64x512 .f32) (r : Fin 64) (l : Fin 512) : CENTRED s (ix2 r l) = Mixer.centred (fun l => s (ix2 r l)) l := by
  pointwise [CENTRED, Mixer.centred]

/-- Scaled rows, number by number. -/
theorem scaled_at (s : FVec Ideal S64x512 .f32) (g b : FVec Ideal S1x512 .f32) (r : Fin 64) (l : Fin 512) :
    SCALED s g b (ix2 r l) = Mixer.scaled (fun l => s (ix2 r l)) (g (ix2 0 l)) (b (ix2 0 l)) l := by
  pointwise [SCALED, Mixer.scaled]

/-- The logistic-weighted numbers. -/
theorem swish_at (s : FVec Ideal S64x512 .f32) (r : Fin 64) (l : Fin 512) : SWISH s (ix2 r l) = Mixer.swish (s (ix2 r l)) := by
  pointwise [SWISH, Mixer.swish]
  rw [zero_sub]

/-- A bias added to each row. -/
theorem biased_at (s : FVec Ideal S64x512 .f32) (g : FVec Ideal S1x512 .f32) (r : Fin 64) (l : Fin 512) :
    addf s (broadcastTo S64x512 g broadcasts_S1x512_S64x512) (ix2 r l) = s (ix2 r l) + g (ix2 0 l) := by
  pointwise []

/-- 64 rows of the convolution part, number by number. -/
theorem chunk_at (u : FVec Ideal S256x1024 .f32) (w : FVec Ideal S31x512 .f32) (cb g b : FVec Ideal S1x512 .f32) (c : ℕ) (hc : c + 64 ≤ 256)
    (r : Fin 64) (l : Fin 512) :
    CHUNK (PADDED u) w cb g b c (ix2 r l) = Mixer.convPart (fun i j => u (ix2 i j)) (fun n l => w (ix2 n l))
      (fun l => cb (ix2 0 l)) (fun l => g (ix2 0 l)) (fun l => b (ix2 0 l)) ⟨c + r.val, by omega⟩ l := by
  unfold CHUNK
  simp only [swish_at, scaled_at, centred_at, biased_at, taps_at u w c r _ hc 31 le_rfl]
  rfl

/-- Four slabs of 64 rows are an array, when each is that array's rows. -/
theorem slabs_at (a b c d : FVec Ideal S64x512 .bf16) (l : Fin 512) (R : Fin 256 → EReal)
    (h0 : ∀ r : Fin 64, a (ix2 r l) = R ⟨0 + r.val, by omega⟩) (h1 : ∀ r : Fin 64, b (ix2 r l) = R ⟨64 + r.val, by omega⟩)
    (h2 : ∀ r : Fin 64, c (ix2 r l) = R ⟨128 + r.val, by omega⟩) (h3 : ∀ r : Fin 64, d (ix2 r l) = R ⟨192 + r.val, by omega⟩) (r : Fin 256) :
    concatenate S256x512 0 [⟨S64x512, a⟩, ⟨S64x512, b⟩, ⟨S64x512, c⟩, ⟨S64x512, d⟩] concatenates_S64x512_S64x512_S64x512_S64x512_S256x512_d0 (ix2 r l) = R r := by
  pointwise []
  simp only [h0, h1, h2, h3]
  split_ifs <;> exact congrArg R (Fin.ext (by simp; try omega))

/-- The convolution part, number by number. -/
theorem conv_at (u : FVec Ideal S256x1024 .f32) (w : FVec Ideal S31x512 .f32) (cb g b : FVec Ideal S1x512 .f32) (r : Fin 256) (l : Fin 512) :
    CONV (PADDED u) w cb g b (ix2 r l) = Mixer.convPart (fun i j => u (ix2 i j)) (fun n l => w (ix2 n l))
      (fun l => cb (ix2 0 l)) (fun l => g (ix2 0 l)) (fun l => b (ix2 0 l)) r l :=
  slabs_at _ _ _ _ l (fun r => Mixer.convPart _ _ _ _ _ r l) (fun r => chunk_at u w cb g b 0 (by decide) r l) (fun r => chunk_at u w cb g b 64 (by decide) r l)
    (fun r => chunk_at u w cb g b 128 (by decide) r l) (fun r => chunk_at u w cb g b 192 (by decide) r l) r

/-- The comparison of a lane number with 64, as a bit. -/
theorem lane_lt : ∀ l : Fin 128, IntOp.cmpi CmpIPredicate.slt (BitVec.ofNat 32 l.val) 64#32 = if l.val < 64 then 1#1 else 0#1 := by
  decide +kernel

/-- The comparison of a lane number with 64, the other way. -/
theorem lane_ge : ∀ l : Fin 128, IntOp.cmpi CmpIPredicate.sge (BitVec.ofNat 32 l.val) 64#32 = if l.val < 64 then 0#1 else 1#1 := by
  decide +kernel

/-- The upper rows of the stacked queries hold the first half-head's lanes. -/
theorem upper_at (q : FVec Ideal S256x128 .bf16) (r : Fin 256) (l : Fin 128) :
    STACKED q (ix2 ⟨r.val, by omega⟩ l) = if l.val < 64 then q (ix2 r l) * Ideal.ofBits .bf16 0x3E00#16 else 0 := by
  pointwise [STACKED]
  rw [lane_lt]
  split_ifs <;> rfl

/-- The lower rows of the stacked queries hold the second half-head's lanes. -/
theorem lower_at (q : FVec Ideal S256x128 .bf16) (r : Fin 256) (l : Fin 128) :
    STACKED q (ix2 ⟨256 + r.val, by omega⟩ l) = if l.val < 64 then 0 else q (ix2 r l) * Ideal.ofBits .bf16 0x3E00#16 := by
  have h : ¬ 256 + r.val < 256 := by omega
  have e : 256 + r.val - 256 = r.val := by omega
  pointwise [STACKED]
  rw [lane_ge]
  split_ifs <;> rfl

/-- A score, as a sum over the 128 lanes. -/
theorem score_at (q k : FVec Ideal S256x128 .bf16) (r : Fin 512) (x : Fin 256) : SCORE q k (ix2 r x) = ∑ e, STACKED q (ix2 r e) * k (ix2 x e) := by
  pointwise [SCORE]

/-- The upper rows' scores are the first half-head's. -/
theorem low_at (q k : FVec Ideal S256x128 .bf16) (r x : Fin 256) :
    SCORE q k (ix2 ⟨r.val, by omega⟩ x) = Mixer.low (fun r e => q (ix2 r e)) (fun r e => k (ix2 r e)) r x := by
  rw [score_at]
  simp only [upper_at]
  rw [Softmax.sum_low _ fun e he => by rw [if_neg (by omega), zero_mul]]
  unfold Mixer.low Mixer.score
  exact Finset.sum_congr rfl fun e _ => by rw [if_pos e.isLt]

/-- The lower rows' scores are the second half-head's. -/
theorem high_at (q k : FVec Ideal S256x128 .bf16) (r x : Fin 256) :
    SCORE q k (ix2 ⟨256 + r.val, by omega⟩ x) = Mixer.high (fun r e => q (ix2 r e)) (fun r e => k (ix2 r e)) r x := by
  rw [score_at]
  simp only [lower_at]
  rw [Softmax.sum_high _ fun e he => by rw [if_pos he, zero_mul]]
  unfold Mixer.high Mixer.score
  exact Finset.sum_congr rfl fun e _ => by rw [if_neg (by simp)]

/-- A weight of a softmax, for finite scores. -/
theorem weights_at (s : FVec Ideal S512x256 .f32) (r : Fin 512) (x : Fin 256) (h : ∀ x, s (ix2 r x) ≠ ⊤ ∧ s (ix2 r x) ≠ ⊥) :
    WEIGHTS (EXPS s) (ix2 r x) = Mixer.soft (fun x => s (ix2 r x)) x := by
  pointwise [WEIGHTS, EXPS]
  rw [Softmax.lowest]
  exact Mixer.soft_reciprocal (fun x => s (ix2 r x)) (fun x => (h x).1) (fun x => (h x).2) x

/-- The difference of the softmaxes times the values, number by number. -/
theorem diff_at (lam : FVec Ideal S1x1 .f32) (p : FVec Ideal S512x256 .f32) (v : FVec Ideal S256x128 .bf16) (r : Fin 256) (l : Fin 128) :
    DIFF lam p v (ix2 r l) = Mixer.diff (lam (ix2 0 0)) (fun x => p (ix2 ⟨r.val, by omega⟩ x)) (fun x => p (ix2 ⟨256 + r.val, by omega⟩ x)) (fun x => v (ix2 x l)) := by
  pointwise [DIFF, Mixer.diff]

/-- The normalised head, number by number. -/
theorem subnorm_at (o : FVec Ideal S256x128 .f32) (g : FVec Ideal S1x128 .f32) (r : Fin 256) (l : Fin 128) :
    SUBNORM o g (ix2 r l) = Mixer.subnorm (fun l => o (ix2 r l)) (g (ix2 0 l)) l := by
  pointwise [SUBNORM, Mixer.subnorm]

/-- A head's output, number by number, for finite queries and keys. -/
theorem head_at (lam : FVec Ideal S1x1 .f32) (q k v : FVec Ideal S256x128 .bf16) (g : FVec Ideal S1x128 .f32)
    (hq : ∀ r e, q (ix2 r e) ≠ ⊤ ∧ q (ix2 r e) ≠ ⊥) (hk : ∀ r e, k (ix2 r e) ≠ ⊤ ∧ k (ix2 r e) ≠ ⊥) (r : Fin 256) (l : Fin 128) :
    HEAD lam q k v g (ix2 r l) = Mixer.headPart (lam (ix2 0 0)) (fun r e => q (ix2 r e)) (fun r e => k (ix2 r e)) (fun r e => v (ix2 r e)) (fun l => g (ix2 0 l)) r l := by
  have hl : ∀ x, SCORE q k (ix2 ⟨r.val, by omega⟩ x) ≠ ⊤ ∧ SCORE q k (ix2 ⟨r.val, by omega⟩ x) ≠ ⊥ := fun x => by
    rw [low_at]
    exact Mixer.score_real _ _ (fun e => hq _ _) (fun e => hk _ _)
  have hh : ∀ x, SCORE q k (ix2 ⟨256 + r.val, by omega⟩ x) ≠ ⊤ ∧ SCORE q k (ix2 ⟨256 + r.val, by omega⟩ x) ≠ ⊥ := fun x => by
    rw [high_at]
    exact Mixer.score_real _ _ (fun e => hq _ _) (fun e => hk _ _)
  unfold HEAD
  simp only [subnorm_at, diff_at, weights_at _ _ _ hl, weights_at _ _ _ hh, low_at, high_at]
  rfl

/-- The factor of the second softmax from its four rows. -/
theorem pay57_at (a b c d : FVec Ideal S1x64 .f32) : k0_pay57 (F := Ideal) a b c d (ix2 0 0)
    = Ideal.exp (∑ x, a (ix2 0 x) * b (ix2 0 x)) - Ideal.exp (∑ x, c (ix2 0 x) * d (ix2 0 x)) + Ideal.ofBits .f32 0x3E4CCCCD#32 := by
  pointwise [k0_pay57]

/-- The factor of the second softmax. -/
theorem factor_at (x : FVec Ideal S4x64 .f32) : FACTOR x (ix2 0 0) = Mixer.factor (fun i e => x (ix2 i e)) := by
  have row : ∀ (n : Fin 4) (h : ∀ a, (![n.val, 0] : Fin 2 → ℕ) a + (![1, 64] : Fin 2 → ℕ) a ≤ S4x64.size a) (e : Fin 64),
      View.ld (Val := Elt Ideal) (e' := .f32) x (Rect.unit (s := S4x64) ![n.val, 0] ![1, 64] h) (ix2 0 e) = x (ix2 n e) := fun n h e =>
    congrArg x (funext (Fin.forall_fin_two.mpr ⟨Fin.ext (by simp), Fin.ext (by simp)⟩))
  refine (pay57_at _ _ _ _).trans ?_
  refine congrArg₂ (· + ·) (congrArg₂ (· - ·) (congrArg Ideal.exp (Finset.sum_congr rfl fun e _ => congrArg₂ (· * ·) (row 0 _ e) (row 1 _ e)))
    (congrArg Ideal.exp (Finset.sum_congr rfl fun e _ => congrArg₂ (· * ·) (row 2 _ e) (row 3 _ e)))) rfl

/-- The convolution part and the four heads side by side are an array, when each is that array's columns. -/
theorem joined_at (cv : FVec Ideal S256x512 .bf16) (h0 h1 h2 h3 : FVec Ideal S256x128 .bf16) (r : Fin 256) (R : Fin 1024 → EReal)
    (hc : ∀ l : Fin 512, cv (ix2 r l) = R ⟨l.val, by omega⟩) (e0 : ∀ l : Fin 128, h0 (ix2 r l) = R ⟨512 + l.val, by omega⟩)
    (e1 : ∀ l : Fin 128, h1 (ix2 r l) = R ⟨640 + l.val, by omega⟩) (e2 : ∀ l : Fin 128, h2 (ix2 r l) = R ⟨768 + l.val, by omega⟩)
    (e3 : ∀ l : Fin 128, h3 (ix2 r l) = R ⟨896 + l.val, by omega⟩) (j : Fin 1024) : JOINED cv h0 h1 h2 h3 (ix2 r j) = R j := by
  pointwise [JOINED]
  simp only [hc, e0, e1, e2, e3]
  split_ifs <;> exact congrArg R (Fin.ext (by simp; try omega))

end Cert.MixIdeal.Proved

end
-- ==== Proof.MixReference.lean ====
module

public import proofs.«01_k».proof.Proof.Gen.MixRefIdeal.Run
public import proofs.«01_k».proof.Proof.Softmax
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Idealize.ShloMosaic.StableHlo

namespace Cert.MixRefIdeal.Proved

open Cert.MixRefIdeal Cert.MixRefIdeal.Gen

/-- One over one plus the exponential of the negated numbers. -/
abbrev LOGISTIC (x : FVec Ideal S32x256x512 .f32) : FVec Ideal S32x256x512 .f32 :=
  Host.divf (broadcastInDim S32x256x512 ![] bcast_S_S32x256x512 (constant S_ .f32 0x3F800000#32))
    (addf (broadcastInDim S32x256x512 ![] bcast_S_S32x256x512 (constant S_ .f32 0x3F800000#32)) (Host.exp (Host.negf x)))

/-- The sequences' gated rows, fifteen rows of zeros before and after. -/
def PADDED (u : FVec Ideal S8192x1024 .f32) : FVec Ideal S32x286x512 .f32 :=
  pad S32x286x512 ![0, 15, 0] ![0, 15, 0] ![0, 0, 0]
    (mulf (extractStridedSlice S32x256x512 ![0, 0, 0] (shapeCast S32x256x1024 u shapeCasts_S8192x1024_S32x256x1024) slices_S32x256x1024_S32x256x512_0_0_0)
      (LOGISTIC (extractStridedSlice S32x256x512 ![0, 0, 512] (shapeCast S32x256x1024 u shapeCasts_S8192x1024_S32x256x1024) slices_S32x256x1024_S32x256x512_0_0_512)))
    (sitofp .f32 (constantI S_ 32 0#32)) pads_S32x256x512_S32x286x512_000_15150_000 h_S_

/-- A tap's rows lie in the padded array. -/
theorem tap_inside {n : ℕ} (h : n < 31) : S32x286x512.Slices ![0, n, 0] S32x256x512 :=
  ⟨rfl, fun a => match a with
    | 0 => (by decide : 0 + 32 ≤ 32)
    | 1 => (by omega : n + 256 ≤ 286)
    | 2 => (by decide : 0 + 512 ≤ 512)⟩

/-- A tap's weights lie in the weights. -/
theorem weight_inside {n : ℕ} (h : n < 31) : S31x512.Slices ![n, 0] S1x512 :=
  ⟨rfl, fun a => match a with
    | 0 => (by omega : n + 1 ≤ 31)
    | 1 => (by decide : 0 + 512 ≤ 512)⟩

/-- One tap of the convolution. -/
def TAP (z : FVec Ideal S32x286x512 .f32) (w : FVec Ideal S31x512 .f32) (n : ℕ) (h : n < 31) : FVec Ideal S32x256x512 .f32 :=
  mulf (extractStridedSlice S32x256x512 ![0, n, 0] z (tap_inside h)) (broadcastInDim S32x256x512 ![0, 1, 2] bcast_S1x1x512_S32x256x512_0_1_2
    (broadcastInDim S1x1x512 ![2] bcast_S512_S1x1x512_2 (shapeCast S512 (extractStridedSlice S1x512 ![n, 0] w (weight_inside h)) shapeCasts_S1x512_S512)))

/-- The taps from the first up to tap `n`, summed. -/
def TAPS (z : FVec Ideal S32x286x512 .f32) (w : FVec Ideal S31x512 .f32) : (n : ℕ) → n < 31 → FVec Ideal S32x256x512 .f32
  | 0, h => TAP z w 0 h
  | n + 1, h => addf (TAPS z w n (Nat.lt_of_succ_lt h)) (TAP z w (n + 1) h)

/-- A row of 512 numbers broadcast over the rows. -/
abbrev ROW (g : FVec Ideal S1x512 .f32) : FVec Ideal S32x256x512 .f32 :=
  broadcastInDim S32x256x512 ![0, 1, 2] bcast_S1x1x512_S32x256x512_0_1_2 (broadcastInDim S1x1x512 ![1, 2] bcast_S1x512_S1x1x512_1_2 g)

/-- The mean of each row. -/
abbrev MEAN (s : FVec Ideal S32x256x512 .f32) : FVec Ideal S32x256x1 .f32 :=
  Host.divf (broadcastInDim S32x256x1 ![0, 1] bcast_S32x256_S32x256x1_0_1 (Host.reduceAdd s (constant S_ .f32 0x00000000#32) reducesTo_S32x256x512_S32x256_d2 h_S_))
    (broadcastInDim S32x256x1 ![] bcast_S_S32x256x1 (constant S_ .f32 0x44000000#32))

/-- Rows less their mean. -/
def CENTRED (s : FVec Ideal S32x256x512 .f32) : FVec Ideal S32x256x512 .f32 :=
  subf s (broadcastInDim S32x256x512 ![0, 1, 2] bcast_S32x256x1_S32x256x512_0_1_2 (MEAN s))

/-- Centred rows over their standard deviation, scaled and shifted by lane. -/
def SCALED (d : FVec Ideal S32x256x512 .f32) (g b : FVec Ideal S1x512 .f32) : FVec Ideal S32x256x512 .f32 :=
  addf (mulf (mulf d (broadcastInDim S32x256x512 ![0, 1, 2] bcast_S32x256x1_S32x256x512_0_1_2 (Host.rsqrt (addf (MEAN (mulf d d))
    (broadcastInDim S32x256x1 ![] bcast_S_S32x256x1 (constant S_ .f32 0x358637BD#32)))))) (ROW g)) (ROW b)

/-- Each number times its logistic function. -/
def SWISH (s : FVec Ideal S32x256x512 .f32) : FVec Ideal S32x256x512 .f32 := mulf s (LOGISTIC s)

/-- The scores of the two softmaxes of each head. -/
def SCORES (q : FVec Ideal S8192x512 .bf16) (k : FVec Ideal S8192x512 .f32) : FVec Ideal S32x4x2x256x256 .f32 :=
  mulf (Host.dotGeneral dot_S32x256x4x2x64_S32x256x4x2x64_S32x4x2x256x256_4_4_1_1_023_023 none
    (shapeCast S32x256x4x2x64 (extf .f32 q bitsLt_bf16_f32) shapeCasts_S8192x512_S32x256x4x2x64) (shapeCast S32x256x4x2x64 k shapeCasts_S8192x512_S32x256x4x2x64))
    (broadcastInDim S32x4x2x256x256 ![] bcast_S_S32x4x2x256x256 (constant S_ .f32 0x3E000000#32))

/-- The greatest score of each row. -/
def TOP (s : FVec Ideal S32x4x2x256x256 .f32) : FVec Ideal S32x4x2x256 .f32 :=
  maximumf (broadcastInDim S32x4x2x256 ![] bcast_S_S32x4x2x256 (constant S_ .f32 0xFF800000#32))
    (Host.reduce FloatOps.maximumf s (constant S_ .f32 0xFF800000#32) reducesTo_S32x4x2x256x256_S32x4x2x256_d4 h_S_)

/-- A number per row, broadcast over the row. -/
abbrev OVER (x : FVec Ideal S32x4x2x256 .f32) : FVec Ideal S32x4x2x256x256 .f32 :=
  broadcastInDim S32x4x2x256x256 ![0, 1, 2, 3, 4] bcast_S32x4x2x256x1_S32x4x2x256x256_0_1_2_3_4
    (broadcastInDim S32x4x2x256x1 ![0, 1, 2, 3] bcast_S32x4x2x256_S32x4x2x256x1_0_1_2_3 x)

/-- The exponentials of the scores less the row's greatest. -/
def EXPS (s : FVec Ideal S32x4x2x256x256 .f32) : FVec Ideal S32x4x2x256x256 .f32 := Host.exp (subf s (OVER (TOP s)))

/-- The softmaxes' weights. -/
def WEIGHTS (e : FVec Ideal S32x4x2x256x256 .f32) : FVec Ideal S32x4x2x256x256 .f32 :=
  Host.divf e (OVER (Host.reduceAdd e (constant S_ .f32 0x00000000#32) reducesTo_S32x4x2x256x256_S32x4x2x256_d4 h_S_))

/-- The factor of the second softmax. -/
def FACTOR (x : FVec Ideal S4x64 .f32) : FVec Ideal S_ .f32 :=
  addf (subf (Host.exp (Host.reduceAdd (mulf (shapeCast S64 (extractStridedSlice S1x64 ![0, 0] x slices_S4x64_S1x64_0_0) shapeCasts_S1x64_S64)
      (shapeCast S64 (extractStridedSlice S1x64 ![1, 0] x slices_S4x64_S1x64_1_0) shapeCasts_S1x64_S64)) (constant S_ .f32 0x00000000#32) reducesTo_S64_S_d0 h_S_))
    (Host.exp (Host.reduceAdd (mulf (shapeCast S64 (extractStridedSlice S1x64 ![2, 0] x slices_S4x64_S1x64_2_0) shapeCasts_S1x64_S64)
      (shapeCast S64 (extractStridedSlice S1x64 ![3, 0] x slices_S4x64_S1x64_3_0) shapeCasts_S1x64_S64)) (constant S_ .f32 0x00000000#32) reducesTo_S64_S_d0 h_S_)))
    (constant S_ .f32 0x3E4CCCCD#32)

/-- The difference of the two softmaxes times the values. -/
def DIFF (lam : FVec Ideal S_ .f32) (p : FVec Ideal S32x4x2x256x256 .f32) (v : FVec Ideal S8192x512 .f32) : FVec Ideal S32x256x4x128 .f32 :=
  transpose S32x256x4x128 [0, 3, 1, 2] (Host.dotGeneral dot_S32x256x4x128_S32x4x256x256_S32x4x128x256_1_3_3_2_02_01 none
    (shapeCast S32x256x4x128 v shapeCasts_S8192x512_S32x256x4x128)
    (subf (shapeCast S32x4x256x256 (extractStridedSlice S32x4x1x256x256 ![0, 0, 0, 0, 0] p slices_S32x4x2x256x256_S32x4x1x256x256_0_0_0_0_0) shapeCasts_S32x4x1x256x256_S32x4x256x256)
      (mulf (broadcastInDim S32x4x256x256 ![] bcast_S_S32x4x256x256 lam)
        (shapeCast S32x4x256x256 (extractStridedSlice S32x4x1x256x256 ![0, 0, 1, 0, 0] p slices_S32x4x2x256x256_S32x4x1x256x256_0_0_1_0_0) shapeCasts_S32x4x1x256x256_S32x4x256x256))))
    transposes_S32x4x128x256_S32x256x4x128_0_3_1_2

/-- Rows over their root mean square, scaled by lane and by a constant. -/
def SUBNORM (o : FVec Ideal S32x256x4x128 .f32) (g : FVec Ideal S1x128 .f32) : FVec Ideal S32x256x512 .f32 :=
  shapeCast S32x256x512 (mulf (mulf (mulf o (broadcastInDim S32x256x4x128 ![0, 1, 2, 3] bcast_S32x256x4x1_S32x256x4x128_0_1_2_3
    (Host.rsqrt (addf (Host.divf (broadcastInDim S32x256x4x1 ![0, 1, 2] bcast_S32x256x4_S32x256x4x1_0_1_2 (Host.reduceAdd (mulf o o) (constant S_ .f32 0x00000000#32) reducesTo_S32x256x4x128_S32x256x4_d3 h_S_))
      (broadcastInDim S32x256x4x1 ![] bcast_S_S32x256x4x1 (constant S_ .f32 0x43000000#32))) (broadcastInDim S32x256x4x1 ![] bcast_S_S32x256x4x1 (constant S_ .f32 0x358637BD#32))))))
    (broadcastInDim S32x256x4x128 ![0, 1, 2, 3] bcast_S1x1x1x128_S32x256x4x128_0_1_2_3 (broadcastInDim S1x1x1x128 ![2, 3] bcast_S1x128_S1x1x1x128_2_3 g)))
    (broadcastInDim S32x256x4x128 ![] bcast_S_S32x256x4x128 (constant S_ .f32 0x3F4CCCCD#32))) shapeCasts_S32x256x4x128_S32x256x512

/-- The two parts side by side. -/
def JOINED (a b : FVec Ideal S32x256x512 .f32) : FVec Ideal S32x256x1024 .f32 :=
  concatenate S32x256x1024 2 [⟨S32x256x512, a⟩, ⟨S32x256x512, b⟩] concatenates_S32x256x512_S32x256x512_S32x256x1024_d2

/-- The output projection. -/
abbrev MIXED (o : FVec Ideal S32x256x1024 .f32) (w : FVec Ideal S1024x1024 .f32) : FVec Ideal S8192x1024 .f32 :=
  shapeCast S8192x1024 (Host.dotGeneral dot_S32x256x1024_S1024x1024_S32x256x1024_2_0_01_1_n_n none o w) shapeCasts_S32x256x1024_S8192x1024

/-- The root-mean-square factor of each row, broadcast over the row. -/
abbrev RMS (x : FVec Ideal S8192x1024 .f32) : FVec Ideal S8192x1024 .f32 :=
  broadcastInDim S8192x1024 ![0, 1] bcast_S8192x1_S8192x1024_0_1 (Host.rsqrt (addf (Host.divf
    (broadcastInDim S8192x1 ![0] bcast_S8192_S8192x1_0
      (Host.reduceAdd (mulf x x) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))))

/-- A row of 1024 numbers broadcast over the 8192 rows. -/
abbrev WIDE (x : FVec Ideal S1024 .f32) : FVec Ideal S8192x1024 .f32 :=
  broadcastInDim S8192x1024 ![0, 1] bcast_S1x1024_S8192x1024_0_1 (broadcastInDim S1x1024 ![1] bcast_S1024_S1x1024_1 x)

/-- The residual plus the gated, normalised output projection of `o`. -/
def TAIL (o : FVec Ideal S32x256x1024 .f32) (x : FVec Ideal S8192x1024 .f32) (md : FVec Ideal S8x6x1024 .f32) (g : FVec Ideal S4x1024 .f32)
    (w : FVec Ideal S1024x1024 .f32) : FVec Ideal S8192x1024 .f32 :=
  addf x (mulf (WIDE (shapeCast _ (extractStridedSlice S1x1x1024 ![0, 2, 0] md slices_S8x6x1024_S1x1x1024_0_2_0) shapeCasts_S1x1x1024_S1024))
    (mulf (mulf (MIXED o w) (RMS (MIXED o w)))
      (WIDE (shapeCast _ (extractStridedSlice S1x1024 ![1, 0] g slices_S4x1024_S1x1024_1_0) shapeCasts_S1x1024_S1024))))

/-- The convolution part's output. -/
def CONV (u : FVec Ideal S8192x1024 .f32) (w : FVec Ideal S31x512 .f32) (cb g b : FVec Ideal S1x512 .f32) : FVec Ideal S32x256x512 .f32 :=
  SWISH (SCALED (CENTRED (addf (TAPS (PADDED u) w 30 (by decide)) (ROW cb))) g b)

/-- The heads' output. -/
def HEADS (q : FVec Ideal S8192x512 .bf16) (k v : FVec Ideal S8192x512 .f32) (x : FVec Ideal S4x64 .f32) (g : FVec Ideal S1x128 .f32) :
    FVec Ideal S32x256x512 .f32 :=
  SUBNORM (DIFF (FACTOR x) (WEIGHTS (EXPS (SCORES q k))) v) g

variable (m : (ℓ : Loc nD τ sig) → Buf (Elt Ideal) ℓ)

/-- The reference's convolution, by its layers. -/
theorem conv_result (c : Dev nD) : Value.res_main_v251 (launchContents m c) = SCALED (CENTRED (addf (TAPS (PADDED (m ((c.tc : Thread nD τ).loc main_arg0)))
      (m ((c.tc : Thread nD τ).loc main_arg7)) 30 (by decide)) (ROW (m ((c.tc : Thread nD τ).loc main_arg8)))))
      (m ((c.tc : Thread nD τ).loc main_arg9)) (m ((c.tc : Thread nD τ).loc main_arg10)) := by
  rfl

/-- The reference's heads, by their layers. -/
theorem diff_result (c : Dev nD) : Value.res_main_v295 (launchContents m c) = DIFF (FACTOR (m ((c.tc : Thread nD τ).loc main_arg11))) (WEIGHTS (EXPS (SCORES
      (m ((c.tc : Thread nD τ).loc main_arg1)) (m ((c.tc : Thread nD τ).loc main_arg2))))) (m ((c.tc : Thread nD τ).loc main_arg3)) := by
  rfl

/-- The reference's output projection, by its layers. -/
theorem mixed_result (c : Dev nD) : Value.res_main_v316 (launchContents m c) = MIXED (JOINED
      (CONV (m ((c.tc : Thread nD τ).loc main_arg0)) (m ((c.tc : Thread nD τ).loc main_arg7)) (m ((c.tc : Thread nD τ).loc main_arg8))
        (m ((c.tc : Thread nD τ).loc main_arg9)) (m ((c.tc : Thread nD τ).loc main_arg10)))
      (HEADS (m ((c.tc : Thread nD τ).loc main_arg1)) (m ((c.tc : Thread nD τ).loc main_arg2)) (m ((c.tc : Thread nD τ).loc main_arg3))
        (m ((c.tc : Thread nD τ).loc main_arg11)) (m ((c.tc : Thread nD τ).loc main_arg12)))) (m ((c.tc : Thread nD τ).loc main_arg13)) := by
  unfold Value.res_main_v316
  rw [conv_result, diff_result]
  rfl

/-- The reference's result, in layers, whatever the residual, the modulation rows and the norms' weights. -/
theorem result (c : Dev nD) (x : FVec Ideal S8192x1024 .f32) (md : FVec Ideal S8x6x1024 .f32) (g : FVec Ideal S4x1024 .f32) :
     addf x (mulf (WIDE (shapeCast _ (extractStridedSlice S1x1x1024 ![0, 2, 0] md slices_S8x6x1024_S1x1x1024_0_2_0) shapeCasts_S1x1x1024_S1024))
      (mulf (mulf (Value.res_main_v316 (launchContents m c)) (RMS (Value.res_main_v316 (launchContents m c))))
        (WIDE (shapeCast _ (extractStridedSlice S1x1024 ![1, 0] g slices_S4x1024_S1x1024_1_0) shapeCasts_S1x1024_S1024))))
    = TAIL (JOINED
      (CONV (m ((c.tc : Thread nD τ).loc main_arg0)) (m ((c.tc : Thread nD τ).loc main_arg7)) (m ((c.tc : Thread nD τ).loc main_arg8))
        (m ((c.tc : Thread nD τ).loc main_arg9)) (m ((c.tc : Thread nD τ).loc main_arg10)))
      (HEADS (m ((c.tc : Thread nD τ).loc main_arg1)) (m ((c.tc : Thread nD τ).loc main_arg2)) (m ((c.tc : Thread nD τ).loc main_arg3))
        (m ((c.tc : Thread nD τ).loc main_arg11)) (m ((c.tc : Thread nD τ).loc main_arg12)))) x
      md g (m ((c.tc : Thread nD τ).loc main_arg13)) := by
  rw [mixed_result]
  rfl

end Cert.MixRefIdeal.Proved

end
-- ==== Proof.MixReferencePoints.lean ====
module

public import proofs.«01_k».proof.Proof.Mixer
public import proofs.«01_k».proof.Proof.MixReference

@[expose] public section

set_option maxRecDepth 16384

noncomputable section

open Idealize.ShloMosaic Idealize.ShloMosaic.TcCoe Idealize.SL.Sem

namespace Cert.MixRefIdeal.Proved

open Cert.MixRefIdeal Cert.MixRefIdeal.Gen

/-- The padded rows, number by number. -/
theorem padded_at (u : FVec Ideal S8192x1024 .f32) (b : Fin 32) (i : Fin 286) (l : Fin 512) :
    PADDED u (ix3 b i l) = Mixer.window (fun i j => u (ix2 ⟨b.val * 256 + i.val, by omega⟩ j)) l i.val := by
  have h0 : (FloatOps.sitofp FTy.f32 0#32 : Ideal .f32) = (0 : EReal) := by
    simp [FloatOps.sitofp]
  pointwise [PADDED]
  rw [h0]
  rfl

/-- A tap, number by number. -/
theorem tap_at (z : FVec Ideal S32x286x512 .f32) (w : FVec Ideal S31x512 .f32) (n : ℕ) (h : n < 31) (b : Fin 32) (i : Fin 256) (l : Fin 512) :
    TAP z w n h (ix3 b i l) = z (ix3 b ⟨n + i.val, by omega⟩ l) * w (ix2 ⟨n, h⟩ l) := by
  pointwise [TAP]

/-- A tap of the padded rows, number by number. -/
theorem window_at (u : FVec Ideal S8192x1024 .f32) (w : FVec Ideal S31x512 .f32) (b : Fin 32) (i : Fin 256) (l : Fin 512) (n : ℕ) (h : n < 31) :
    TAP (PADDED u) w n h (ix3 b i l) = Mixer.window (fun i j => u (ix2 ⟨b.val * 256 + i.val, by omega⟩ j)) l (i.val + n)
      * w (ix2 ⟨n % 31, Nat.mod_lt _ (by decide)⟩ l) := by
  rw [tap_at, padded_at]
  show Mixer.window _ l (n + i.val) * _ = _
  rw [Nat.add_comm n i.val]
  exact congrArg (fun k => _ * w (ix2 k l)) (Fin.ext (Nat.mod_eq_of_lt h).symm)

/-- The taps' sum, number by number. -/
theorem taps_at (u : FVec Ideal S8192x1024 .f32) (w : FVec Ideal S31x512 .f32) (b : Fin 32) (i : Fin 256) (l : Fin 512) (n : ℕ) (h : n < 31) :
    TAPS (PADDED u) w n h (ix3 b i l) = Mixer.taps (fun n => Mixer.window (fun i j => u (ix2 ⟨b.val * 256 + i.val, by omega⟩ j)) l (i.val + n))
      (fun n => w (ix2 ⟨n % 31, Nat.mod_lt _ (by decide)⟩ l)) (n + 1) := by
  induction n with
  | zero => exact (window_at u w b i l 0 h).trans (zero_add _).symm
  | succ n ih => exact congrArg₂ (· + ·) (ih (Nat.lt_of_succ_lt h)) (window_at u w b i l (n + 1) h)

/-- Centred rows, number by number. -/
theorem centred_at (s : FVec Ideal S32x256x512 .f32) (b : Fin 32) (i : Fin 256) (l : Fin 512) :
    CENTRED s (ix3 b i l) = Mixer.centred (fun l => s (ix3 b i l)) l := by
  pointwise [CENTRED, Mixer.centred]

/-- Scaled rows, number by number. -/
theorem scaled_at (s : FVec Ideal S32x256x512 .f32) (g h : FVec Ideal S1x512 .f32) (b : Fin 32) (i : Fin 256) (l : Fin 512) :
    SCALED s g h (ix3 b i l) = Mixer.scaled (fun l => s (ix3 b i l)) (g (ix2 0 l)) (h (ix2 0 l)) l := by
  pointwise [SCALED, Mixer.scaled]

/-- The logistic-weighted numbers. -/
theorem swish_at (s : FVec Ideal S32x256x512 .f32) (b : Fin 32) (i : Fin 256) (l : Fin 512) :
    SWISH s (ix3 b i l) = Mixer.swish (s (ix3 b i l)) := by
  pointwise [SWISH, Mixer.swish]

/-- A bias added to each row. -/
theorem biased_at (s : FVec Ideal S32x256x512 .f32) (g : FVec Ideal S1x512 .f32) (b : Fin 32) (i : Fin 256) (l : Fin 512) :
    addf s (ROW g) (ix3 b i l) = s (ix3 b i l) + g (ix2 0 l) := by
  pointwise []

/-- The convolution part's output, number by number. -/
theorem conv_at (u : FVec Ideal S8192x1024 .f32) (w : FVec Ideal S31x512 .f32) (cb g h : FVec Ideal S1x512 .f32) (b : Fin 32) (i : Fin 256) (l : Fin 512) :
    CONV u w cb g h (ix3 b i l) = Mixer.convPart (fun i j => u (ix2 ⟨b.val * 256 + i.val, by omega⟩ j)) (fun n l => w (ix2 n l))
      (fun l => cb (ix2 0 l)) (fun l => g (ix2 0 l)) (fun l => h (ix2 0 l)) i l := by
  unfold CONV
  simp only [swish_at, scaled_at, centred_at, biased_at, taps_at]
  rfl

/-- A score: a query's product with a key's, over the half-head's 64 lanes, the query scaled. -/
theorem scores_at (q : FVec Ideal S8192x512 .bf16) (k : FVec Ideal S8192x512 .f32) (b : Fin 32) (h : Fin 4) (s : Fin 2) (r x : Fin 256) :
    SCORES q k (ix5 b h s r x) = Mixer.score (fun e => q (ix2 ⟨b.val * 256 + r.val, by omega⟩ ⟨h.val * 128 + s.val * 64 + e.val, by omega⟩))
      (fun e => k (ix2 ⟨b.val * 256 + x.val, by omega⟩ ⟨h.val * 128 + s.val * 64 + e.val, by omega⟩)) := by
  pointwise [SCORES, Mixer.score]
  rw [Softmax.eighth_f32, Softmax.eighth_bf16, Softmax.sum_mul_real _ _ _ (by norm_num)]
  exact Finset.sum_congr rfl fun e _ => mul_right_comm _ _ _

/-- The maximum with −∞ changes nothing but the form. -/
theorem max_lowest (R : FVec Ideal S32x4x2x256 .f32) (b : Fin 32) (h : Fin 4) (s : Fin 2) (r : Fin 256) :
    maximumf (broadcastInDim S32x4x2x256 ![] bcast_S_S32x4x2x256 (constant S_ .f32 0xFF800000#32)) R (ix4 b h s r)
      = max ⊥ (R (ix4 b h s r)) := by
  pointwise []
  rw [Softmax.lowest]

/-- The greatest of a row. -/
theorem top_at (e : FVec Ideal S32x4x2x256x256 .f32) (b : Fin 32) (h : Fin 4) (s : Fin 2) (r : Fin 256) :
    TOP e (ix4 b h s r) = Mixer.top (fun x => e (ix5 b h s r x)) :=
  (max_lowest _ b h s r).trans ((max_eq_right bot_le).trans
    ((Softmax.reduce_max e 0xFF800000#32 reducesTo_S32x4x2x256x256_S32x4x2x256_d4 h_S_ b h s r).trans
      (congrArg (fun c => Finset.fold max c (fun x => e (ix5 b h s r x)) Finset.univ) Softmax.lowest)))

/-- A weight of a softmax. -/
theorem weights_at (e : FVec Ideal S32x4x2x256x256 .f32) (b : Fin 32) (h : Fin 4) (s : Fin 2) (r x : Fin 256) :
    WEIGHTS (EXPS e) (ix5 b h s r x) = Mixer.soft (fun x => e (ix5 b h s r x)) x := by
  pointwise [WEIGHTS, EXPS]
  rw [top_at]
  rfl

/-- The factor of the second softmax. -/
theorem factor_at (x : FVec Ideal S4x64 .f32) (y) : FACTOR x y = Mixer.factor (fun i e => x (ix2 i e)) := by
  pointwise [FACTOR, Mixer.factor]

/-- The difference of the softmaxes times the values, number by number. -/
theorem diff_at (lam : FVec Ideal S_ .f32) (p : FVec Ideal S32x4x2x256x256 .f32) (v : FVec Ideal S8192x512 .f32)
    (b : Fin 32) (h : Fin 4) (r : Fin 256) (l : Fin 128) :
    DIFF lam p v (ix4 b r h l) = Mixer.diff (lam ix0) (fun x => p (ix5 b h 0 r x)) (fun x => p (ix5 b h 1 r x))
      (fun x => v (ix2 ⟨b.val * 256 + x.val, by omega⟩ ⟨h.val * 128 + l.val, by omega⟩)) := by
  pointwise [DIFF, Mixer.diff]
  exact Finset.sum_congr rfl fun x _ => mul_comm _ _

/-- The normalised head, number by number. -/
theorem subnorm_at (o : FVec Ideal S32x256x4x128 .f32) (g : FVec Ideal S1x128 .f32) (b : Fin 32) (h : Fin 4) (r : Fin 256) (l : Fin 128) :
    SUBNORM o g (ix3 b r ⟨h.val * 128 + l.val, by omega⟩) = Mixer.subnorm (fun l => o (ix4 b r h l)) (g (ix2 0 l)) l := by
  pointwise [SUBNORM, Mixer.subnorm]

/-- A head's output, number by number. -/
theorem heads_at (q : FVec Ideal S8192x512 .bf16) (k v : FVec Ideal S8192x512 .f32) (x : FVec Ideal S4x64 .f32) (g : FVec Ideal S1x128 .f32)
    (b : Fin 32) (h : Fin 4) (r : Fin 256) (l : Fin 128) :
    HEADS q k v x g (ix3 b r ⟨h.val * 128 + l.val, by omega⟩) = Mixer.headPart (Mixer.factor (fun i e => x (ix2 i e)))
      (fun r e => q (ix2 ⟨b.val * 256 + r.val, by omega⟩ ⟨h.val * 128 + e.val, by omega⟩))
      (fun r e => k (ix2 ⟨b.val * 256 + r.val, by omega⟩ ⟨h.val * 128 + e.val, by omega⟩))
      (fun r e => v (ix2 ⟨b.val * 256 + r.val, by omega⟩ ⟨h.val * 128 + e.val, by omega⟩)) (fun l => g (ix2 0 l)) r l := by
  unfold HEADS
  simp only [subnorm_at, diff_at, weights_at, scores_at, factor_at]
  have h0 : ∀ e : Fin 64, h.val * 128 + (0 : Fin 2).val * 64 + e.val = h.val * 128 + e.val := fun e => by simp
  have h1 : ∀ e : Fin 64, h.val * 128 + (1 : Fin 2).val * 64 + e.val = h.val * 128 + (64 + e.val) := fun e => by simp; omega
  simp only [h0, h1]
  rfl

/-- The two parts side by side, number by number. -/
theorem joined_at (a c : FVec Ideal S32x256x512 .f32) (b : Fin 32) (r : Fin 256) (l : Fin 1024) :
    JOINED a c (ix3 b r l) = if h : l.val < 512 then a (ix3 b r ⟨l.val, h⟩) else c (ix3 b r ⟨l.val - 512, by omega⟩) := by
  pointwise [JOINED]

end Cert.MixRefIdeal.Proved

end
-- ==== Proof.MixFinal.lean ====
module

public import proofs.«01_k».proof.Proof.AttnPair
public import proofs.«01_k».proof.Proof.MixPoints
public import proofs.«01_k».proof.Proof.MixReferencePoints

@[expose] public section

set_option maxRecDepth 16384

noncomputable section

open Idealize.ShloMosaic Idealize.ShloMosaic.TcCoe Idealize.SL.Sem
open Idealize.ShloMosaic.Pipeline (Dat)

namespace Cert.MixIdeal.Proved

open Cert.MixIdeal Cert.MixIdeal.Gen

/-- Every query and every key is a finite number. -/
structure FiniteMix (Q : FVec Ideal S8192x512 .bf16) (K : FVec Ideal S8192x512 .f32) : Prop where
  q : ∀ i j, Cert.AttnIdeal.Proved.Finite (Q (ix2 i j))
  k : ∀ i j, Cert.AttnIdeal.Proved.Finite (K (ix2 i j))

/-- The block indices of the windows at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧
    win0_5.index t = ![0, 0, 0] ∧ win0_6.index t = ![0, 0] ∧ win0_7.index t = ![0, 0] ∧ win0_8.index t = ![0, 0] ∧ win0_9.index t = ![0, 0] ∧
    win0_10.index t = ![0, 0] ∧ win0_11.index t = ![0, 0] ∧ win0_12.index t = ![0, 0] ∧ win0_13.index t = ![0, 0] ∧ win0_14.index t = ![t.val, 0] :=
  (by decide +kernel : ∀ t : Fin grid0.N, _)

/-- The scratch's keys are the block's. -/
theorem pay2_at (x : FVec Ideal S256x512 .f32) (i : Fin 256) (j : Fin 512) : k0_pay2 (F := Ideal) x (ix2 i j) = x (ix2 i j) := by
  pointwise [k0_pay2]

/-- The scratch's values are the block's. -/
theorem pay3_at (x : FVec Ideal S256x512 .f32) (i : Fin 256) (j : Fin 512) : k0_pay3 (F := Ideal) x (ix2 i j) = x (ix2 i j) := by
  pointwise [k0_pay3]

/-- A head's lanes of a block. -/
theorem lanes_at (x : FVec Ideal S256x512 .bf16) (o : ℕ) (h) (i : Fin 256) (j : Fin 128) (hj : o + j.val < 512) :
    LANES x o h (ix2 i j) = x (ix2 i ⟨o + j.val, hj⟩) :=
  congrArg x (funext (Fin.forall_fin_two.mpr ⟨Fin.ext (by simp), Fin.ext (by simp)⟩))

/-- Convolutions of equal arguments are equal. -/
theorem convPart_congr {u u' : Fin 256 → Fin 1024 → EReal} {w w' : Fin 31 → Fin 512 → EReal} {cb cb' g g' b b' : Fin 512 → EReal}
    (hu : ∀ i j, u i j = u' i j) (hw : ∀ i j, w i j = w' i j) (hc : ∀ j, cb j = cb' j) (hg : ∀ j, g j = g' j) (hb : ∀ j, b j = b' j)
    (r : Fin 256) (l : Fin 512) : Mixer.convPart u w cb g b r l = Mixer.convPart u' w' cb' g' b' r l := by
  obtain rfl : u = u' := funext fun i => funext (hu i)
  obtain rfl : w = w' := funext fun i => funext (hw i)
  obtain rfl : cb = cb' := funext hc
  obtain rfl : g = g' := funext hg
  obtain rfl : b = b' := funext hb
  rfl

/-- Heads of equal arguments are equal. -/
theorem headPart_congr {lam lam' : EReal} {q q' k k' v v' : Fin 256 → Fin 128 → EReal} {g g' : Fin 128 → EReal} (hl : lam = lam')
    (hq : ∀ i j, q i j = q' i j) (hk : ∀ i j, k i j = k' i j) (hv : ∀ i j, v i j = v' i j) (hg : ∀ j, g j = g' j)
    (r : Fin 256) (l : Fin 128) : Mixer.headPart lam q k v g r l = Mixer.headPart lam' q' k' v' g' r l := by
  obtain rfl := hl
  obtain rfl : q = q' := funext fun i => funext (hq i)
  obtain rfl : k = k' := funext fun i => funext (hk i)
  obtain rfl : v = v' := funext fun i => funext (hv i)
  obtain rfl : g = g' := funext hg
  rfl

variable (m : (ℓ : Loc nD τ sig) → Buf (Elt Ideal) ℓ)

/-- The grid's point as a number below 32. -/
abbrev pt (t : Fin cfg0.N) : Fin 32 := ⟨t.val, t.isLt⟩

/-- A block of the gated inputs is its rows of the array. -/
theorem blk0 (c : Dev nD) (t : Fin cfg0.N) (r : Fin 256) (j : Fin 1024) :
    iblk m c 0 t (ix2 r j) = m ((c : Thread nD τ).loc main_arg0) (ix2 ⟨(pt t).val * 256 + r.val, by omega⟩ j) := by
  blk_point [iblk, V, idx t]

/-- A block of the queries is its rows of the array. -/
theorem blk1 (c : Dev nD) (t : Fin cfg0.N) (r : Fin 256) (j : Fin 512) :
    iblk m c 1 t (ix2 r j) = m ((c : Thread nD τ).loc main_arg1) (ix2 ⟨(pt t).val * 256 + r.val, by omega⟩ j) := by
  blk_point [iblk, V, idx t]

/-- A block of the keys is its rows of the array. -/
theorem blk2 (c : Dev nD) (t : Fin cfg0.N) (r : Fin 256) (j : Fin 512) :
    iblk m c 2 t (ix2 r j) = m ((c : Thread nD τ).loc main_arg2) (ix2 ⟨(pt t).val * 256 + r.val, by omega⟩ j) := by
  blk_point [iblk, V, idx t]

/-- A block of the values is its rows of the array. -/
theorem blk3 (c : Dev nD) (t : Fin cfg0.N) (r : Fin 256) (j : Fin 512) :
    iblk m c 3 t (ix2 r j) = m ((c : Thread nD τ).loc main_arg3) (ix2 ⟨(pt t).val * 256 + r.val, by omega⟩ j) := by
  blk_point [iblk, V, idx t]

/-- The taps' weights are one block. -/
theorem blk7 (c : Dev nD) (t : Fin cfg0.N) (i : Fin 31) (j : Fin 512) :
    iblk m c 7 t (ix2 i j) = m ((c : Thread nD τ).loc main_arg7) (ix2 i j) := by
  blk_point [iblk, V, idx t]

/-- The convolution's biases are one block. -/
theorem blk8 (c : Dev nD) (t : Fin cfg0.N) (i : Fin 1) (j : Fin 512) :
    iblk m c 8 t (ix2 i j) = m ((c : Thread nD τ).loc main_arg8) (ix2 i j) := by
  blk_point [iblk, V, idx t]

/-- The norm's weights are one block. -/
theorem blk9 (c : Dev nD) (t : Fin cfg0.N) (i : Fin 1) (j : Fin 512) :
    iblk m c 9 t (ix2 i j) = m ((c : Thread nD τ).loc main_arg9) (ix2 i j) := by
  blk_point [iblk, V, idx t]

/-- The norm's biases are one block. -/
theorem blk10 (c : Dev nD) (t : Fin cfg0.N) (i : Fin 1) (j : Fin 512) :
    iblk m c 10 t (ix2 i j) = m ((c : Thread nD τ).loc main_arg10) (ix2 i j) := by
  blk_point [iblk, V, idx t]

/-- The factor's rows are one block. -/
theorem blk11 (c : Dev nD) (t : Fin cfg0.N) (i : Fin 4) (j : Fin 64) :
    iblk m c 11 t (ix2 i j) = m ((c : Thread nD τ).loc main_arg11) (ix2 i j) := by
  blk_point [iblk, V, idx t]

/-- The heads' norm's weights are one block. -/
theorem blk12 (c : Dev nD) (t : Fin cfg0.N) (i : Fin 1) (j : Fin 128) :
    iblk m c 12 t (ix2 i j) = m ((c : Thread nD τ).loc main_arg12) (ix2 i j) := by
  blk_point [iblk, V, idx t]

/-- The body's tail is the reference's, at the block's rows, when the joined parts agree there. -/
theorem tail_at (c : Dev nD) (t : Fin cfg0.N) (o : FVec Ideal S256x1024 .bf16) (O : FVec Ideal Cert.MixRefIdeal.S32x256x1024 .f32) (r : Fin 256)
    (ho : ∀ j, o (ix2 r j) = O (ix3 (pt t) r j)) (j : Fin 1024) :
    TAIL o (iblk m c 4 t) (iblk m c 5 t) (iblk m c 6 t) (iblk m c 13 t) (ix2 r j)
      = Cert.MixRefIdeal.Proved.TAIL O (m ((c : Thread nD τ).loc main_arg4)) (m ((c : Thread nD τ).loc main_arg5)) (m ((c : Thread nD τ).loc main_arg6)) (m ((c : Thread nD τ).loc main_arg13)) (ix2 ⟨(pt t).val * 256 + r.val, by omega⟩ j) := by
  pointwise [TAIL, k0_pay1, MIXED, Cert.MixRefIdeal.Proved.TAIL, Cert.MixRefIdeal.Proved.WIDE, Cert.MixRefIdeal.Proved.RMS, Cert.MixRefIdeal.Proved.MIXED]
  simp only [ho]
  blk_point [iblk, V, idx t]

/-- A block's convolution part is the reference's, at the block's rows. -/
theorem conv_block (c : Dev nD) (t : Fin cfg0.N) (r : Fin 256) (l : Fin 512) :
    CONV (PADDED (iblk m c 0 t)) (iblk m c 7 t) (iblk m c 8 t) (iblk m c 9 t) (iblk m c 10 t) (ix2 r l)
      = Cert.MixRefIdeal.Proved.CONV (m ((c : Thread nD τ).loc main_arg0)) (m ((c : Thread nD τ).loc main_arg7)) (m ((c : Thread nD τ).loc main_arg8)) (m ((c : Thread nD τ).loc main_arg9)) (m ((c : Thread nD τ).loc main_arg10)) (ix3 (pt t) r l) :=
  (conv_at _ _ _ _ _ r l).trans ((convPart_congr (fun i j => blk0 m c t i j) (fun i j => blk7 m c t i j) (fun j => blk8 m c t 0 j)
    (fun j => blk9 m c t 0 j) (fun j => blk10 m c t 0 j) r l).trans (Cert.MixRefIdeal.Proved.conv_at _ _ _ _ _ (pt t) r l).symm)

/-- A block's head is the reference's, at the block's rows. -/
theorem head_block (c : Dev nD) (t : Fin cfg0.N) (fin : FiniteMix (m ((c : Thread nD τ).loc main_arg1)) (m ((c : Thread nD τ).loc main_arg2)))
    (h : Fin 4) (o : ℕ) (hi) (ho : o = h.val * 128) (r : Fin 256) (l : Fin 128) :
    HEADAT (iblk m c 1 t) (iblk m c 2 t) (iblk m c 3 t) (iblk m c 11 t) (iblk m c 12 t) o hi (ix2 r l)
      = Cert.MixRefIdeal.Proved.HEADS (m ((c : Thread nD τ).loc main_arg1)) (m ((c : Thread nD τ).loc main_arg2)) (m ((c : Thread nD τ).loc main_arg3)) (m ((c : Thread nD τ).loc main_arg11)) (m ((c : Thread nD τ).loc main_arg12))
          (ix3 (pt t) r ⟨h.val * 128 + l.val, by omega⟩) := by
  subst ho
  have eq : ∀ i (e : Fin 128), LANES (iblk m c 1 t) (h.val * 128) hi (ix2 i e)
      = m ((c : Thread nD τ).loc main_arg1) (ix2 ⟨(pt t).val * 256 + i.val, by omega⟩ ⟨h.val * 128 + e.val, by omega⟩) := fun i e =>
    (lanes_at _ _ hi i e (by omega)).trans (blk1 m c t i _)
  have ek : ∀ i (e : Fin 128), LANES (k0_pay2 (F := Ideal) (iblk m c 2 t)) (h.val * 128) hi (ix2 i e)
      = m ((c : Thread nD τ).loc main_arg2) (ix2 ⟨(pt t).val * 256 + i.val, by omega⟩ ⟨h.val * 128 + e.val, by omega⟩) := fun i e =>
    (lanes_at _ _ hi i e (by omega)).trans ((pay2_at _ _ _).trans (blk2 m c t i _))
  have ev : ∀ i (e : Fin 128), LANES (k0_pay3 (F := Ideal) (iblk m c 3 t)) (h.val * 128) hi (ix2 i e)
      = m ((c : Thread nD τ).loc main_arg3) (ix2 ⟨(pt t).val * 256 + i.val, by omega⟩ ⟨h.val * 128 + e.val, by omega⟩) := fun i e =>
    (lanes_at _ _ hi i e (by omega)).trans ((pay3_at _ _ _).trans (blk3 m c t i _))
  refine (head_at _ _ _ _ _ (fun i e => ?_) (fun i e => ?_) r l).trans
    ((headPart_congr ?_ eq ek ev (fun j => blk12 m c t 0 j) r l).trans (Cert.MixRefIdeal.Proved.heads_at _ _ _ _ _ (pt t) h r l).symm)
  · rw [eq]
    exact fin.q _ _
  · rw [ek]
    exact fin.k _ _
  · exact (factor_at _).trans (congrArg Mixer.factor (funext fun i => funext fun e => blk11 m c t i e))

/-- The reference's joined parts, at a convolution's column. -/
theorem joined_low (a b : FVec Ideal Cert.MixRefIdeal.S32x256x512 .f32) (p : Fin 32) (r : Fin 256) (l : Fin 512) :
    Cert.MixRefIdeal.Proved.JOINED a b (ix3 p r ⟨l.val, by omega⟩) = a (ix3 p r l) :=
  (Cert.MixRefIdeal.Proved.joined_at a b p r _).trans (dif_pos l.isLt)

/-- The reference's joined parts, at a head's column. -/
theorem joined_high (a b : FVec Ideal Cert.MixRefIdeal.S32x256x512 .f32) (p : Fin 32) (r : Fin 256) (h : Fin 4) (l : Fin 128) (o : ℕ)
    (ho : o = 512 + h.val * 128) (hl : o + l.val < 1024) :
    Cert.MixRefIdeal.Proved.JOINED a b (ix3 p r ⟨o + l.val, hl⟩) = b (ix3 p r ⟨h.val * 128 + l.val, by omega⟩) :=
  (Cert.MixRefIdeal.Proved.joined_at a b p r _).trans ((dif_neg (by show ¬ o + l.val < 512; omega)).trans
    (congrArg (fun j => b (ix3 p r j)) (Fin.ext (by show o + l.val - 512 = h.val * 128 + l.val; omega))))

/-- A block's joined parts are the reference's, at the block's rows. -/
theorem mixer_block (c : Dev nD) (t : Fin cfg0.N) (fin : FiniteMix (m ((c : Thread nD τ).loc main_arg1)) (m ((c : Thread nD τ).loc main_arg2))) (r : Fin 256) (j : Fin 1024) :
    JOINED (CONV (PADDED (iblk m c 0 t)) (iblk m c 7 t) (iblk m c 8 t) (iblk m c 9 t) (iblk m c 10 t))
      (HEADAT (iblk m c 1 t) (iblk m c 2 t) (iblk m c 3 t) (iblk m c 11 t) (iblk m c 12 t) 0 inb_S256x512_S256x128_0_0)
      (HEADAT (iblk m c 1 t) (iblk m c 2 t) (iblk m c 3 t) (iblk m c 11 t) (iblk m c 12 t) 128 inb_S256x512_S256x128_0_128)
      (HEADAT (iblk m c 1 t) (iblk m c 2 t) (iblk m c 3 t) (iblk m c 11 t) (iblk m c 12 t) 256 inb_S256x512_S256x128_0_256)
      (HEADAT (iblk m c 1 t) (iblk m c 2 t) (iblk m c 3 t) (iblk m c 11 t) (iblk m c 12 t) 384 inb_S256x512_S256x128_0_384) (ix2 r j)
      = Cert.MixRefIdeal.Proved.JOINED (Cert.MixRefIdeal.Proved.CONV (m ((c : Thread nD τ).loc main_arg0)) (m ((c : Thread nD τ).loc main_arg7)) (m ((c : Thread nD τ).loc main_arg8)) (m ((c : Thread nD τ).loc main_arg9)) (m ((c : Thread nD τ).loc main_arg10)))
          (Cert.MixRefIdeal.Proved.HEADS (m ((c : Thread nD τ).loc main_arg1)) (m ((c : Thread nD τ).loc main_arg2)) (m ((c : Thread nD τ).loc main_arg3)) (m ((c : Thread nD τ).loc main_arg11)) (m ((c : Thread nD τ).loc main_arg12))) (ix3 (pt t) r j) :=
  joined_at _ _ _ _ _ r (fun j => Cert.MixRefIdeal.Proved.JOINED (Cert.MixRefIdeal.Proved.CONV (m ((c : Thread nD τ).loc main_arg0)) (m ((c : Thread nD τ).loc main_arg7)) (m ((c : Thread nD τ).loc main_arg8)) (m ((c : Thread nD τ).loc main_arg9)) (m ((c : Thread nD τ).loc main_arg10)))
          (Cert.MixRefIdeal.Proved.HEADS (m ((c : Thread nD τ).loc main_arg1)) (m ((c : Thread nD τ).loc main_arg2)) (m ((c : Thread nD τ).loc main_arg3)) (m ((c : Thread nD τ).loc main_arg11)) (m ((c : Thread nD τ).loc main_arg12))) (ix3 (pt t) r j))
    (fun l => (conv_block m c t r l).trans (joined_low _ _ (pt t) r l).symm)
    (fun l => (head_block m c t fin 0 _ _ rfl r l).trans (joined_high _ _ (pt t) r 0 l 512 rfl _).symm)
    (fun l => (head_block m c t fin 1 _ _ rfl r l).trans (joined_high _ _ (pt t) r 1 l 640 rfl _).symm)
    (fun l => (head_block m c t fin 2 _ _ rfl r l).trans (joined_high _ _ (pt t) r 2 l 768 rfl _).symm)
    (fun l => (head_block m c t fin 3 _ _ rfl r l).trans (joined_high _ _ (pt t) r 3 l 896 rfl _).symm) j

/-- The result after the run is the reference's. -/
theorem final (c : Dev nD) (fin : FiniteMix (m ((c : Thread nD τ).loc main_arg1)) (m ((c : Thread nD τ).loc main_arg2))) :
    (dats m 0 c).arrAt 14 (cfgs 0).N = Cert.MixRefIdeal.Proved.TAIL (Cert.MixRefIdeal.Proved.JOINED (Cert.MixRefIdeal.Proved.CONV (m ((c : Thread nD τ).loc main_arg0)) (m ((c : Thread nD τ).loc main_arg7)) (m ((c : Thread nD τ).loc main_arg8)) (m ((c : Thread nD τ).loc main_arg9)) (m ((c : Thread nD τ).loc main_arg10))) (Cert.MixRefIdeal.Proved.HEADS (m ((c : Thread nD τ).loc main_arg1)) (m ((c : Thread nD τ).loc main_arg2)) (m ((c : Thread nD τ).loc main_arg3)) (m ((c : Thread nD τ).loc main_arg11)) (m ((c : Thread nD τ).loc main_arg12)))) (m ((c : Thread nD τ).loc main_arg4)) (m ((c : Thread nD τ).loc main_arg5)) (m ((c : Thread nD τ).loc main_arg6)) (m ((c : Thread nD τ).loc main_arg13)) := by
  refine (dats m 0 c).arrAt_eq_of_covers 14 _ (by decide +kernel) fun t _ y => ?_
  blk_simp
  refine (body m c t _).trans ?_
  idx_vars y
  refine (tail_at m c t _ _ _ (mixer_block m c t fin _) _).trans ?_
  generalize Cert.MixRefIdeal.Proved.TAIL (Cert.MixRefIdeal.Proved.JOINED (Cert.MixRefIdeal.Proved.CONV (m ((c : Thread nD τ).loc main_arg0)) (m ((c : Thread nD τ).loc main_arg7)) (m ((c : Thread nD τ).loc main_arg8)) (m ((c : Thread nD τ).loc main_arg9)) (m ((c : Thread nD τ).loc main_arg10))) (Cert.MixRefIdeal.Proved.HEADS (m ((c : Thread nD τ).loc main_arg1)) (m ((c : Thread nD τ).loc main_arg2)) (m ((c : Thread nD τ).loc main_arg3)) (m ((c : Thread nD τ).loc main_arg11)) (m ((c : Thread nD τ).loc main_arg12)))) (m ((c : Thread nD τ).loc main_arg4)) (m ((c : Thread nD τ).loc main_arg5)) (m ((c : Thread nD τ).loc main_arg6)) (m ((c : Thread nD τ).loc main_arg13)) = P
  pointwise []
  blk_point [idx t]

end Cert.MixIdeal.Proved

end
-- ==== Proof.FiniteMix.lean ====
module

public import proofs.«01_k».proof.Defs
public import proofs.«01_k».proof.Proof.FiniteScores
public import proofs.«01_k».proof.Proof.MixFinal
public import Idealize.ShloMosaic.Lib.Pointwise

@[expose] public section

set_option maxRecDepth 16384

noncomputable section

open Idealize.ShloMosaic Idealize.ShloMosaic.TcCoe Idealize.SL.Sem

namespace Cert.Pre_finite_mix.Proved

open Cert.Pre_finite_mix
open Cert.MixIdeal.Proved (FiniteMix)
open Cert.Pre_finite_scores.Proved (finite_of_lt)

/-- The side conditions the precondition's operations take. -/
instance facts : Cert.Pre_finite_mix.Facts where
  bitsLt_bf16_f32 := by decide
  concatenates_S8192x512_S8192x512_S8192x1024_d1 := by decide
  bcast_S_S8192x1024 := by decide

/-- The precondition says that every query and key is finite. -/
theorem finite_mix {u : FVec Ideal S8192x1024 .f32} {q : FVec Ideal S8192x512 .bf16} {k v : FVec Ideal S8192x512 .f32} {x : FVec Ideal S8192x1024 .f32}
    {md : FVec Ideal S8x6x1024 .f32} {g : FVec Ideal S4x1024 .f32} {w : FVec Ideal S31x512 .f32} {cb lg lb : FVec Ideal S1x512 .f32}
    {lam : FVec Ideal S4x64 .f32} {sg : FVec Ideal S1x128 .f32} {wo : FVec Ideal S1024x1024 .f32}
    (h : fn (F := Ideal) u q k v x md g w cb lg lb lam sg wo = fun _ => 1#1) : FiniteMix q k where
  q i j := by
    refine finite_of_lt (Eq.trans ?_ (congrFun h (ix2 i ⟨j.val, by omega⟩)))
    pointwise [fn]
  k i j := by
    refine finite_of_lt (Eq.trans ?_ (congrFun h (ix2 i ⟨512 + j.val, by omega⟩)))
    pointwise [fn]

end Cert.Pre_finite_mix.Proved

end
-- ==== Proof.AttnBody.lean ====
module

public import proofs.«01_k».proof.Proof.Gen.AttnIdeal.Value
public import proofs.«01_k».proof.Proof.AttnHead
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Proved

open Cert.AttnIdeal Cert.AttnIdeal.Gen

/-- The origin's offsets are zero. -/
theorem origin : ∀ a : Fin 2, (![0, 0] : Fin 2 → ℕ) a = 0 := Fin.forall_fin_two.mpr ⟨rfl, rfl⟩

/-- A load from a scratch buffer, filled whole by one store, is a load from what was stored. -/
theorem scratch_read {κ : Kind} {sp : Space} {Val : EltTy → Type} [∀ e, Nonempty (Val e)] {s : Shape} {e : EltTy} {off : Fin s.rank → ℕ}
    (h : ∀ a, off a = 0) (v : View sig κ sp s e) (z : s.Idx → Val e) (inb : ∀ a, off a + s.size a ≤ s.size a) (r : Rect s) :
    v.readCov [⟨Rect.unit off s.size inb, z⟩] r.toLoadRect = View.ld z r :=
  View.readCov_fill v inb z [] r h

/-- One of the two halves of the keys, as the scratch buffer holds them. -/
abbrev KEYS (x1 : FVec Ideal S256x256 .f32) (o : ℕ) (h : ∀ a, (![0, o] : Fin 2 → ℕ) a + (![256, 128] : Fin 2 → ℕ) a ≤ S256x256.size a) :
    FVec Ideal S256x128 .bf16 :=
  View.ld (Val := Elt Ideal) (e' := .bf16) (k0_pay2 (F := Ideal) x1) (Rect.unit (s := S256x256) ![0, o] ![256, 128] h)

/-- One of the two halves of the values, as the scratch buffer holds them. -/
abbrev VALUES (x2 : FVec Ideal S256x256 .f32) (o : ℕ) (h : ∀ a, (![0, o] : Fin 2 → ℕ) a + (![256, 128] : Fin 2 → ℕ) a ≤ S256x256.size a) :
    FVec Ideal S256x128 .bf16 :=
  View.ld (Val := Elt Ideal) (e' := .bf16) (k0_pay3 (F := Ideal) x2) (Rect.unit (s := S256x256) ![0, o] ![256, 128] h)

/-- One pair of heads' lanes of the queries. -/
abbrev QUERY (x0 : FVec Ideal S256x1024 .bf16) (o : ℕ) (h : ∀ a, (![0, o] : Fin 2 → ℕ) a + (![256, 128] : Fin 2 → ℕ) a ≤ S256x1024.size a) :
    FVec Ideal S256x128 .bf16 :=
  View.ld (Val := Elt Ideal) (e' := .bf16) x0 (Rect.unit (s := S256x1024) ![0, o] ![256, 128] h)

/-- One head's sink logit. -/
abbrev SINK (x6 : FVec Ideal S16 .f32) (o : ℕ) (h : ∀ a, (![o] : Fin 1 → ℕ) a + (![1] : Fin 1 → ℕ) a ≤ S16.size a) : Ideal .f32 :=
  View.ld (Val := Elt Ideal) (e' := .f32) x6 (Rect.unit (s := S16) ![o] ![1] h) (Shape.Idx.first (s := ⟨1, ![1]⟩) (by decide))

/-- Heads 0 and 1 of the block. -/
def PAIR0 (x0 : FVec Ideal S256x1024 .bf16) (x1 x2 : FVec Ideal S256x256 .f32) (x6 : FVec Ideal S16 .f32) : FVec Ideal S256x128 .bf16 :=
  PAIRLOW (QUERY x0 0 inb_S256x1024_S256x128_0_0) (KEYS x1 0 inb_S256x256_S256x128_0_0)
      (VALUES x2 0 inb_S256x256_S256x128_0_0) (SINK x6 0 inb_S16_S1_0) (SINK x6 1 inb_S16_S1_1)

/-- Heads 2 and 3 of the block. -/
def PAIR1 (x0 : FVec Ideal S256x1024 .bf16) (x1 x2 : FVec Ideal S256x256 .f32) (x6 : FVec Ideal S16 .f32) : FVec Ideal S256x128 .bf16 :=
  PAIRLOW (QUERY x0 128 inb_S256x1024_S256x128_0_128) (KEYS x1 0 inb_S256x256_S256x128_0_0)
      (VALUES x2 0 inb_S256x256_S256x128_0_0) (SINK x6 2 inb_S16_S1_2) (SINK x6 3 inb_S16_S1_3)

/-- Heads 4 and 5 of the block. -/
def PAIR2 (x0 : FVec Ideal S256x1024 .bf16) (x1 x2 : FVec Ideal S256x256 .f32) (x6 : FVec Ideal S16 .f32) : FVec Ideal S256x128 .bf16 :=
  PAIRHIGH (QUERY x0 256 inb_S256x1024_S256x128_0_256) (KEYS x1 0 inb_S256x256_S256x128_0_0)
      (VALUES x2 0 inb_S256x256_S256x128_0_0) (SINK x6 4 inb_S16_S1_4) (SINK x6 5 inb_S16_S1_5)

/-- Heads 6 and 7 of the block. -/
def PAIR3 (x0 : FVec Ideal S256x1024 .bf16) (x1 x2 : FVec Ideal S256x256 .f32) (x6 : FVec Ideal S16 .f32) : FVec Ideal S256x128 .bf16 :=
  PAIRHIGH (QUERY x0 384 inb_S256x1024_S256x128_0_384) (KEYS x1 0 inb_S256x256_S256x128_0_0)
      (VALUES x2 0 inb_S256x256_S256x128_0_0) (SINK x6 6 inb_S16_S1_6) (SINK x6 7 inb_S16_S1_7)

/-- Heads 8 and 9 of the block. -/
def PAIR4 (x0 : FVec Ideal S256x1024 .bf16) (x1 x2 : FVec Ideal S256x256 .f32) (x6 : FVec Ideal S16 .f32) : FVec Ideal S256x128 .bf16 :=
  PAIRLOW (QUERY x0 512 inb_S256x1024_S256x128_0_512) (KEYS x1 128 inb_S256x256_S256x128_0_128)
      (VALUES x2 128 inb_S256x256_S256x128_0_128) (SINK x6 8 inb_S16_S1_8) (SINK x6 9 inb_S16_S1_9)

/-- Heads 10 and 11 of the block. -/
def PAIR5 (x0 : FVec Ideal S256x1024 .bf16) (x1 x2 : FVec Ideal S256x256 .f32) (x6 : FVec Ideal S16 .f32) : FVec Ideal S256x128 .bf16 :=
  PAIRLOW (QUERY x0 640 inb_S256x1024_S256x128_0_640) (KEYS x1 128 inb_S256x256_S256x128_0_128)
      (VALUES x2 128 inb_S256x256_S256x128_0_128) (SINK x6 10 inb_S16_S1_10) (SINK x6 11 inb_S16_S1_11)

/-- Heads 12 and 13 of the block. -/
def PAIR6 (x0 : FVec Ideal S256x1024 .bf16) (x1 x2 : FVec Ideal S256x256 .f32) (x6 : FVec Ideal S16 .f32) : FVec Ideal S256x128 .bf16 :=
  PAIRHIGH (QUERY x0 768 inb_S256x1024_S256x128_0_768) (KEYS x1 128 inb_S256x256_S256x128_0_128)
      (VALUES x2 128 inb_S256x256_S256x128_0_128) (SINK x6 12 inb_S16_S1_12) (SINK x6 13 inb_S16_S1_13)

/-- Heads 14 and 15 of the block. -/
def PAIR7 (x0 : FVec Ideal S256x1024 .bf16) (x1 x2 : FVec Ideal S256x256 .f32) (x6 : FVec Ideal S16 .f32) : FVec Ideal S256x128 .bf16 :=
  PAIRHIGH (QUERY x0 896 inb_S256x1024_S256x128_0_896) (KEYS x1 128 inb_S256x256_S256x128_0_128)
      (VALUES x2 128 inb_S256x256_S256x128_0_128) (SINK x6 14 inb_S16_S1_14) (SINK x6 15 inb_S16_S1_15)

/-- The attention's output of the block, the pairs side by side. -/
def ATTENTION (x0 : FVec Ideal S256x1024 .bf16) (x1 x2 : FVec Ideal S256x256 .f32) (x6 : FVec Ideal S16 .f32) : FVec Ideal S256x1024 .bf16 :=
  concatenate S256x1024 1 [⟨S256x128, PAIR0 x0 x1 x2 x6⟩, ⟨S256x128, PAIR1 x0 x1 x2 x6⟩, ⟨S256x128, PAIR2 x0 x1 x2 x6⟩, ⟨S256x128, PAIR3 x0 x1 x2 x6⟩, ⟨S256x128, PAIR4 x0 x1 x2 x6⟩, ⟨S256x128, PAIR5 x0 x1 x2 x6⟩, ⟨S256x128, PAIR6 x0 x1 x2 x6⟩, ⟨S256x128, PAIR7 x0 x1 x2 x6⟩]
    concatenates_S256x128_S256x128_S256x128_S256x128_S256x128_S256x128_S256x128_S256x128_S256x1024_d1

/-- The output projection. -/
abbrev MIXED (o : FVec Ideal S256x1024 .bf16) (x7 : FVec Ideal S1024x1024 .bf16) : FVec Ideal S256x1024 .f32 :=
  matmul dot_S256x1024_S1024x1024_S256x1024_1_0_0_1_n_n none o (shapeCast S1024x1024 x7 shapeCasts_S1024x1024_S1024x1024) (constant S256x1024 .f32 0x00000000#32)

/-- The residual plus the gated, normalised output projection. -/
def TAIL (o : FVec Ideal S256x1024 .bf16) (x3 : FVec Ideal S256x1024 .f32) (x4 : FVec Ideal S1x6x1024 .f32) (x5 : FVec Ideal S4x1024 .f32)
    (x7 : FVec Ideal S1024x1024 .bf16) : FVec Ideal S256x1024 .f32 :=
  k0_pay1 (F := Ideal) (MIXED o x7) x3
    (k0_pay49 (View.ld (Val := Elt Ideal) (e' := .f32) x4 (Rect.unit (s := S1x6x1024) ![0, 2, 0] ![1, 1, 1024] inb_S1x6x1024_S1x1x1024_0_2_0)))
    (View.ld (Val := Elt Ideal) (e' := .f32) x5 (Rect.unit (s := S4x1024) ![1, 0] ![1, 1024] inb_S4x1024_S1x1024_1_0))
    (divf (shapeCast S256x1 (multiReduction .add [1] S256 (mulf (MIXED o x7) (MIXED o x7)) 0x00000000#32 reduces_S256x1024_S256 (.inl rfl) rfl) shapeCasts_S256_S256x1)
      (broadcast S256x1 (Scalar.ofBits .f32 0x44800000#32)))
    k0_pay51

variable (m : (ℓ : Loc nD τ sig) → Buf (Elt Ideal) ℓ)

/-- What the body leaves in the output's block. -/
theorem body (c : Dev nD) (t : Fin (cfgs 0).N) (y) :
    (dats m 0 c).after 8 t y = TAIL (ATTENTION (iblk m c 0 t) (iblk m c 1 t) (iblk m c 2 t) (iblk m c 6 t)) (iblk m c 3 t) (iblk m c 4 t) (iblk m c 5 t) (iblk m c 7 t) y := by
  rw [after0_8]
  unfold outsAt0
  frame_out
  simp only [scratch_read (s := S256x256) origin]
  rfl

end Cert.AttnIdeal.Proved

end
-- ==== Proof.AttnFinal.lean ====
module

public import proofs.«01_k».proof.Proof.AttnBody
public import proofs.«01_k».proof.Proof.AttnPair

@[expose] public section

set_option maxRecDepth 16384

noncomputable section

open Idealize.ShloMosaic Idealize.ShloMosaic.TcCoe Idealize.SL.Sem
open Idealize.ShloMosaic.Pipeline (Dat)

namespace Cert.AttnIdeal.Proved

open Cert.AttnIdeal Cert.AttnIdeal.Gen

/-- The block indices of the windows at every grid point. -/
theorem idx : ∀ t : Fin cfg0.N, win0_0.index t = ![t.val, 0] ∧ win0_1.index t = ![t.val, 0] ∧
    win0_2.index t = ![t.val, 0] ∧ win0_3.index t = ![t.val, 0] ∧ win0_4.index t = ![0, 0, 0] ∧ win0_5.index t = ![0, 0] ∧
    win0_6.index t = ![0] ∧ win0_7.index t = ![0, 0] ∧ win0_8.index t = ![t.val, 0] :=
  (by decide +kernel : ∀ t : Fin grid0.N, _)

/-- The scratch's keys are the block's. -/
theorem pay2_at (x : FVec Ideal S256x256 .f32) (i j : Fin 256) : k0_pay2 (F := Ideal) x (ix2 i j) = x (ix2 i j) := by
  pointwise [k0_pay2]

/-- The scratch's values are the block's. -/
theorem pay3_at (x : FVec Ideal S256x256 .f32) (i j : Fin 256) : k0_pay3 (F := Ideal) x (ix2 i j) = x (ix2 i j) := by
  pointwise [k0_pay3]

/-- The keys of a block, in a pair's lanes. -/
theorem keys_at (x : FVec Ideal S256x256 .f32) (o : ℕ) (h) (i : Fin 256) (j : Fin 128) (hj : o + j.val < 256) :
    KEYS x o h (ix2 i j) = x (ix2 i ⟨o + j.val, hj⟩) :=
  (congrArg (k0_pay2 (F := Ideal) x) (funext (Fin.forall_fin_two.mpr ⟨Fin.ext (by simp), Fin.ext (by simp)⟩))).trans (pay2_at x i ⟨o + j.val, hj⟩)

/-- The values of a block, in a pair's lanes. -/
theorem values_at (x : FVec Ideal S256x256 .f32) (o : ℕ) (h) (i : Fin 256) (j : Fin 128) (hj : o + j.val < 256) :
    VALUES x o h (ix2 i j) = x (ix2 i ⟨o + j.val, hj⟩) :=
  (congrArg (k0_pay3 (F := Ideal) x) (funext (Fin.forall_fin_two.mpr ⟨Fin.ext (by simp), Fin.ext (by simp)⟩))).trans (pay3_at x i ⟨o + j.val, hj⟩)

/-- The queries of a block, in a pair's lanes. -/
theorem query_at (x : FVec Ideal S256x1024 .bf16) (o : ℕ) (h) (i : Fin 256) (j : Fin 128) (hj : o + j.val < 1024) :
    QUERY x o h (ix2 i j) = x (ix2 i ⟨o + j.val, hj⟩) :=
  congrArg x (funext (Fin.forall_fin_two.mpr ⟨Fin.ext (by simp), Fin.ext (by simp)⟩))

/-- A head's sink logit. -/
theorem sink_at (x : FVec Ideal S16 .f32) (o : ℕ) (h) (ho : o < 16) : SINK x o h = x (ix1 ⟨o, ho⟩) :=
  congrArg x (funext (Fin.forall_fin_one.mpr (Fin.ext (by simp))))

/-- The eight pairs side by side are an array, when each pair is that array's columns. -/
theorem side_by_side (f0 f1 f2 f3 f4 f5 f6 f7 : FVec Ideal S256x128 .bf16) (r : Fin 256) (R : Fin 1024 → EReal)
    (h0 : ∀ l : Fin 128, f0 (ix2 r l) = R ⟨l.val, by omega⟩) (h1 : ∀ l : Fin 128, f1 (ix2 r l) = R ⟨128 + l.val, by omega⟩)
    (h2 : ∀ l : Fin 128, f2 (ix2 r l) = R ⟨256 + l.val, by omega⟩) (h3 : ∀ l : Fin 128, f3 (ix2 r l) = R ⟨384 + l.val, by omega⟩)
    (h4 : ∀ l : Fin 128, f4 (ix2 r l) = R ⟨512 + l.val, by omega⟩) (h5 : ∀ l : Fin 128, f5 (ix2 r l) = R ⟨640 + l.val, by omega⟩)
    (h6 : ∀ l : Fin 128, f6 (ix2 r l) = R ⟨768 + l.val, by omega⟩) (h7 : ∀ l : Fin 128, f7 (ix2 r l) = R ⟨896 + l.val, by omega⟩)
    (j : Fin 1024) :
    concatenate S256x1024 1 [⟨S256x128, f0⟩, ⟨S256x128, f1⟩, ⟨S256x128, f2⟩, ⟨S256x128, f3⟩, ⟨S256x128, f4⟩, ⟨S256x128, f5⟩, ⟨S256x128, f6⟩, ⟨S256x128, f7⟩]
      concatenates_S256x128_S256x128_S256x128_S256x128_S256x128_S256x128_S256x128_S256x128_S256x1024_d1 (ix2 r j) = R j := by
  pointwise []
  simp only [h0, h1, h2, h3, h4, h5, h6, h7]
  split_ifs <;> exact congrArg R (Fin.ext (by simp; try omega))
variable (m : (ℓ : Loc nD τ sig) → Buf (Elt Ideal) ℓ)

/-- The grid's point as a number below 32. -/
abbrev pt (t : Fin cfg0.N) : Fin 32 := ⟨t.val, t.isLt⟩

/-- A block of the queries is its rows of the array. -/
theorem blk0 (c : Dev nD) (t : Fin cfg0.N) (r : Fin 256) (j : Fin 1024) :
    iblk m c 0 t (ix2 r j) = m ((c : Thread nD τ).loc main_arg0) (ix2 ⟨(pt t).val * 256 + r.val, by omega⟩ j) := by
  blk_point [iblk, V, idx t]

/-- A block of the keys is its rows of the array. -/
theorem blk1 (c : Dev nD) (t : Fin cfg0.N) (r : Fin 256) (j : Fin 256) :
    iblk m c 1 t (ix2 r j) = m ((c : Thread nD τ).loc main_arg1) (ix2 ⟨(pt t).val * 256 + r.val, by omega⟩ j) := by
  blk_point [iblk, V, idx t]

/-- A block of the values is its rows of the array. -/
theorem blk2 (c : Dev nD) (t : Fin cfg0.N) (r : Fin 256) (j : Fin 256) :
    iblk m c 2 t (ix2 r j) = m ((c : Thread nD τ).loc main_arg2) (ix2 ⟨(pt t).val * 256 + r.val, by omega⟩ j) := by
  blk_point [iblk, V, idx t]

/-- The sink logits' block is the array. -/
theorem blk6 (c : Dev nD) (t : Fin cfg0.N) (i : Fin 16) :
    iblk m c 6 t (ix1 i) = m ((c : Thread nD τ).loc main_arg6) (ix1 i) := by
  blk_point [iblk, V, idx t]

/-- The body's tail is the reference's, at the block's rows, when the attention's outputs agree there. -/
theorem tail_at (c : Dev nD) (t : Fin cfg0.N) (o : FVec Ideal S256x1024 .bf16) (O : FVec Ideal Cert.AttnRefIdeal.S8192x1024 .f32) (r : Fin 256)
    (i : Fin 8192) (hi : i.val = t.val * 256 + r.val) (ho : ∀ j, o (ix2 r j) = O (ix2 i j)) (j : Fin 1024) :
    TAIL o (iblk m c 3 t) (iblk m c 4 t) (iblk m c 5 t) (iblk m c 7 t) (ix2 r j)
      = Cert.AttnRefIdeal.Proved.TAIL O (m ((c : Thread nD τ).loc main_arg3)) (m ((c : Thread nD τ).loc main_arg4))
          (m ((c : Thread nD τ).loc main_arg5)) (m ((c : Thread nD τ).loc main_arg7)) (ix2 i j) := by
  pointwise [TAIL, k0_pay1, k0_pay49, k0_pay51, Cert.AttnRefIdeal.Proved.TAIL]
  simp only [ho]
  blk_point [iblk, V, idx t]

/-- A pair's queries, at the block's rows of the array. -/
theorem queries (c : Dev nD) (t : Fin cfg0.N) (o : ℕ) (h) (r : Fin 256) (e : Fin 128) (j : Fin 1024) (hj : o + e.val = j.val) :
    QUERY (iblk m c 0 t) o h (ix2 r e) = m ((c : Thread nD τ).loc main_arg0) (ix2 ⟨(pt t).val * 256 + r.val, by omega⟩ j) :=
  (query_at _ o h r e (by omega)).trans ((blk0 m c t r _).trans (congrArg (fun z => m ((c : Thread nD τ).loc main_arg0) (ix2 _ z)) (Fin.ext hj)))

/-- A pair's keys, at the block's rows of the array. -/
theorem keys (c : Dev nD) (t : Fin cfg0.N) (o : ℕ) (h) (r : Fin 256) (e : Fin 128) (j : Fin 256) (hj : o + e.val = j.val) :
    KEYS (iblk m c 1 t) o h (ix2 r e) = m ((c : Thread nD τ).loc main_arg1) (ix2 ⟨(pt t).val * 256 + r.val, by omega⟩ j) :=
  (keys_at _ o h r e (by omega)).trans ((blk1 m c t r _).trans (congrArg (fun z => m ((c : Thread nD τ).loc main_arg1) (ix2 _ z)) (Fin.ext hj)))

/-- A pair's values, at the block's rows of the array. -/
theorem values (c : Dev nD) (t : Fin cfg0.N) (o : ℕ) (h) (r : Fin 256) (e : Fin 128) (j : Fin 256) (hj : o + e.val = j.val) :
    VALUES (iblk m c 2 t) o h (ix2 r e) = m ((c : Thread nD τ).loc main_arg2) (ix2 ⟨(pt t).val * 256 + r.val, by omega⟩ j) :=
  (values_at _ o h r e (by omega)).trans ((blk2 m c t r _).trans (congrArg (fun z => m ((c : Thread nD τ).loc main_arg2) (ix2 _ z)) (Fin.ext hj)))

/-- A head's sink logit, in the array. -/
theorem sinks (c : Dev nD) (t : Fin cfg0.N) (o : ℕ) (h) (j : Fin 16) (hj : o = j.val) :
    SINK (iblk m c 6 t) o h = m ((c : Thread nD τ).loc main_arg6) (ix1 j) :=
  (sink_at _ o h (by omega)).trans ((blk6 m c t _).trans (congrArg (fun z => m ((c : Thread nD τ).loc main_arg6) (ix1 z)) (Fin.ext hj)))

/-- The attention of a block is the reference's, at the block's rows. -/
theorem attention_block (c : Dev nD) (t : Fin cfg0.N)
    (fin : FiniteScores (m ((c : Thread nD τ).loc main_arg0)) (m ((c : Thread nD τ).loc main_arg1)) (m ((c : Thread nD τ).loc main_arg6)))
    (r : Fin 256) (j : Fin 1024) :
    ATTENTION (iblk m c 0 t) (iblk m c 1 t) (iblk m c 2 t) (iblk m c 6 t) (ix2 r j)
      = REF (m ((c : Thread nD τ).loc main_arg0)) (m ((c : Thread nD τ).loc main_arg1)) (m ((c : Thread nD τ).loc main_arg2))
          (m ((c : Thread nD τ).loc main_arg6)) (ix2 ⟨(pt t).val * 256 + r.val, by omega⟩ j) :=
  side_by_side _ _ _ _ _ _ _ _ r (fun j => REF (m ((c : Thread nD τ).loc main_arg0)) (m ((c : Thread nD τ).loc main_arg1)) (m ((c : Thread nD τ).loc main_arg2))
          (m ((c : Thread nD τ).loc main_arg6)) (ix2 ⟨(pt t).val * 256 + r.val, by omega⟩ j))
    (fun l => (pair_low fin (pt t) 0 0 (fun r e => queries m c t _ _ r e _ (by simp)) (fun x e => keys m c t _ _ x _ _ (by simp))
      (fun x e => values m c t _ _ x _ _ (by simp)) (sinks m c t _ _ _ rfl) (sinks m c t _ _ _ rfl) r l).trans
      (congrArg (fun j => REF _ _ _ _ (ix2 _ j)) (Fin.ext (by simp))))
    (fun l => (pair_low fin (pt t) 0 1 (fun r e => queries m c t _ _ r e _ (by simp)) (fun x e => keys m c t _ _ x _ _ (by simp))
      (fun x e => values m c t _ _ x _ _ (by simp)) (sinks m c t _ _ _ rfl) (sinks m c t _ _ _ rfl) r l).trans
      (congrArg (fun j => REF _ _ _ _ (ix2 _ j)) (Fin.ext (by simp))))
    (fun l => (pair_high fin (pt t) 1 0 (fun r e => queries m c t _ _ r e _ (by simp)) (fun x e => keys m c t _ _ x _ _ (by simp <;> omega))
      (fun x e => values m c t _ _ x _ _ (by simp <;> omega)) (sinks m c t _ _ _ rfl) (sinks m c t _ _ _ rfl) r l).trans
      (congrArg (fun j => REF _ _ _ _ (ix2 _ j)) (Fin.ext (by simp))))
    (fun l => (pair_high fin (pt t) 1 1 (fun r e => queries m c t _ _ r e _ (by simp)) (fun x e => keys m c t _ _ x _ _ (by simp <;> omega))
      (fun x e => values m c t _ _ x _ _ (by simp <;> omega)) (sinks m c t _ _ _ rfl) (sinks m c t _ _ _ rfl) r l).trans
      (congrArg (fun j => REF _ _ _ _ (ix2 _ j)) (Fin.ext (by simp))))
    (fun l => (pair_low fin (pt t) 2 0 (fun r e => queries m c t _ _ r e _ (by simp)) (fun x e => keys m c t _ _ x _ _ (by simp))
      (fun x e => values m c t _ _ x _ _ (by simp)) (sinks m c t _ _ _ rfl) (sinks m c t _ _ _ rfl) r l).trans
      (congrArg (fun j => REF _ _ _ _ (ix2 _ j)) (Fin.ext (by simp))))
    (fun l => (pair_low fin (pt t) 2 1 (fun r e => queries m c t _ _ r e _ (by simp)) (fun x e => keys m c t _ _ x _ _ (by simp))
      (fun x e => values m c t _ _ x _ _ (by simp)) (sinks m c t _ _ _ rfl) (sinks m c t _ _ _ rfl) r l).trans
      (congrArg (fun j => REF _ _ _ _ (ix2 _ j)) (Fin.ext (by simp))))
    (fun l => (pair_high fin (pt t) 3 0 (fun r e => queries m c t _ _ r e _ (by simp)) (fun x e => keys m c t _ _ x _ _ (by simp <;> omega))
      (fun x e => values m c t _ _ x _ _ (by simp <;> omega)) (sinks m c t _ _ _ rfl) (sinks m c t _ _ _ rfl) r l).trans
      (congrArg (fun j => REF _ _ _ _ (ix2 _ j)) (Fin.ext (by simp))))
    (fun l => (pair_high fin (pt t) 3 1 (fun r e => queries m c t _ _ r e _ (by simp)) (fun x e => keys m c t _ _ x _ _ (by simp <;> omega))
      (fun x e => values m c t _ _ x _ _ (by simp <;> omega)) (sinks m c t _ _ _ rfl) (sinks m c t _ _ _ rfl) r l).trans
      (congrArg (fun j => REF _ _ _ _ (ix2 _ j)) (Fin.ext (by simp)))) j

/-- The result after the run is the reference's. -/
theorem final (c : Dev nD)
    (fin : FiniteScores (m ((c : Thread nD τ).loc main_arg0)) (m ((c : Thread nD τ).loc main_arg1)) (m ((c : Thread nD τ).loc main_arg6))) :
    (dats m 0 c).arrAt 8 (cfgs 0).N = Cert.AttnRefIdeal.Proved.TAIL (REF (m ((c : Thread nD τ).loc main_arg0)) (m ((c : Thread nD τ).loc main_arg1))
        (m ((c : Thread nD τ).loc main_arg2)) (m ((c : Thread nD τ).loc main_arg6)))
      (m ((c : Thread nD τ).loc main_arg3)) (m ((c : Thread nD τ).loc main_arg4)) (m ((c : Thread nD τ).loc main_arg5)) (m ((c : Thread nD τ).loc main_arg7)) := by
  refine (dats m 0 c).arrAt_eq_of_covers 8 _ (by decide +kernel) fun t _ y => ?_
  blk_simp
  refine (body m c t _).trans ?_
  idx_vars y
  refine (tail_at m c t _ _ _ ⟨(pt t).val * 256 + _, by omega⟩ rfl (attention_block m c t fin _) _).trans ?_
  generalize Cert.AttnRefIdeal.Proved.TAIL (REF (m ((c : Thread nD τ).loc main_arg0)) (m ((c : Thread nD τ).loc main_arg1))
        (m ((c : Thread nD τ).loc main_arg2)) (m ((c : Thread nD τ).loc main_arg6)))
      (m ((c : Thread nD τ).loc main_arg3)) (m ((c : Thread nD τ).loc main_arg4)) (m ((c : Thread nD τ).loc main_arg5)) (m ((c : Thread nD τ).loc main_arg7)) = P
  pointwise []
  blk_point [idx t]

end Cert.AttnIdeal.Proved

end
-- ==== Proof.AttnValue.lean ====
module

public import proofs.«01_k».proof.Defs
public import proofs.«01_k».proof.Proof.FiniteScores
public import proofs.«01_k».proof.Proof.AttnFinal
public import proofs.«01_k».proof.Proof.Gen.AttnRefIdeal.Run
public import Idealize.ShloMosaic.Lib.Claim

@[expose] public section

set_option maxRecDepth 16384

noncomputable section

open Idealize.ShloMosaic Idealize.ShloMosaic.TcCoe Idealize.SL.Sem

namespace Cert.Proof

/-- The result of the prompt's attention is the reference's, over the extended reals, for finite queries, keys and sink logits. -/
theorem attn_value : Cert.algebraic_AttnIdeal_AttnRefIdeal_pre_finite_scores := by
  pair_intro
  · run_from Cert.AttnIdeal.Gen.run_main m g
  · run_from Cert.AttnRefIdeal.Value.run m' g'
    · obtain ⟨h0, h1, h2, h3, h4, h5, h6, h7⟩ := hagree c
      refine (Cert.AttnRefIdeal.Proved.result m' c).trans ?_
      rw [h0, h1, h2, h3, h4, h5, h6, h7]
      exact (Cert.AttnIdeal.Proved.final m c (Cert.Pre_finite_scores.Proved.finite_scores (hpre c))).symm

end Cert.Proof

end
-- ==== Proof.Feed.lean ====
module

public import Idealize.ShloMosaic.Lib.Pipeline.ValueKit
public import Idealize.ShloMosaic.Lib.Pointwise

@[expose] public section

noncomputable section

open Idealize.ShloMosaic

/-! The feed-forward sub-layer of one row, as functions of numbers. -/

namespace Cert.Feed

/-- A row over its root mean square, weighted. -/
def normed (x g : Fin 1024 → EReal) (j : Fin 1024) : EReal :=
  x j * Ideal.rsqrt (Ideal.div (∑ i, x i * x i) (Ideal.ofBits .f32 0x44800000#32) + Ideal.ofBits .f32 0x358637BD#32) * g j

/-- The normalised and modulated row. -/
def modulated (x : Fin 1024 → EReal) (md : Fin 6 → Fin 1024 → EReal) (g : Fin 4 → Fin 1024 → EReal) (j : Fin 1024) : EReal :=
  normed x (g 2) j * (1 + md 4 j) + md 3 j

/-- A unit of the projection to the gates and the ups. -/
def unit (h : Fin 1024 → EReal) (w : Fin 1024 → Fin 5632 → EReal) (c : Fin 5632) : EReal := ∑ i, h i * w i c

/-- A hidden unit: its gate's swish times its up. -/
def hidden (h : Fin 1024 → EReal) (w : Fin 1024 → Fin 5632 → EReal) (c : Fin 2816) : EReal :=
  unit h w ⟨c.val, by omega⟩ * Ideal.div 1 (1 + Ideal.exp (-unit h w ⟨c.val, by omega⟩)) * unit h w ⟨2816 + c.val, by omega⟩

/-- The feed-forward product of a row. -/
def product (h : Fin 1024 → EReal) (w : Fin 1024 → Fin 5632 → EReal) (d : Fin 2816 → Fin 1024 → EReal) (j : Fin 1024) : EReal :=
  ∑ c, hidden h w c * d c j

/-- The residual plus the gated, normalised product. -/
def out (x : Fin 1024 → EReal) (md : Fin 6 → Fin 1024 → EReal) (g : Fin 4 → Fin 1024 → EReal) (w : Fin 1024 → Fin 5632 → EReal)
    (d : Fin 2816 → Fin 1024 → EReal) (j : Fin 1024) : EReal :=
  x j + md 5 j * normed (product (modulated x md g) w d) (g 3) j

/-- A sum over the 2816 hidden units as four chunks. -/
theorem sum_chunks (f : Fin 2816 → EReal) : ∑ j, f j
    = ∑ j : Fin 768, f ⟨j, by omega⟩ + ∑ j : Fin 768, f ⟨768 + j, by omega⟩ + ∑ j : Fin 768, f ⟨1536 + j, by omega⟩
      + ∑ j : Fin 512, f ⟨2304 + j, by omega⟩ := by
  rw [show (∑ j, f j) = ∑ j : Fin (768 + 768 + 768 + 512), f j from rfl, Fin.sum_univ_add, Fin.sum_univ_add,
    Fin.sum_univ_add]
  rfl

end Cert.Feed

end
-- ==== Proof.FfnBlock.lean ====
module

public import proofs.«01_k».proof.Proof.Feed
public import proofs.«01_k».proof.Proof.Gen.FfnIdeal.Value

@[expose] public section

set_option maxRecDepth 16384

noncomputable section

open Idealize.ShloMosaic Idealize.ShloMosaic.TcCoe Idealize.SL.Sem

namespace Cert.FfnIdeal.Proved

open Cert.FfnIdeal Cert.FfnIdeal.Gen

variable (x0 : FVec Ideal S512x1024 .f32) (x1 : FVec Ideal S1x6x1024 .f32) (x2 : FVec Ideal S4x1024 .f32)
    (x3 : FVec Ideal S1024x5632 .bf16) (x4 : FVec Ideal S2816x1024 .bf16)

/-- The normalised and modulated rows of a block. -/
theorem modulated_at (r : Fin 512) (j : Fin 1024) :
    k0_pay2 (F := Ideal) (View.ld x0 r0_0) (View.ld x2 r0_1) (View.ld x1 r0_2) (View.ld x1 r0_3) (ix2 r j)
      = Feed.modulated (fun j => x0 (ix2 r j)) (fun i j => x1 (ix3 0 i j)) (fun i j => x2 (ix2 i j)) j := by
  pointwise [k0_pay2, Feed.modulated, Feed.normed]

/-- The same rows, where the body's frame names them. -/
theorem frame_at (r : Fin 512) (j : Fin 1024) :
    k0_pay15 (F := Ideal) x0 x1 x2 x3 x4 (ix2 r j)
      = Feed.modulated (fun j => x0 (ix2 r j)) (fun i j => x1 (ix3 0 i j)) (fun i j => x2 (ix2 i j)) j := by
  unfold k0_pay15
  exact modulated_at x0 x1 x2 r j

/-- The feed-forward product of a block's rows, summed chunk by chunk. -/
theorem product_at (r : Fin 512) (j : Fin 1024) :
    k0_pay12 (F := Ideal) (k0_pay15 x0 x1 x2 x3 x4) (k0_pay16 x0 x1 x2 x3 x4) (k0_pay17 x0 x1 x2 x3 x4)
      (k0_pay18 x0 x1 x2 x3 x4) (k0_pay19 x0 x1 x2 x3 x4) (View.ld x4 r0_12) (View.ld x3 r0_13) (View.ld x3 r0_14)
      (View.ld x4 r0_15) (ix2 r j)
    = Feed.product (Feed.modulated (fun j => x0 (ix2 r j)) (fun i j => x1 (ix3 0 i j)) (fun i j => x2 (ix2 i j)))
        (fun i j => x3 (ix2 i j)) (fun i j => x4 (ix2 i j)) j := by
  pointwise [k0_pay12, k0_pay16, k0_pay17, k0_pay18, k0_pay19, k0_pay8, k0_pay9, k0_pay10, k0_pay11, k0_pay3,
    k0_pay4, k0_pay5, k0_pay6, k0_pay7]
  unfold Feed.product Feed.hidden Feed.unit
  rw [Feed.sum_chunks]
  simp only [sub_eq_add_neg, zero_add, frame_at, modulated_at]
  blk_point []

/-- The body's tail over its product. -/
theorem tail_at (f : FVec Ideal S512x1024 .f32) (r : Fin 512) (j : Fin 1024) :
    k0_pay1 (F := Ideal) x0 f (k0_pay13 (View.ld x1 r0_16)) (View.ld x2 r0_17) (mulf f f) (ix2 r j)
      = x0 (ix2 r j) + x1 (ix3 0 5 j) * Feed.normed (fun j => f (ix2 r j)) (fun j => x2 (ix2 3 j)) j := by
  pointwise [k0_pay1, k0_pay13, Feed.normed]

/-- The body's result over its blocks, once the feed-forward product is known to be `f`. -/
theorem out_of_product (f : FVec Ideal S512x1024 .f32)
    (hf : k0_pay12 (k0_pay15 x0 x1 x2 x3 x4) (k0_pay16 x0 x1 x2 x3 x4) (k0_pay17 x0 x1 x2 x3 x4)
      (k0_pay18 x0 x1 x2 x3 x4) (k0_pay19 x0 x1 x2 x3 x4) (View.ld x4 r0_12) (View.ld x3 r0_13) (View.ld x3 r0_14)
      (View.ld x4 r0_15) = f) (y : S512x1024.Idx) :
    out0_5 (F := Ideal) x0 x1 x2 x3 x4 y
      = k0_pay1 x0 f (k0_pay13 (View.ld x1 r0_16)) (View.ld x2 r0_17) (mulf f f) y := by
  subst hf
  unfold out0_5 k0_pay14
  frame_out

/-- The body's result over its blocks. -/
theorem block_at (r : Fin 512) (j : Fin 1024) :
    out0_5 (F := Ideal) x0 x1 x2 x3 x4 (ix2 r j)
      = Feed.out (fun j => x0 (ix2 r j)) (fun i j => x1 (ix3 0 i j)) (fun i j => x2 (ix2 i j))
        (fun i j => x3 (ix2 i j)) (fun i j => x4 (ix2 i j)) j := by
  refine (out_of_product x0 x1 x2 x3 x4 _ rfl _).trans ((tail_at x0 x1 x2 _ r j).trans ?_)
  simp only [product_at]
  rfl

end Cert.FfnIdeal.Proved

end
-- ==== Proof.FfnReference.lean ====
module

public import proofs.«01_k».proof.Proof.Feed
public import proofs.«01_k».proof.Proof.Gen.FfnRefIdeal.Run

@[expose] public section

set_option maxRecDepth 16384

noncomputable section

open Idealize.ShloMosaic Idealize.ShloMosaic.TcCoe Idealize.SL.Sem

/-! The reference of the feed-forward call on the prompt, layer by layer, and the numbers it holds. -/

namespace Cert.FfnRefIdeal.Proved

open Cert.FfnRefIdeal Cert.FfnRefIdeal.Gen

/-- The reference's root-mean-square factor of each row, broadcast over the row. -/
abbrev RMS (x : FVec Ideal S8192x1024 .f32) : FVec Ideal S8192x1024 .f32 :=
  broadcastInDim S8192x1024 ![0, 1] bcast_S8192x1_S8192x1024_0_1 (Host.rsqrt (addf (Host.divf
    (broadcastInDim S8192x1 ![0] bcast_S8192_S8192x1_0
      (Host.reduceAdd (mulf x x) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))))

/-- A row of 1024 numbers broadcast over the 8192 rows. -/
abbrev ROW (x : FVec Ideal S1024 .f32) : FVec Ideal S8192x1024 .f32 :=
  broadcastInDim S8192x1024 ![0, 1] bcast_S1x1024_S8192x1024_0_1 (broadcastInDim S1x1024 ![1] bcast_S1024_S1x1024_1 x)

/-- The reference's normalised and modulated input. -/
def HREF (x : FVec Ideal S8192x1024 .f32) (md : FVec Ideal S8x6x1024 .f32) (g : FVec Ideal S4x1024 .f32) :
    FVec Ideal S8192x1024 .f32 :=
  addf (mulf (mulf (mulf x (RMS x))
        (ROW (shapeCast _ (extractStridedSlice S1x1024 ![2, 0] g slices_S4x1024_S1x1024_2_0) shapeCasts_S1x1024_S1024)))
      (ROW (addf (broadcastInDim S1024 ![] bcast_S_S1024 (constant S_ .f32 0x3F800000#32))
        (shapeCast _ (extractStridedSlice S1x1x1024 ![0, 4, 0] md slices_S8x6x1024_S1x1x1024_0_4_0) shapeCasts_S1x1x1024_S1024))))
    (ROW (shapeCast _ (extractStridedSlice S1x1x1024 ![0, 3, 0] md slices_S8x6x1024_S1x1x1024_0_3_0) shapeCasts_S1x1x1024_S1024))

/-- The reference's gate and up projections, side by side. -/
abbrev GUREF (x : FVec Ideal S8192x1024 .f32) (md : FVec Ideal S8x6x1024 .f32) (g : FVec Ideal S4x1024 .f32)
    (w : FVec Ideal S1024x5632 .f32) : FVec Ideal S8192x5632 .f32 :=
  Host.dotGeneral dot_S8192x1024_S1024x5632_S8192x5632_1_0_0_1_n_n none (HREF x md g) w

/-- The reference's feed-forward product `(silu gate * up) @ w_down`. -/
def FREF (x : FVec Ideal S8192x1024 .f32) (md : FVec Ideal S8x6x1024 .f32) (g : FVec Ideal S4x1024 .f32)
    (w : FVec Ideal S1024x5632 .f32) (d : FVec Ideal S2816x1024 .f32) : FVec Ideal S8192x1024 .f32 :=
  Host.dotGeneral dot_S8192x2816_S2816x1024_S8192x1024_1_0_0_1_n_n none
    (mulf (mulf (extractStridedSlice S8192x2816 ![0, 0] (GUREF x md g w) slices_S8192x5632_S8192x2816_0_0)
        (Host.divf (broadcastInDim S8192x2816 ![] bcast_S_S8192x2816 (constant S_ .f32 0x3F800000#32))
          (addf (broadcastInDim S8192x2816 ![] bcast_S_S8192x2816 (constant S_ .f32 0x3F800000#32))
            (Host.exp (Host.negf (extractStridedSlice S8192x2816 ![0, 0] (GUREF x md g w) slices_S8192x5632_S8192x2816_0_0))))))
      (extractStridedSlice S8192x2816 ![0, 2816] (GUREF x md g w) slices_S8192x5632_S8192x2816_0_2816)) d

/-- The reference's result: the residual plus the gated, normalised product. -/
def REF (x : FVec Ideal S8192x1024 .f32) (md : FVec Ideal S8x6x1024 .f32) (g : FVec Ideal S4x1024 .f32)
    (w : FVec Ideal S1024x5632 .f32) (d : FVec Ideal S2816x1024 .f32) : FVec Ideal S8192x1024 .f32 :=
  addf x (mulf (ROW (shapeCast _ (extractStridedSlice S1x1x1024 ![0, 5, 0] md slices_S8x6x1024_S1x1x1024_0_5_0) shapeCasts_S1x1x1024_S1024))
    (mulf (mulf (FREF x md g w d) (RMS (FREF x md g w d)))
      (ROW (shapeCast _ (extractStridedSlice S1x1024 ![3, 0] g slices_S4x1024_S1x1024_3_0) shapeCasts_S1x1024_S1024))))

variable (x : FVec Ideal S8192x1024 .f32) (md : FVec Ideal S8x6x1024 .f32) (g : FVec Ideal S4x1024 .f32)
    (w : FVec Ideal S1024x5632 .f32) (d : FVec Ideal S2816x1024 .f32) (i : Fin 8192) (j : Fin 1024)

/-- The modulated rows. -/
theorem h_at : HREF x md g (ix2 i j)
    = Feed.modulated (fun j => x (ix2 i j)) (fun k j => md (ix3 0 k j)) (fun k j => g (ix2 k j)) j := by
  pointwise [HREF, Feed.modulated, Feed.normed]

/-- The feed-forward product of a row. -/
theorem f_at : FREF x md g w d (ix2 i j)
    = Feed.product (fun j => HREF x md g (ix2 i j)) (fun k j => w (ix2 k j)) (fun k j => d (ix2 k j)) j := by
  pointwise [FREF, Feed.product, Feed.hidden, Feed.unit]

/-- The result of a row whose product is known. -/
theorem tail_at : REF x md g w d (ix2 i j)
    = x (ix2 i j) + md (ix3 0 5 j) * Feed.normed (fun j => FREF x md g w d (ix2 i j)) (fun j => g (ix2 3 j)) j := by
  pointwise [REF, Feed.normed]

/-- The reference's result at row `i`. -/
theorem ref_at : REF x md g w d (ix2 i j)
    = Feed.out (fun j => x (ix2 i j)) (fun k j => md (ix3 0 k j)) (fun k j => g (ix2 k j)) (fun k j => w (ix2 k j))
        (fun k j => d (ix2 k j)) j := by
  rw [tail_at]
  simp only [f_at, h_at]
  rfl

end Cert.FfnRefIdeal.Proved

end
-- ==== Proof.FfnValue.lean ====
module

public import proofs.«01_k».proof.Defs
public import proofs.«01_k».proof.Proof.Gen.FfnIdeal.Value
public import proofs.«01_k».proof.Proof.FfnBlock
public import proofs.«01_k».proof.Proof.FfnReference
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Proved

open Cert.FfnIdeal Cert.FfnIdeal.Gen Cert.FfnRefIdeal.Proved

variable (m : (ℓ : Loc nD τ sig) → Buf (Elt Ideal) ℓ)

/-- The block indices of the windows at every grid point. -/
theorem idx : ∀ t : Fin cfg0.N, win0_0.index t = ![t.val, 0] ∧ win0_1.index t = ![0, 0, 0] ∧
    win0_2.index t = ![0, 0] ∧ win0_3.index t = ![0, 0] ∧ win0_4.index t = ![0, 0] ∧ win0_5.index t = ![t.val, 0] :=
  (by decide +kernel : ∀ t : Fin grid0.N, _)

/-- The array row of row `r` of point `t`'s block. -/
abbrev row (t : Fin cfg0.N) (r : Fin 512) : Fin 8192 := ⟨t.val * 512 + r.val, by have h : t.val < 16 := t.isLt; omega⟩

section Blocks

variable (c : Dev nD) (t : Fin cfg0.N)

/-- Row `r` of point `t`'s block is that row of the array. -/
theorem x_at (r : Fin 512) (j : Fin 1024) : iblk m c 0 t (ix2 r j)
    = (m ((c : Thread nD τ).loc main_arg0) : FVec Ideal S8192x1024 .f32)
        (ix2 (row t r) j) := by
  blk_point [iblk, V, idx t]

/-- Point `t`'s modulation rows are the first. -/
theorem md_at (i : Fin 6) (j : Fin 1024) : iblk m c 1 t (ix3 0 i j)
    = (m ((c : Thread nD τ).loc main_arg1) : FVec Ideal S8x6x1024 .f32)
        (ix3 0 i j) := by
  blk_point [iblk, V, idx t]

/-- The norm weights. -/
theorem g_at (i : Fin 4) (j : Fin 1024) : iblk m c 2 t (ix2 i j)
    = (m ((c : Thread nD τ).loc main_arg2) : FVec Ideal S4x1024 .f32) (ix2 i j) := by
  blk_point [iblk, V, idx t]

/-- The gate and up weights. -/
theorem w_at (i : Fin 1024) (j : Fin 5632) : iblk m c 3 t (ix2 i j)
    = (m ((c : Thread nD τ).loc main_arg3) : FVec Ideal S1024x5632 .f32) (ix2 i j) := by
  blk_point [iblk, V, idx t]

/-- The down weights. -/
theorem d_at (i : Fin 2816) (j : Fin 1024) : iblk m c 4 t (ix2 i j)
    = (m ((c : Thread nD τ).loc main_arg4) : FVec Ideal S2816x1024 .f32) (ix2 i j) := by
  blk_point [iblk, V, idx t]

/-- The result's row `r` of point `t`'s block is that row of the array. -/
theorem emb_at (r : Fin 512) (j : Fin 1024) : ((cfg0.win 5).blk t).view.emb (ix2 r j)
    = (ix2 (row t r) j : S8192x1024.Idx) := by
  blk_point [idx t]

/-- What point `t` stores is the reference at the array index it sits at. -/
theorem point (y : S512x1024.Idx) :
    out0_5 (iblk m c 0 t) (iblk m c 1 t) (iblk m c 2 t) (iblk m c 3 t) (iblk m c 4 t) y
    = REF (m ((c : Thread nD τ).loc main_arg0)) (m ((c : Thread nD τ).loc main_arg1))
        (m ((c : Thread nD τ).loc main_arg2)) (m ((c : Thread nD τ).loc main_arg3))
        (m ((c : Thread nD τ).loc main_arg4)) (((cfg0.win 5).blk t).view.emb y) := by
  obtain ⟨r, j, rfl⟩ : ∃ (r : Fin 512) (j : Fin 1024), y = ix2 r j := ⟨y 0, y 1, eq_ix2 y⟩
  refine (block_at (iblk m c 0 t) (iblk m c 1 t) (iblk m c 2 t) (iblk m c 3 t) (iblk m c 4 t) r j).trans ?_
  rw [emb_at t r j, ref_at]
  congr 1
  · exact funext fun j => x_at m c t r j
  · exact funext fun i => funext fun j => md_at m c t i j
  · exact funext fun i => funext fun j => g_at m c t i j
  · exact funext fun i => funext fun j => w_at m c t i j
  · exact funext fun i => funext fun j => d_at m c t i j

end Blocks

/-- The result array after the run. -/
theorem final (c : Dev nD) : (dats m 0 c).arrAt 5 (cfgs 0).N
    = REF (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t _ y => ?_
  blk_simp
  rw [after0_5]
  exact point m c t y

end Cert.FfnIdeal.Proved

namespace Cert.Proof

/-- The feed-forward call's result is the reference's, over the extended reals. -/
theorem ffn_value : Cert.algebraic_FfnIdeal_FfnRefIdeal := by
  pair_intro
  · run_from Cert.FfnIdeal.Gen.run_main m g
  · run_from Cert.FfnRefIdeal.Value.run m' g'
    unfold Cert.FfnRefIdeal.Value.res_main_v53
    obtain ⟨h0, h1, h2, h3, h4⟩ := hagree c
    rw [h0, h1, h2, h3, h4]
    exact (Cert.FfnIdeal.Proved.final m c).symm

end Cert.Proof

end
-- ==== Proof.PreValue.lean ====
module

public import proofs.«01_k».proof.Defs
public import proofs.«01_k».proof.Proof.Gen.PreIdeal.Value
public import proofs.«01_k».proof.Proof.Gen.PreRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PreIdeal.Proved

open Cert.PreIdeal Cert.PreIdeal.Gen

variable (m : (ℓ : Loc nD τ sig) → Buf (Elt Ideal) ℓ)

/-! ## The reference's term, layer by layer -/

section Reference

open Cert.PreRefIdeal Cert.PreRefIdeal.Gen

/-- The reference's root-mean-square factor of each row, broadcast over the row. -/
abbrev RMS (x : FVec Ideal S8192x1024 .f32) : FVec Ideal S8192x1024 .f32 :=
  broadcastInDim S8192x1024 ![0, 1] bcast_S8192x1_S8192x1024_0_1 (Host.rsqrt (addf (Host.divf
    (broadcastInDim S8192x1 ![0] bcast_S8192_S8192x1_0
      (Host.reduceAdd (mulf x x) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))))

/-- A row of 1024 numbers broadcast over the 8192 rows. -/
abbrev ROW (x : FVec Ideal S1024 .f32) : FVec Ideal S8192x1024 .f32 :=
  broadcastInDim S8192x1024 ![0, 1] bcast_S1x1024_S8192x1024_0_1 (broadcastInDim S1x1024 ![1] bcast_S1024_S1x1024_1 x)

/-- The reference's normalised and modulated input. -/
def HREF (x : FVec Ideal S8192x1024 .f32) (md : FVec Ideal S8x6x1024 .f32) (g : FVec Ideal S4x1024 .f32) :
    FVec Ideal S8192x1024 .f32 :=
  addf (mulf (mulf (mulf x (RMS x))
        (ROW (shapeCast _ (extractStridedSlice S1x1024 ![0, 0] g slices_S4x1024_S1x1024_0_0) shapeCasts_S1x1024_S1024)))
      (ROW (addf (broadcastInDim S1024 ![] bcast_S_S1024 (constant S_ .f32 0x3F800000#32))
        (shapeCast _ (extractStridedSlice S1x1x1024 ![0, 1, 0] md slices_S8x6x1024_S1x1x1024_0_1_0) shapeCasts_S1x1x1024_S1024))))
    (ROW (shapeCast _ (extractStridedSlice S1x1x1024 ![0, 0, 0] md slices_S8x6x1024_S1x1x1024_0_0_0) shapeCasts_S1x1x1024_S1024))

/-- The reference's projection of the normalised and modulated input. -/
def PROJ (x : FVec Ideal S8192x1024 .f32) (md : FVec Ideal S8x6x1024 .f32) (g : FVec Ideal S4x1024 .f32)
    (w : FVec Ideal S1024x2560 .f32) : FVec Ideal S8192x2560 .f32 :=
  Host.dotGeneral dot_S8192x1024_S1024x2560_S8192x2560_1_0_0_1_n_n none (HREF x md g) w

end Reference

/-- The block indices of the windows at every grid point. -/
theorem idx : ∀ t : Fin cfg0.N, win0_0.index t = ![t.val, 0] ∧ win0_1.index t = ![0, 0, 0] ∧
    win0_2.index t = ![0, 0] ∧ win0_3.index t = ![0, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `r` of point `t` is a row of the array. -/
theorem row_lt (t : Fin cfg0.N) (r : Fin 512) : t.val * 512 + r.val < 8192 := by
  have h : t.val < 16 := t.isLt
  omega

/-- The projection of point `t`'s rows is the reference's, at row `512 t + r`. -/
theorem proj_at (c : Dev nD) (t : Fin cfg0.N) (r : Fin 512) (j : Fin 2560) (i : Fin 8192) (hi : i.val = t.val * 512 + r.val) :
    k0_pay2 (View.ld (iblk m c 0 t) r0_0) (View.ld (iblk m c 2 t) r0_1) (View.ld (iblk m c 1 t) r0_2)
      (View.ld (iblk m c 1 t) r0_3) (View.ld (iblk m c 3 t) r0_4) (ix2 r j)
    = PROJ (m ((c : Thread nD τ).loc main_arg0)) (m ((c : Thread nD τ).loc main_arg1))
        (m ((c : Thread nD τ).loc main_arg2)) (m ((c : Thread nD τ).loc main_arg3)) (ix2 i j) := by
  pointwise [k0_pay2, PROJ, HREF]
  blk_point [iblk, V, idx t]

/-- What the body stores in window 4: columns 0 on of the projection of the block's rows. -/
theorem out4 (x0 : FVec Ideal S512x1024 .f32) (x1 : FVec Ideal S1x6x1024 .f32) (x2 : FVec Ideal S4x1024 .f32)
    (x3 : FVec Ideal S1024x2560 .bf16) (y : S512x1024.Idx) :
    out0_4 (F := Ideal) x0 x1 x2 x3 y = k0_pay2 (F := Ideal) (View.ld x0 r0_0) (View.ld x2 r0_1) (View.ld x1 r0_2)
      (View.ld x1 r0_3) (View.ld x3 r0_4) (ix2 (y 0) ⟨0 + (y 1).val, Nat.lt_of_lt_of_le (Nat.add_lt_add_left (y 1).isLt _) (by decide)⟩) := by
  unfold out0_4 k0_pay3
  frame_out
  generalize k0_pay2 (F := Ideal) (View.ld x0 r0_0) (View.ld x2 r0_1) (View.ld x1 r0_2) (View.ld x1 r0_3) (View.ld x3 r0_4) = f
  idx_vars y
  pointwise []

/-- Result 0 after the run: columns 0 on of the reference's projection. -/
theorem final4 (c : Dev nD) : (dats m 0 c).arrAt 4 (cfgs 0).N
    = (extractStridedSlice Cert.PreRefIdeal.S8192x1024 ![0, 0] (PROJ (m ((c : Thread nD τ).loc main_arg0))
        (m ((c : Thread nD τ).loc main_arg1)) (m ((c : Thread nD τ).loc main_arg2)) (m ((c : Thread nD τ).loc main_arg3)))
        Cert.PreRefIdeal.Gen.slices_S8192x2560_S8192x1024_0_0) := by
  refine (dats m 0 c).arrAt_eq_of_covers 4 _ (by decide +kernel) fun t _ y => ?_
  blk_simp
  rw [after0_4]
  refine (out4 _ _ _ _ y).trans ((proj_at m c t _ _ ⟨t.val * 512 + (y 0).val, row_lt t (y 0)⟩ rfl).trans ?_)
  generalize PROJ (m ((c : Thread nD τ).loc main_arg0)) (m ((c : Thread nD τ).loc main_arg1))
    (m ((c : Thread nD τ).loc main_arg2)) (m ((c : Thread nD τ).loc main_arg3)) = P
  pointwise []
  blk_point [idx t]

/-- What the body stores in window 5: columns 1024 on of the projection of the block's rows. -/
theorem out5 (x0 : FVec Ideal S512x1024 .f32) (x1 : FVec Ideal S1x6x1024 .f32) (x2 : FVec Ideal S4x1024 .f32)
    (x3 : FVec Ideal S1024x2560 .bf16) (y : S512x512.Idx) :
    out0_5 (F := Ideal) x0 x1 x2 x3 y = k0_pay2 (F := Ideal) (View.ld x0 r0_0) (View.ld x2 r0_1) (View.ld x1 r0_2)
      (View.ld x1 r0_3) (View.ld x3 r0_4) (ix2 (y 0) ⟨1024 + (y 1).val, Nat.lt_of_lt_of_le (Nat.add_lt_add_left (y 1).isLt _) (by decide)⟩) := by
  unfold out0_5 k0_pay4
  frame_out
  generalize k0_pay2 (F := Ideal) (View.ld x0 r0_0) (View.ld x2 r0_1) (View.ld x1 r0_2) (View.ld x1 r0_3) (View.ld x3 r0_4) = f
  idx_vars y
  pointwise []

/-- Result 1 after the run: columns 1024 on of the reference's projection. -/
theorem final5 (c : Dev nD) : (dats m 0 c).arrAt 5 (cfgs 0).N
    = truncf .bf16 (extractStridedSlice Cert.PreRefIdeal.S8192x512 ![0, 1024] (PROJ (m ((c : Thread nD τ).loc main_arg0))
        (m ((c : Thread nD τ).loc main_arg1)) (m ((c : Thread nD τ).loc main_arg2)) (m ((c : Thread nD τ).loc main_arg3)))
        Cert.PreRefIdeal.Gen.slices_S8192x2560_S8192x512_0_1024) Cert.PreRefIdeal.Gen.bitsLt_bf16_f32 := by
  refine (dats m 0 c).arrAt_eq_of_covers 5 _ (by decide +kernel) fun t _ y => ?_
  blk_simp
  rw [after0_5]
  refine (out5 _ _ _ _ y).trans ((proj_at m c t _ _ ⟨t.val * 512 + (y 0).val, row_lt t (y 0)⟩ rfl).trans ?_)
  generalize PROJ (m ((c : Thread nD τ).loc main_arg0)) (m ((c : Thread nD τ).loc main_arg1))
    (m ((c : Thread nD τ).loc main_arg2)) (m ((c : Thread nD τ).loc main_arg3)) = P
  pointwise []
  blk_point [idx t]

/-- What the body stores in window 6: columns 1536 on of the projection of the block's rows. -/
theorem out6 (x0 : FVec Ideal S512x1024 .f32) (x1 : FVec Ideal S1x6x1024 .f32) (x2 : FVec Ideal S4x1024 .f32)
    (x3 : FVec Ideal S1024x2560 .bf16) (y : S512x512.Idx) :
    out0_6 (F := Ideal) x0 x1 x2 x3 y = k0_pay2 (F := Ideal) (View.ld x0 r0_0) (View.ld x2 r0_1) (View.ld x1 r0_2)
      (View.ld x1 r0_3) (View.ld x3 r0_4) (ix2 (y 0) ⟨1536 + (y 1).val, Nat.lt_of_lt_of_le (Nat.add_lt_add_left (y 1).isLt _) (by decide)⟩) := by
  unfold out0_6 k0_pay5
  frame_out
  generalize k0_pay2 (F := Ideal) (View.ld x0 r0_0) (View.ld x2 r0_1) (View.ld x1 r0_2) (View.ld x1 r0_3) (View.ld x3 r0_4) = f
  idx_vars y
  pointwise []

/-- Result 2 after the run: columns 1536 on of the reference's projection. -/
theorem final6 (c : Dev nD) : (dats m 0 c).arrAt 6 (cfgs 0).N
    = (extractStridedSlice Cert.PreRefIdeal.S8192x512 ![0, 1536] (PROJ (m ((c : Thread nD τ).loc main_arg0))
        (m ((c : Thread nD τ).loc main_arg1)) (m ((c : Thread nD τ).loc main_arg2)) (m ((c : Thread nD τ).loc main_arg3)))
        Cert.PreRefIdeal.Gen.slices_S8192x2560_S8192x512_0_1536) := by
  refine (dats m 0 c).arrAt_eq_of_covers 6 _ (by decide +kernel) fun t _ y => ?_
  blk_simp
  rw [after0_6]
  refine (out6 _ _ _ _ y).trans ((proj_at m c t _ _ ⟨t.val * 512 + (y 0).val, row_lt t (y 0)⟩ rfl).trans ?_)
  generalize PROJ (m ((c : Thread nD τ).loc main_arg0)) (m ((c : Thread nD τ).loc main_arg1))
    (m ((c : Thread nD τ).loc main_arg2)) (m ((c : Thread nD τ).loc main_arg3)) = P
  pointwise []
  blk_point [idx t]

/-- What the body stores in window 7: columns 2048 on of the projection of the block's rows. -/
theorem out7 (x0 : FVec Ideal S512x1024 .f32) (x1 : FVec Ideal S1x6x1024 .f32) (x2 : FVec Ideal S4x1024 .f32)
    (x3 : FVec Ideal S1024x2560 .bf16) (y : S512x512.Idx) :
    out0_7 (F := Ideal) x0 x1 x2 x3 y = k0_pay2 (F := Ideal) (View.ld x0 r0_0) (View.ld x2 r0_1) (View.ld x1 r0_2)
      (View.ld x1 r0_3) (View.ld x3 r0_4) (ix2 (y 0) ⟨2048 + (y 1).val, Nat.lt_of_lt_of_le (Nat.add_lt_add_left (y 1).isLt _) (by decide)⟩) := by
  unfold out0_7 k0_pay1
  frame_out
  generalize k0_pay2 (F := Ideal) (View.ld x0 r0_0) (View.ld x2 r0_1) (View.ld x1 r0_2) (View.ld x1 r0_3) (View.ld x3 r0_4) = f
  idx_vars y
  pointwise []

/-- Result 3 after the run: columns 2048 on of the reference's projection. -/
theorem final7 (c : Dev nD) : (dats m 0 c).arrAt 7 (cfgs 0).N
    = (extractStridedSlice Cert.PreRefIdeal.S8192x512 ![0, 2048] (PROJ (m ((c : Thread nD τ).loc main_arg0))
        (m ((c : Thread nD τ).loc main_arg1)) (m ((c : Thread nD τ).loc main_arg2)) (m ((c : Thread nD τ).loc main_arg3)))
        Cert.PreRefIdeal.Gen.slices_S8192x2560_S8192x512_0_2048) := by
  refine (dats m 0 c).arrAt_eq_of_covers 7 _ (by decide +kernel) fun t _ y => ?_
  blk_simp
  rw [after0_7]
  refine (out7 _ _ _ _ y).trans ((proj_at m c t _ _ ⟨t.val * 512 + (y 0).val, row_lt t (y 0)⟩ rfl).trans ?_)
  generalize PROJ (m ((c : Thread nD τ).loc main_arg0)) (m ((c : Thread nD τ).loc main_arg1))
    (m ((c : Thread nD τ).loc main_arg2)) (m ((c : Thread nD τ).loc main_arg3)) = P
  pointwise []
  blk_point [idx t]

end Cert.PreIdeal.Proved

namespace Cert.Proof

/-- The results of layer 0's input projection are the reference's, over the extended reals. -/
theorem pre_value : Cert.algebraic_PreIdeal_PreRefIdeal := by
  pair_intro
  · run_from Cert.PreIdeal.Gen.run_main m g
  · run_from Cert.PreRefIdeal.Value.run m' g'
    · exact (Cert.PreIdeal.Proved.final4 m c).symm
    · exact (Cert.PreIdeal.Proved.final5 m c).symm
    · exact (Cert.PreIdeal.Proved.final6 m c).symm
    · exact (Cert.PreIdeal.Proved.final7 m c).symm

end Cert.Proof

end
-- ==== Proof.ModValue.lean ====
module

public import proofs.«01_k».proof.Defs
public import proofs.«01_k».proof.Proof.Gen.ModIdeal.Value
public import proofs.«01_k».proof.Proof.Gen.ModRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ModIdeal.Proved

open Cert.ModIdeal Cert.ModIdeal.Gen

variable (m : (ℓ : Loc nD τ sig) → Buf (Elt Ideal) ℓ)

/-- The reference's result over the argument arrays: `silu cond @ W + b`. -/
abbrev REF (x : FVec Ideal S8x1024 .f32) (w : FVec Ideal S1024x6144 .f32) (b : FVec Ideal S6144 .f32) :
    FVec Ideal S8x6144 .f32 :=
  addf (Host.dotGeneral Cert.ModRefIdeal.dot_S8x1024_S1024x6144_S8x6144_1_0_0_1_n_n none
      (mulf x (Host.divf (broadcastInDim Cert.ModRefIdeal.S8x1024 ![] Cert.ModRefIdeal.Gen.bcast_S_S8x1024
          (constant Cert.ModRefIdeal.S_ .f32 0x3F800000#32))
        (addf (broadcastInDim Cert.ModRefIdeal.S8x1024 ![] Cert.ModRefIdeal.Gen.bcast_S_S8x1024
          (constant Cert.ModRefIdeal.S_ .f32 0x3F800000#32)) (Host.exp (Host.negf x))))) w)
    (broadcastInDim Cert.ModRefIdeal.S8x6144 ![0, 1] Cert.ModRefIdeal.Gen.bcast_S1x6144_S8x6144_0_1
      (broadcastInDim Cert.ModRefIdeal.S1x6144 ![1] Cert.ModRefIdeal.Gen.bcast_S6144_S1x6144_1 b))

/-- The block indices of the four windows at every grid point. -/
theorem idx : ∀ t : Fin cfg0.N, win0_0.index t = ![0, 0] ∧ win0_1.index t = ![0, t.val] ∧
    win0_2.index t = ![0, t.val] ∧ win0_3.index t = ![0, t.val] :=
  (by decide +kernel : ∀ t : Fin grid0.N, _)

/-- What point `t` stores at a block index is the reference at the array index it sits at. -/
theorem point (c : Dev nD) (t : Fin cfg0.N) (y) : k0_pay1 (iblk m c 0 t) (iblk m c 1 t) (iblk m c 2 t) y
    = REF (m ((c : Thread nD τ).loc main_arg0)) (m ((c : Thread nD τ).loc main_arg1))
        (m ((c : Thread nD τ).loc main_arg2)) (((cfg0.win 3).blk t).view.emb y) := by
  pointwise [k0_pay1, REF]
  simp only [sub_eq_add_neg, zero_add]
  blk_point [iblk, V, idx t]

/-- The result array after the run. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.ModIdeal.Proved

namespace Cert.Proof

/-- The modulation call's result is the reference's, over the extended reals. -/
theorem mod_value : Cert.algebraic_ModIdeal_ModRefIdeal := by
  pair_intro
  · run_from Cert.ModIdeal.Gen.run_main m g
  · run_from Cert.ModRefIdeal.Value.run m' g'
    exact (Cert.ModIdeal.Proved.final m c).symm

end Cert.Proof

end
-- ==== Proof.QkvValue.lean ====
module

public import proofs.«01_k».proof.Defs
public import proofs.«01_k».proof.Proof.Gen.QkvIdeal.Value
public import proofs.«01_k».proof.Proof.Gen.QkvRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvIdeal.Proved

open Cert.QkvIdeal Cert.QkvIdeal.Gen

variable (m : (ℓ : Loc nD τ sig) → Buf (Elt Ideal) ℓ)

/-! ## The reference's term, layer by layer -/

section Reference

open Cert.QkvRefIdeal Cert.QkvRefIdeal.Gen

/-- The reference's root-mean-square factor of each row, broadcast over the row. -/
abbrev RMS (x : FVec Ideal S8192x1024 .f32) : FVec Ideal S8192x1024 .f32 :=
  broadcastInDim S8192x1024 ![0, 1] bcast_S8192x1_S8192x1024_0_1 (Host.rsqrt (addf (Host.divf
    (broadcastInDim S8192x1 ![0] bcast_S8192_S8192x1_0
      (Host.reduceAdd (mulf x x) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))))

/-- A row of 1024 numbers broadcast over the 8192 rows. -/
abbrev ROW (x : FVec Ideal S1024 .f32) : FVec Ideal S8192x1024 .f32 :=
  broadcastInDim S8192x1024 ![0, 1] bcast_S1x1024_S8192x1024_0_1 (broadcastInDim S1x1024 ![1] bcast_S1024_S1x1024_1 x)

/-- The reference's normalised and modulated input. -/
def HREF (x : FVec Ideal S8192x1024 .f32) (md : FVec Ideal S8x6x1024 .f32) (g : FVec Ideal S4x1024 .f32) :
    FVec Ideal S8192x1024 .f32 :=
  addf (mulf (mulf (mulf x (RMS x))
        (ROW (shapeCast _ (extractStridedSlice S1x1024 ![0, 0] g slices_S4x1024_S1x1024_0_0) shapeCasts_S1x1024_S1024)))
      (ROW (addf (broadcastInDim S1024 ![] bcast_S_S1024 (constant S_ .f32 0x3F800000#32))
        (shapeCast _ (extractStridedSlice S1x1x1024 ![0, 1, 0] md slices_S8x6x1024_S1x1x1024_0_1_0) shapeCasts_S1x1x1024_S1024))))
    (ROW (shapeCast _ (extractStridedSlice S1x1x1024 ![0, 0, 0] md slices_S8x6x1024_S1x1x1024_0_0_0) shapeCasts_S1x1x1024_S1024))

/-- The reference's projection of the normalised and modulated input. -/
def PROJ (x : FVec Ideal S8192x1024 .f32) (md : FVec Ideal S8x6x1024 .f32) (g : FVec Ideal S4x1024 .f32)
    (w : FVec Ideal S1024x1536 .f32) : FVec Ideal S8192x1536 .f32 :=
  Host.dotGeneral dot_S8192x1024_S1024x1536_S8192x1536_1_0_0_1_n_n none (HREF x md g) w

end Reference

/-- The block indices of the windows at every grid point. -/
theorem idx : ∀ t : Fin cfg0.N, win0_0.index t = ![t.val, 0] ∧ win0_1.index t = ![0, 0, 0] ∧
    win0_2.index t = ![0, 0] ∧ win0_3.index t = ![0, 0] ∧ win0_4.index t = ![t.val, 0] ∧ win0_5.index t = ![t.val, 0] ∧ win0_6.index t = ![t.val, 0] :=
  (by decide +kernel : ∀ t : Fin grid0.N, _)

/-- Row `r` of point `t` is a row of the array. -/
theorem row_lt (t : Fin cfg0.N) (r : Fin 512) : t.val * 512 + r.val < 8192 := by
  have h : t.val < 16 := t.isLt
  omega

/-- The projection of point `t`'s rows is the reference's, at row `512 t + r`. -/
theorem proj_at (c : Dev nD) (t : Fin cfg0.N) (r : Fin 512) (j : Fin 1536) (i : Fin 8192) (hi : i.val = t.val * 512 + r.val) :
    k0_pay1 (View.ld (iblk m c 0 t) r0_0) (View.ld (iblk m c 2 t) r0_1) (View.ld (iblk m c 1 t) r0_2)
      (View.ld (iblk m c 1 t) r0_3) (View.ld (iblk m c 3 t) r0_4) (ix2 r j)
    = PROJ (m ((c : Thread nD τ).loc main_arg0)) (m ((c : Thread nD τ).loc main_arg1))
        (m ((c : Thread nD τ).loc main_arg2)) (m ((c : Thread nD τ).loc main_arg3)) (ix2 i j) := by
  pointwise [k0_pay1, PROJ, HREF]
  blk_point [iblk, V, idx t]

/-- What the body stores in window 4: columns 0 on of the projection of the block's rows. -/
theorem out4 (x0 : FVec Ideal S512x1024 .f32) (x1 : FVec Ideal S1x6x1024 .f32) (x2 : FVec Ideal S4x1024 .f32)
    (x3 : FVec Ideal S1024x1536 .bf16) (y : S512x1024.Idx) :
    out0_4 (F := Ideal) x0 x1 x2 x3 y = k0_pay1 (F := Ideal) (View.ld x0 r0_0) (View.ld x2 r0_1) (View.ld x1 r0_2)
      (View.ld x1 r0_3) (View.ld x3 r0_4) (ix2 (y 0) ⟨0 + (y 1).val, Nat.lt_of_lt_of_le (Nat.add_lt_add_left (y 1).isLt _) (by decide)⟩) := by
  unfold out0_4 k0_pay2
  frame_out
  generalize k0_pay1 (F := Ideal) (View.ld x0 r0_0) (View.ld x2 r0_1) (View.ld x1 r0_2) (View.ld x1 r0_3) (View.ld x3 r0_4) = f
  idx_vars y
  pointwise []

/-- Result 0 after the run: columns 0 on of the reference's projection. -/
theorem final4 (c : Dev nD) : (dats m 0 c).arrAt 4 (cfgs 0).N
    = truncf .bf16 (extractStridedSlice Cert.QkvRefIdeal.S8192x1024 ![0, 0] (PROJ (m ((c : Thread nD τ).loc main_arg0))
        (m ((c : Thread nD τ).loc main_arg1)) (m ((c : Thread nD τ).loc main_arg2)) (m ((c : Thread nD τ).loc main_arg3)))
        Cert.QkvRefIdeal.Gen.slices_S8192x1536_S8192x1024_0_0) Cert.QkvRefIdeal.Gen.bitsLt_bf16_f32 := by
  refine (dats m 0 c).arrAt_eq_of_covers 4 _ (by decide +kernel) fun t _ y => ?_
  blk_simp
  rw [after0_4]
  refine (out4 _ _ _ _ y).trans ((proj_at m c t _ _ ⟨t.val * 512 + (y 0).val, row_lt t (y 0)⟩ rfl).trans ?_)
  generalize PROJ (m ((c : Thread nD τ).loc main_arg0)) (m ((c : Thread nD τ).loc main_arg1))
    (m ((c : Thread nD τ).loc main_arg2)) (m ((c : Thread nD τ).loc main_arg3)) = P
  pointwise []
  blk_point [idx t]

/-- What the body stores in window 5: columns 1024 on of the projection of the block's rows. -/
theorem out5 (x0 : FVec Ideal S512x1024 .f32) (x1 : FVec Ideal S1x6x1024 .f32) (x2 : FVec Ideal S4x1024 .f32)
    (x3 : FVec Ideal S1024x1536 .bf16) (y : S512x256.Idx) :
    out0_5 (F := Ideal) x0 x1 x2 x3 y = k0_pay1 (F := Ideal) (View.ld x0 r0_0) (View.ld x2 r0_1) (View.ld x1 r0_2)
      (View.ld x1 r0_3) (View.ld x3 r0_4) (ix2 (y 0) ⟨1024 + (y 1).val, Nat.lt_of_lt_of_le (Nat.add_lt_add_left (y 1).isLt _) (by decide)⟩) := by
  unfold out0_5 k0_pay3
  frame_out
  generalize k0_pay1 (F := Ideal) (View.ld x0 r0_0) (View.ld x2 r0_1) (View.ld x1 r0_2) (View.ld x1 r0_3) (View.ld x3 r0_4) = f
  idx_vars y
  pointwise []

/-- Result 1 after the run: columns 1024 on of the reference's projection. -/
theorem final5 (c : Dev nD) : (dats m 0 c).arrAt 5 (cfgs 0).N
    = (extractStridedSlice Cert.QkvRefIdeal.S8192x256 ![0, 1024] (PROJ (m ((c : Thread nD τ).loc main_arg0))
        (m ((c : Thread nD τ).loc main_arg1)) (m ((c : Thread nD τ).loc main_arg2)) (m ((c : Thread nD τ).loc main_arg3)))
        Cert.QkvRefIdeal.Gen.slices_S8192x1536_S8192x256_0_1024) := by
  refine (dats m 0 c).arrAt_eq_of_covers 5 _ (by decide +kernel) fun t _ y => ?_
  blk_simp
  rw [after0_5]
  refine (out5 _ _ _ _ y).trans ((proj_at m c t _ _ ⟨t.val * 512 + (y 0).val, row_lt t (y 0)⟩ rfl).trans ?_)
  generalize PROJ (m ((c : Thread nD τ).loc main_arg0)) (m ((c : Thread nD τ).loc main_arg1))
    (m ((c : Thread nD τ).loc main_arg2)) (m ((c : Thread nD τ).loc main_arg3)) = P
  pointwise []
  blk_point [idx t]

/-- What the body stores in window 6: columns 1280 on of the projection of the block's rows. -/
theorem out6 (x0 : FVec Ideal S512x1024 .f32) (x1 : FVec Ideal S1x6x1024 .f32) (x2 : FVec Ideal S4x1024 .f32)
    (x3 : FVec Ideal S1024x1536 .bf16) (y : S512x256.Idx) :
    out0_6 (F := Ideal) x0 x1 x2 x3 y = k0_pay1 (F := Ideal) (View.ld x0 r0_0) (View.ld x2 r0_1) (View.ld x1 r0_2)
      (View.ld x1 r0_3) (View.ld x3 r0_4) (ix2 (y 0) ⟨1280 + (y 1).val, Nat.lt_of_lt_of_le (Nat.add_lt_add_left (y 1).isLt _) (by decide)⟩) := by
  unfold out0_6 k0_pay4
  frame_out
  generalize k0_pay1 (F := Ideal) (View.ld x0 r0_0) (View.ld x2 r0_1) (View.ld x1 r0_2) (View.ld x1 r0_3) (View.ld x3 r0_4) = f
  idx_vars y
  pointwise []

/-- Result 2 after the run: columns 1280 on of the reference's projection. -/
theorem final6 (c : Dev nD) : (dats m 0 c).arrAt 6 (cfgs 0).N
    = (extractStridedSlice Cert.QkvRefIdeal.S8192x256 ![0, 1280] (PROJ (m ((c : Thread nD τ).loc main_arg0))
        (m ((c : Thread nD τ).loc main_arg1)) (m ((c : Thread nD τ).loc main_arg2)) (m ((c : Thread nD τ).loc main_arg3)))
        Cert.QkvRefIdeal.Gen.slices_S8192x1536_S8192x256_0_1280) := by
  refine (dats m 0 c).arrAt_eq_of_covers 6 _ (by decide +kernel) fun t _ y => ?_
  blk_simp
  rw [after0_6]
  refine (out6 _ _ _ _ y).trans ((proj_at m c t _ _ ⟨t.val * 512 + (y 0).val, row_lt t (y 0)⟩ rfl).trans ?_)
  generalize PROJ (m ((c : Thread nD τ).loc main_arg0)) (m ((c : Thread nD τ).loc main_arg1))
    (m ((c : Thread nD τ).loc main_arg2)) (m ((c : Thread nD τ).loc main_arg3)) = P
  pointwise []
  blk_point [idx t]

end Cert.QkvIdeal.Proved

namespace Cert.Proof

/-- The results of layer 1's input projection are the reference's, over the extended reals. -/
theorem qkv_value : Cert.algebraic_QkvIdeal_QkvRefIdeal := by
  pair_intro
  · run_from Cert.QkvIdeal.Gen.run_main m g
  · run_from Cert.QkvRefIdeal.Value.run m' g'
    · exact (Cert.QkvIdeal.Proved.final4 m c).symm
    · exact (Cert.QkvIdeal.Proved.final5 m c).symm
    · exact (Cert.QkvIdeal.Proved.final6 m c).symm

end Cert.Proof

end
-- ==== Proof.MixValue.lean ====
module

public import proofs.«01_k».proof.Defs
public import proofs.«01_k».proof.Proof.FiniteMix
public import proofs.«01_k».proof.Proof.MixFinal
public import proofs.«01_k».proof.Proof.Gen.MixRefIdeal.Run
public import Idealize.ShloMosaic.Lib.Claim

@[expose] public section

set_option maxRecDepth 16384
set_option maxHeartbeats 4000000

noncomputable section

open Idealize.ShloMosaic Idealize.ShloMosaic.TcCoe Idealize.SL.Sem

namespace Cert.Proof

/-- The result of layer 0's mixer on the prompt is the reference's, over the extended reals, for finite queries and keys. -/
theorem mix_value : Cert.algebraic_MixIdeal_MixRefIdeal_pre_finite_mix := by
  pair_intro
  · run_from Cert.MixIdeal.Gen.run_main m g
  · run_from Cert.MixRefIdeal.Value.run m' g'
    · obtain ⟨h0, h1, h2, h3, h4, h5, h6, h7, h8, h9, h10, h11, h12, h13⟩ := hagree c
      refine (Cert.MixRefIdeal.Proved.result m' c _ _ _).trans ?_
      rw [h0, h1, h2, h3, h7, h8, h9, h10, h11, h12, h13]
      exact (Cert.MixIdeal.Proved.final m c (Cert.Pre_finite_mix.Proved.finite_mix (hpre c))).symm

end Cert.Proof

end
-- ==== Proof.FfsReference.lean ====
module

public import proofs.«01_k».proof.Proof.Feed
public import proofs.«01_k».proof.Proof.Gen.FfsRefIdeal.Run

@[expose] public section

set_option maxRecDepth 16384

noncomputable section

open Idealize.ShloMosaic Idealize.ShloMosaic.TcCoe Idealize.SL.Sem

/-! The reference of the feed-forward call on the sample, layer by layer, and the numbers it holds. -/

namespace Cert.FfsRefIdeal.Proved

open Cert.FfsRefIdeal Cert.FfsRefIdeal.Gen

/-- The root-mean-square factor of each row, broadcast over the row. -/
abbrev RMS (x : FVec Ideal S2x1024x1024 .f32) : FVec Ideal S2x1024x1024 .f32 :=
  broadcastInDim S2x1024x1024 ![0, 1, 2] bcast_S2x1024x1_S2x1024x1024_0_1_2 (Host.rsqrt (addf (Host.divf
    (broadcastInDim S2x1024x1 ![0, 1] bcast_S2x1024_S2x1024x1_0_1
      (Host.reduceAdd (mulf x x) (constant S_ .f32 0x00000000#32) reducesTo_S2x1024x1024_S2x1024_d2 h_S_))
    (broadcastInDim S2x1024x1 ![] bcast_S_S2x1024x1 (constant S_ .f32 0x44800000#32)))
    (broadcastInDim S2x1024x1 ![] bcast_S_S2x1024x1 (constant S_ .f32 0x358637BD#32))))

/-- A weight row broadcast over the batches and rows. -/
abbrev ROW (x : FVec Ideal S1x1024 .f32) : FVec Ideal S2x1024x1024 .f32 :=
  broadcastInDim S2x1024x1024 ![0, 1, 2] bcast_S1x1x1024_S2x1024x1024_0_1_2
    (broadcastInDim S1x1x1024 ![2] bcast_S1024_S1x1x1024_2 (shapeCast _ x shapeCasts_S1x1024_S1024))

/-- The two batches' modulation rows. -/
abbrev MOD (md : FVec Ideal S8x6x1024 .f32) : FVec Ideal S2x6x1x1024 .f32 :=
  broadcastInDim S2x6x1x1024 ![0, 1, 3] bcast_S2x6x1024_S2x6x1x1024_0_1_3
    (extractStridedSlice S2x6x1024 ![1, 0, 0] md slices_S8x6x1024_S2x6x1024_1_0_0)

/-- A modulation row of each batch, broadcast over its rows. -/
abbrev OVER (x : FVec Ideal S2x1x1024 .f32) : FVec Ideal S2x1024x1024 .f32 :=
  broadcastInDim S2x1024x1024 ![0, 1, 2] bcast_S2x1x1024_S2x1024x1024_0_1_2 x

/-- The sample's rows by batch. -/
abbrev X (x : FVec Ideal S2048x1024 .f32) : FVec Ideal S2x1024x1024 .f32 :=
  shapeCast _ x shapeCasts_S2048x1024_S2x1024x1024

/-- The normalised and modulated input. -/
def HREF (x : FVec Ideal S2048x1024 .f32) (md : FVec Ideal S8x6x1024 .f32) (g : FVec Ideal S4x1024 .f32) :
    FVec Ideal S2x1024x1024 .f32 :=
  addf (mulf (mulf (mulf (X x) (RMS (X x))) (ROW (extractStridedSlice S1x1024 ![2, 0] g slices_S4x1024_S1x1024_2_0)))
      (OVER (addf (broadcastInDim S2x1x1024 ![] bcast_S_S2x1x1024 (constant S_ .f32 0x3F800000#32))
        (shapeCast _ (extractStridedSlice S2x1x1x1024 ![0, 4, 0, 0] (MOD md) slices_S2x6x1x1024_S2x1x1x1024_0_4_0_0)
          shapeCasts_S2x1x1x1024_S2x1x1024))))
    (OVER (shapeCast _ (extractStridedSlice S2x1x1x1024 ![0, 3, 0, 0] (MOD md) slices_S2x6x1x1024_S2x1x1x1024_0_3_0_0)
      shapeCasts_S2x1x1x1024_S2x1x1024))

/-- The gate and up projections, side by side. -/
abbrev GUREF (h : FVec Ideal S2x1024x1024 .f32) (w : FVec Ideal S1024x5632 .f32) : FVec Ideal S2x1024x5632 .f32 :=
  Host.dotGeneral dot_S2x1024x1024_S1024x5632_S2x1024x5632_2_0_01_1_n_n none h w

/-- The feed-forward product `(silu gate * up) @ w_down` of rows `h`. -/
def FREF (h : FVec Ideal S2x1024x1024 .f32) (w : FVec Ideal S1024x5632 .f32) (d : FVec Ideal S2816x1024 .f32) :
    FVec Ideal S2x1024x1024 .f32 :=
  Host.dotGeneral dot_S2x1024x2816_S2816x1024_S2x1024x1024_2_0_01_1_n_n none
    (mulf (mulf (extractStridedSlice S2x1024x2816 ![0, 0, 0] (GUREF h w) slices_S2x1024x5632_S2x1024x2816_0_0_0)
        (Host.divf (broadcastInDim S2x1024x2816 ![] bcast_S_S2x1024x2816 (constant S_ .f32 0x3F800000#32))
          (addf (broadcastInDim S2x1024x2816 ![] bcast_S_S2x1024x2816 (constant S_ .f32 0x3F800000#32))
            (Host.exp (Host.negf
              (extractStridedSlice S2x1024x2816 ![0, 0, 0] (GUREF h w) slices_S2x1024x5632_S2x1024x2816_0_0_0))))))
      (extractStridedSlice S2x1024x2816 ![0, 0, 2816] (GUREF h w) slices_S2x1024x5632_S2x1024x2816_0_0_2816)) d

/-- The result of rows `x` whose feed-forward product is `f`: the residual plus the gated, normalised product. -/
def TAIL (x : FVec Ideal S2048x1024 .f32) (md : FVec Ideal S8x6x1024 .f32) (g : FVec Ideal S4x1024 .f32)
    (f : FVec Ideal S2x1024x1024 .f32) : FVec Ideal S2048x1024 .f32 :=
  shapeCast _ (addf (X x)
    (mulf (OVER (shapeCast _ (extractStridedSlice S2x1x1x1024 ![0, 5, 0, 0] (MOD md)
        slices_S2x6x1x1024_S2x1x1x1024_0_5_0_0) shapeCasts_S2x1x1x1024_S2x1x1024))
      (mulf (mulf f (RMS f)) (ROW (extractStridedSlice S1x1024 ![3, 0] g slices_S4x1024_S1x1024_3_0)))))
    shapeCasts_S2x1024x1024_S2048x1024

/-- The reference's result. -/
abbrev REF (x : FVec Ideal S2048x1024 .f32) (md : FVec Ideal S8x6x1024 .f32) (g : FVec Ideal S4x1024 .f32)
    (w : FVec Ideal S1024x5632 .f32) (d : FVec Ideal S2816x1024 .f32) : FVec Ideal S2048x1024 .f32 :=
  TAIL x md g (FREF (HREF x md g) w d)

variable (x : FVec Ideal S2048x1024 .f32) (md : FVec Ideal S8x6x1024 .f32) (g : FVec Ideal S4x1024 .f32)
    (w : FVec Ideal S1024x5632 .f32) (d : FVec Ideal S2816x1024 .f32) (b : Fin 2) (s : Fin 1024) (j : Fin 1024)

/-- The rows of batch `b` modulated by that batch's rows. -/
theorem h_at : HREF x md g (ix3 b s j)
    = Feed.modulated (fun j => x (ix2 ⟨b.val * 1024 + s.val, by omega⟩ j)) (fun i j => md (ix3 ⟨1 + b.val, by omega⟩ i j))
        (fun i j => g (ix2 i j)) j := by
  pointwise [HREF, Feed.modulated, Feed.normed]

/-- The feed-forward product of a row. -/
theorem f_at (h : FVec Ideal S2x1024x1024 .f32) : FREF h w d (ix3 b s j)
    = Feed.product (fun j => h (ix3 b s j)) (fun i j => w (ix2 i j)) (fun i j => d (ix2 i j)) j := by
  pointwise [FREF, Feed.product, Feed.hidden, Feed.unit]

/-- The tail of a row. -/
theorem tail_at (f : FVec Ideal S2x1024x1024 .f32) : TAIL x md g f (ix2 ⟨b.val * 1024 + s.val, by omega⟩ j)
    = x (ix2 ⟨b.val * 1024 + s.val, by omega⟩ j) + md (ix3 ⟨1 + b.val, by omega⟩ 5 j)
        * Feed.normed (fun j => f (ix3 b s j)) (fun j => g (ix2 3 j)) j := by
  pointwise [TAIL, Feed.normed]

/-- The reference's result at row `s` of batch `b`. -/
theorem ref_at : REF x md g w d (ix2 ⟨b.val * 1024 + s.val, by omega⟩ j)
    = Feed.out (fun j => x (ix2 ⟨b.val * 1024 + s.val, by omega⟩ j)) (fun i j => md (ix3 ⟨1 + b.val, by omega⟩ i j))
        (fun i j => g (ix2 i j)) (fun i j => w (ix2 i j)) (fun i j => d (ix2 i j)) j := by
  refine (tail_at x md g b s j _).trans ?_
  simp only [f_at, h_at]
  rfl

end Cert.FfsRefIdeal.Proved

end
-- ==== Proof.FfsValue.lean ====
module

public import proofs.«01_k».proof.Defs
public import proofs.«01_k».proof.Proof.Gen.FfsIdeal.Value
public import proofs.«01_k».proof.Proof.FfnBlock
public import proofs.«01_k».proof.Proof.FfsReference
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfsIdeal.Proved

open Cert.FfsIdeal Cert.FfsIdeal.Gen Cert.FfsRefIdeal.Proved

variable (m : (ℓ : Loc nD τ sig) → Buf (Elt Ideal) ℓ)

/-- The block indices of the windows at every grid point: two points to a batch, whose modulation row is one past it. -/
theorem idx : ∀ t : Fin cfg0.N, win0_0.index t = ![t.val, 0] ∧ win0_1.index t = ![1 + t.val / 2, 0, 0] ∧
    win0_2.index t = ![0, 0] ∧ win0_3.index t = ![0, 0] ∧ win0_4.index t = ![0, 0] ∧ win0_5.index t = ![t.val, 0] :=
  (by decide +kernel : ∀ t : Fin grid0.N, _)

/-- The batch of point `t`. -/
abbrev batch (t : Fin cfg0.N) : Fin 2 := ⟨t.val / 2, by have h : t.val < 4 := t.isLt; omega⟩

/-- The row within its batch of row `r` of point `t`'s block. -/
abbrev row (t : Fin cfg0.N) (r : Fin 512) : Fin 1024 := ⟨t.val % 2 * 512 + r.val, by omega⟩

/-- The body's result over its blocks: the two batches' body is the prompt's. -/
theorem block_at (x0 : FVec Ideal S512x1024 .f32) (x1 : FVec Ideal S1x6x1024 .f32) (x2 : FVec Ideal S4x1024 .f32)
    (x3 : FVec Ideal S1024x5632 .bf16) (x4 : FVec Ideal S2816x1024 .bf16) (r : Fin 512) (j : Fin 1024) :
    out0_5 (F := Ideal) x0 x1 x2 x3 x4 (ix2 r j)
      = Feed.out (fun j => x0 (ix2 r j)) (fun i j => x1 (ix3 0 i j)) (fun i j => x2 (ix2 i j))
        (fun i j => x3 (ix2 i j)) (fun i j => x4 (ix2 i j)) j :=
  FfnIdeal.Proved.block_at x0 x1 x2 x3 x4 r j

section Blocks

variable (c : Dev nD) (t : Fin cfg0.N)

/-- Row `r` of point `t`'s block is that row of the array. -/
theorem x_at (r : Fin 512) (j : Fin 1024) : iblk m c 0 t (ix2 r j)
    = (m ((c : Thread nD τ).loc main_arg0) : FVec Ideal S2048x1024 .f32)
        (ix2 ⟨(batch t).val * 1024 + (row t r).val, by have := (batch t).isLt; omega⟩ j) := by
  blk_point [iblk, V, idx t]

/-- Point `t`'s modulation rows are those of its batch. -/
theorem md_at (i : Fin 6) (j : Fin 1024) : iblk m c 1 t (ix3 0 i j)
    = (m ((c : Thread nD τ).loc main_arg1) : FVec Ideal S8x6x1024 .f32)
        (ix3 ⟨1 + (batch t).val, by have := (batch t).isLt; omega⟩ i j) := by
  blk_point [iblk, V, idx t]

/-- The norm weights. -/
theorem g_at (i : Fin 4) (j : Fin 1024) : iblk m c 2 t (ix2 i j)
    = (m ((c : Thread nD τ).loc main_arg2) : FVec Ideal S4x1024 .f32) (ix2 i j) := by
  blk_point [iblk, V, idx t]

/-- The gate and up weights. -/
theorem w_at (i : Fin 1024) (j : Fin 5632) : iblk m c 3 t (ix2 i j)
    = (m ((c : Thread nD τ).loc main_arg3) : FVec Ideal S1024x5632 .f32) (ix2 i j) := by
  blk_point [iblk, V, idx t]

/-- The down weights. -/
theorem d_at (i : Fin 2816) (j : Fin 1024) : iblk m c 4 t (ix2 i j)
    = (m ((c : Thread nD τ).loc main_arg4) : FVec Ideal S2816x1024 .f32) (ix2 i j) := by
  blk_point [iblk, V, idx t]

/-- The result's row `r` of point `t`'s block is that row of the array. -/
theorem emb_at (r : Fin 512) (j : Fin 1024) : ((cfg0.win 5).blk t).view.emb (ix2 r j)
    = (ix2 ⟨(batch t).val * 1024 + (row t r).val, by have := (batch t).isLt; omega⟩ j : S2048x1024.Idx) := by
  blk_point [idx t]

/-- What point `t` stores is the reference at the array index it sits at. -/
theorem point (y : S512x1024.Idx) :
    out0_5 (iblk m c 0 t) (iblk m c 1 t) (iblk m c 2 t) (iblk m c 3 t) (iblk m c 4 t) y
    = REF (m ((c : Thread nD τ).loc main_arg0)) (m ((c : Thread nD τ).loc main_arg1))
        (m ((c : Thread nD τ).loc main_arg2)) (m ((c : Thread nD τ).loc main_arg3))
        (m ((c : Thread nD τ).loc main_arg4)) (((cfg0.win 5).blk t).view.emb y) := by
  obtain ⟨r, j, rfl⟩ : ∃ (r : Fin 512) (j : Fin 1024), y = ix2 r j := ⟨y 0, y 1, eq_ix2 y⟩
  refine (block_at (iblk m c 0 t) (iblk m c 1 t) (iblk m c 2 t) (iblk m c 3 t) (iblk m c 4 t) r j).trans ?_
  rw [emb_at t r j, ref_at]
  congr 1
  · exact funext fun j => x_at m c t r j
  · exact funext fun i => funext fun j => md_at m c t i j
  · exact funext fun i => funext fun j => g_at m c t i j
  · exact funext fun i => funext fun j => w_at m c t i j
  · exact funext fun i => funext fun j => d_at m c t i j

end Blocks

/-- The result array after the run. -/
theorem final (c : Dev nD) : (dats m 0 c).arrAt 5 (cfgs 0).N
    = REF (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t _ y => ?_
  blk_simp
  rw [after0_5]
  exact point m c t y

end Cert.FfsIdeal.Proved

namespace Cert.Proof

/-- The feed-forward call's result on the sample is the reference's, over the extended reals. -/
theorem ffs_value : Cert.algebraic_FfsIdeal_FfsRefIdeal := by
  pair_intro
  · run_from Cert.FfsIdeal.Gen.run_main m g
  · run_from Cert.FfsRefIdeal.Value.run m' g'
    unfold Cert.FfsRefIdeal.Value.res_main_v54
    obtain ⟨h0, h1, h2, h3, h4⟩ := hagree c
    rw [h0, h1, h2, h3, h4]
    exact (Cert.FfsIdeal.Proved.final m c).symm

end Cert.Proof

end
-- ==== Proof.Rope.lean ====
module

public import proofs.«01_k».proof.Proof.Gen.PrsIdeal.Value
public import proofs.«01_k».proof.Proof.Feed
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! The rotary positions of 128 lanes. -/

namespace Cert.Rope

open Cert.PrsIdeal Cert.PrsIdeal.Gen

/-- The number a lane is rotated with: sixteen on in the lower half of its 32, sixteen back in the upper. -/
def partner (q : ℕ) : ℕ := if q % 32 < 16 then q + 16 else q - 16

/-- A lane's partner is within the same columns. -/
theorem partner_lt (q n k : ℕ) (h : q < n) (hn : n = 32 * k) : partner q < n := by
  unfold partner
  split_ifs <;> omega

/-- Whether a lane is in the lower half of its 32. -/
abbrev LOWER : IVec S512x128 1 :=
  cmpi .slt (select (andi (xori (cmpi .slt k0_pay10 (broadcast S512x128 0#32))
      (broadcastTo S512x128 (broadcast S512x128 (Scalar.cmpi .slt (Scalar.select (Scalar.cmpi .eq 32#32 0#32) 1#32 32#32) 0#32)) broadcasts_S512x128_S512x128))
      (cmpi .ne k0_pay10 (broadcast S512x128 0#32)))
    (addi k0_pay10 (broadcast S512x128 (Scalar.select (Scalar.cmpi .eq 32#32 0#32) 1#32 32#32))) k0_pay10) (broadcast S512x128 16#32)

/-- Lanes `x` rotated by cosines `c` and signed sines `s`. -/
def ROPED (x c s : FVec Ideal S512x128 .f32) : FVec Ideal S512x128 .f32 :=
  addf (mulf x c) (mulf (select LOWER (dynamicRotate 1 112#32 none x rotates_S512x128_d1)
    (dynamicRotate 1 16#32 none x rotates_S512x128_d1)) s)

/-- Every chunk's lanes are compared alike. -/
theorem lower_at (r : Fin 512) : ∀ l : Fin 128, LOWER (ix2 r l) = if l.val % 32 < 16 then 1#1 else 0#1 := by
  intro l
  pointwise [k0_pay10]
  revert l
  decide +kernel

theorem roped_at (x c s : FVec Ideal S512x128 .f32) (r : Fin 512) (l : Fin 128) :
    ROPED x c s (ix2 r l) = x (ix2 r l) * c (ix2 r l)
      + x (ix2 r ⟨partner l.val, partner_lt l.val 128 4 l.isLt rfl⟩) * s (ix2 r l) := by
  have h : ROPED x c s (ix2 r l) = x (ix2 r l) * c (ix2 r l)
      + (if LOWER (ix2 r l) = 1#1 then x (ix2 r ⟨(l.val + 128 - 112) % 128, by omega⟩)
          else x (ix2 r ⟨(l.val + 128 - 16) % 128, by omega⟩)) * s (ix2 r l) := by
    generalize hL : LOWER = L
    unfold ROPED
    rw [hL]
    pointwise []
    rfl
  rw [h, lower_at]
  congr 2
  unfold partner
  split_ifs with h1 h2 h2
  · exact congrArg (fun k => x (ix2 r k)) (Fin.ext (by show (l.val + 128 - 112) % 128 = l.val + 16; omega))
  · exact absurd rfl h2
  · exact absurd h2 (by decide)
  · exact congrArg (fun k => x (ix2 r k)) (Fin.ext (by show (l.val + 128 - 16) % 128 = l.val - 16; omega))

/-- Column `q` of a projected row `p`, rotated by the row's tables of 128 lanes. -/
def turned {n k : ℕ} (hn : n = 32 * k) (p : Fin n → EReal) (c s : Fin 128 → EReal) (q : Fin n) : EReal :=
  p q * c ⟨q.val % 128, by omega⟩ + p ⟨partner q.val, partner_lt q.val n k q.isLt hn⟩ * s ⟨q.val % 128, by omega⟩

/-- 128 columns of the projection rotated. -/
theorem chunk_at {n k : ℕ} (hn : n = 32 * k) (p : FVec Ideal ⟨2, ![512, n]⟩ .f32) (c s : FVec Ideal S512x128 .f32)
    (a : ℕ) (h : Shape.Slices ⟨2, ![512, n]⟩ ![0, 128 * a] S512x128) (r : Fin 512) (l : Fin 128) (q : Fin n)
    (hq : q.val = 128 * a + l.val) :
    ROPED (extractStridedSlice S512x128 ![0, 128 * a] p h) c s (ix2 r l)
      = turned hn (fun q => p (ix2 r q)) (fun l => c (ix2 r l)) (fun l => s (ix2 r l)) q := by
  have hs : ∀ (l : Fin 128) (q : Fin n), q.val = 128 * a + l.val →
      extractStridedSlice S512x128 ![0, 128 * a] p h (ix2 r l) = p (ix2 r q) := fun l q hq =>
    congrArg p (funext (Fin.forall_fin_two.mpr ⟨Fin.ext (Nat.zero_add _), Fin.ext hq.symm⟩))
  have hl : (⟨q.val % 128, by omega⟩ : Fin 128) = l := Fin.ext (by show q.val % 128 = l.val; omega)
  rw [roped_at, hs l q hq, hs _ ⟨partner q.val, partner_lt q.val n k q.isLt hn⟩ (by
    show partner q.val = 128 * a + partner l.val
    unfold partner
    split_ifs <;> omega)]
  unfold turned
  rw [hl]

/-- Cosine of lane `l` of a row's tables: the grid row's in the first half of 64 lanes, the grid column's in the second. -/
def cosine (cr cc : Fin 16 → EReal) (l : Fin 128) : EReal :=
  if l.val % 64 < 32 then cr ⟨l.val % 16, by omega⟩ else cc ⟨l.val % 16, by omega⟩

/-- Sine of lane `l`, negative in the lower half of each 32 lanes. -/
def sine (sr sc : Fin 16 → EReal) (l : Fin 128) : EReal :=
  if l.val % 32 < 16 then -cosine sr sc l else cosine sr sc l

/-- The rotation depends on its numbers alone. -/
theorem turned_congr {n k : ℕ} {hn : n = 32 * k} {p p' : Fin n → EReal} {c c' s s' : Fin 128 → EReal}
    (hp : ∀ q, p q = p' q) (hc : ∀ l, c l = c' l) (hs : ∀ l, s l = s' l) (q : Fin n) :
    turned hn p c s q = turned hn p' c' s' q := by
  rw [funext hp, funext hc, funext hs]

/-- The rotated columns of a slice of the projection at lane-aligned `base`, as columns of the projection. -/
theorem turned_slice {n k N k' : ℕ} (hn : n = 32 * k) (hn' : N = 32 * k') (base : ℕ) (a : ℕ) (ha : base = 128 * a)
    (hb : base + n ≤ N) (p : Fin N → EReal) (c s : Fin 128 → EReal) (q : Fin n) :
    turned hn (fun q => p ⟨base + q.val, by omega⟩) c s q = turned hn' p c s ⟨base + q.val, by omega⟩ := by
  have h1 : (⟨(base + q.val) % 128, by omega⟩ : Fin 128) = ⟨q.val % 128, by omega⟩ := Fin.ext (by show (base + q.val) % 128 = q.val % 128; omega)
  have h2 : base + partner q.val = partner (base + q.val) := by unfold partner; split_ifs <;> omega
  unfold turned
  simp only [h1, h2]

/-- The `W` rotated columns from `base` on, as a buffer of 512 rows holds them. -/
def ROTATED {N k W : ℕ} (hN : N = 32 * k) (p : FVec Ideal ⟨2, ![512, N]⟩ .f32) (c s : FVec Ideal S512x128 .f32)
    (base : ℕ) (hb : base + W ≤ N) (y : Shape.Idx ⟨2, ![512, W]⟩) : EReal :=
  turned hN (fun q => p (ix2 (y 0) q)) (fun l => c (ix2 (y 0) l)) (fun l => s (ix2 (y 0) l))
    ⟨base + (y 1).val, Nat.lt_of_lt_of_le (Nat.add_lt_add_left (y 1).isLt _) hb⟩

/-- A stored chunk of 128 columns is its columns of the buffer. -/
theorem piece_at {N k W : ℕ} (hN : N = 32 * k) (p : FVec Ideal ⟨2, ![512, N]⟩ .f32) (c s : FVec Ideal S512x128 .f32)
    (base off a : ℕ) (hb : base + W ≤ N) (ha : base + off = 128 * a)
    (h : Shape.Slices ⟨2, ![512, N]⟩ ![0, 128 * a] S512x128)
    (inb : ∀ i, (![0, off] : Fin 2 → ℕ) i + S512x128.size i ≤ (⟨2, ![512, W]⟩ : Shape).size i) (x : S512x128.Idx) :
    ROPED (extractStridedSlice S512x128 ![0, 128 * a] p h) c s x
      = ROTATED hN p c s base hb ((Rect.unit (s := ⟨2, ![512, W]⟩) ![0, off] S512x128.size inb).emb x) := by
  obtain ⟨r, l, rfl⟩ : ∃ (r : Fin 512) (l : Fin 128), x = ix2 r l := ⟨x 0, x 1, eq_ix2 x⟩
  have hr : (Rect.unit (s := ⟨2, ![512, W]⟩) ![0, off] S512x128.size inb).emb (ix2 r l) 0 = r :=
    Fin.ext (by show 0 + 1 * r.val = r.val; omega)
  have hi : off + 128 ≤ W := inb 1
  have hl : ((Rect.unit (s := ⟨2, ![512, W]⟩) ![0, off] S512x128.size inb).emb (ix2 r l) 1).val = off + l.val := by
    show off + 1 * l.val = off + l.val
    omega
  refine (chunk_at hN p c s a h r l ⟨base + (off + l.val), by omega⟩ (by
    show base + (off + l.val) = 128 * a + l.val
    omega)).trans ?_
  unfold ROTATED
  rw [hr]
  exact congrArg _ (Fin.ext (by show base + (off + l.val) = base + _; rw [hl]))

/-- A projected column of a row that is normalised and modulated. -/
def project {n : ℕ} (x : Fin 1024 → EReal) (md : Fin 6 → Fin 1024 → EReal) (g : Fin 4 → Fin 1024 → EReal)
    (w : Fin 1024 → Fin n → EReal) (q : Fin n) : EReal :=
  ∑ i, (Feed.normed x (g 0) i * (1 + md 1 i) + md 0 i) * w i q

end Cert.Rope

end
-- ==== Proof.PrsBlock.lean ====
module

public import proofs.«01_k».proof.Proof.Rope
public import Idealize.ShloMosaic.Lib.Pipeline.ReadBack

@[expose] public section

set_option maxRecDepth 16384

noncomputable section

open Idealize.ShloMosaic Idealize.ShloMosaic.TcCoe Idealize.SL.Sem

namespace Cert.PrsIdeal.Proved

open Cert.PrsIdeal Cert.PrsIdeal.Gen Cert.Rope

variable (x0 : FVec Ideal S512x1024 .f32) (x1 : FVec Ideal S1x6x1024 .f32) (x2 : FVec Ideal S4x1024 .f32)
    (x3 : FVec Ideal S1024x2560 .bf16) (x4 x5 : FVec Ideal S512x128 .f32)

/-- The projection of a block's rows. -/
def P : FVec Ideal S512x2560 .f32 :=
  k0_pay3 (F := Ideal) (View.ld x0 r0_0) (View.ld x2 r0_1) (View.ld x1 r0_2) (View.ld x1 r0_3) (View.ld x3 r0_4)

/-- The projection's numbers. -/
theorem p_at (r : Fin 512) (q : Fin 2560) : P x0 x1 x2 x3 (ix2 r q)
    = project (fun j => x0 (ix2 r j)) (fun i j => x1 (ix3 0 i j)) (fun i j => x2 (ix2 i j)) (fun i j => x3 (ix2 i j)) q := by
  pointwise [P, k0_pay3, project, Feed.normed]

/-- A table as the body reads it. -/
theorem table : k0_pay5 (F := Ideal) (View.ld x4 r0_5) = x4 := by
  funext y
  idx_vars y
  pointwise [k0_pay5]

/-- Rotated columns from `base` on, as the buffer of their window holds them. -/
abbrev BUF (base : ℕ) (hb : base + 512 ≤ 2560) (y : S512x512.Idx) : EReal :=
  ROTATED (k := 80) rfl (P x0 x1 x2 x3) x4 x5 base hb y

/-- What the body stores in window 7: the rotated queries. -/
theorem out7 (y : S512x512.Idx) : out0_7 (F := Ideal) x0 x1 x2 x3 x4 x5 y = BUF x0 x1 x2 x3 x4 x5 1024 (by decide) y := by
  unfold out0_7 k0_pay33 k0_pay32 k0_pay31
  rw [show k0_pay6 (F := Ideal) (View.ld x5 r0_5) = x5 from table x5, show k0_pay5 (F := Ideal) (View.ld x4 r0_5) = x4 from table x4]
  refine View.canon_apply_of_pieces (Val := Elt Ideal) (e := .bf16) (BUF x0 x1 x2 x3 x4 x5 1024 (by decide)) _
    (View.PiecesOf.mem ?_) y (cover0_7 _ _ _ _ y)
  exact ⟨fun x => piece_at (k := 80) rfl (P x0 x1 x2 x3) x4 x5 1024 384 11 (by decide) rfl slices_S512x2560_o0_1408_S512x128 inb_S512x512_S512x128_0_384 x,
      fun x => piece_at (k := 80) rfl (P x0 x1 x2 x3) x4 x5 1024 256 10 (by decide) rfl slices_S512x2560_o0_1280_S512x128 inb_S512x512_S512x128_0_256 x,
      fun x => piece_at (k := 80) rfl (P x0 x1 x2 x3) x4 x5 1024 128 9 (by decide) rfl slices_S512x2560_o0_1152_S512x128 inb_S512x512_S512x128_0_128 x,
      fun x => piece_at (k := 80) rfl (P x0 x1 x2 x3) x4 x5 1024 0 8 (by decide) rfl slices_S512x2560_o0_1024_S512x128 inb_S512x512_S512x128_0_0 x, trivial⟩

/-- What the body stores in window 8: the rotated keys. -/
theorem out8 (y : S512x512.Idx) : out0_8 (F := Ideal) x0 x1 x2 x3 x4 x5 y = BUF x0 x1 x2 x3 x4 x5 1536 (by decide) y := by
  unfold out0_8 k0_pay35 k0_pay34 k0_pay31
  rw [show k0_pay17 (F := Ideal) (View.ld x5 r0_5) = x5 from table x5, show k0_pay16 (F := Ideal) (View.ld x4 r0_5) = x4 from table x4]
  refine View.canon_apply_of_pieces (Val := Elt Ideal) (e := .f32) (BUF x0 x1 x2 x3 x4 x5 1536 (by decide)) _
    (View.PiecesOf.mem ?_) y (cover0_8 _ _ _ _ y)
  exact ⟨fun x => piece_at (k := 80) rfl (P x0 x1 x2 x3) x4 x5 1536 384 15 (by decide) rfl slices_S512x2560_o0_1920_S512x128 inb_S512x512_S512x128_0_384 x,
      fun x => piece_at (k := 80) rfl (P x0 x1 x2 x3) x4 x5 1536 256 14 (by decide) rfl slices_S512x2560_o0_1792_S512x128 inb_S512x512_S512x128_0_256 x,
      fun x => piece_at (k := 80) rfl (P x0 x1 x2 x3) x4 x5 1536 128 13 (by decide) rfl slices_S512x2560_o0_1664_S512x128 inb_S512x512_S512x128_0_128 x,
      fun x => piece_at (k := 80) rfl (P x0 x1 x2 x3) x4 x5 1536 0 12 (by decide) rfl slices_S512x2560_o0_1536_S512x128 inb_S512x512_S512x128_0_0 x, trivial⟩

/-- What the body stores in window 6: the first 1024 columns. -/
theorem out6 (r : Fin 512) (q : Fin 1024) : out0_6 (F := Ideal) x0 x1 x2 x3 x4 x5 (ix2 r q)
    = P x0 x1 x2 x3 (ix2 r ⟨q.val, by omega⟩) := by
  unfold out0_6 k0_pay4
  unfold P
  generalize k0_pay3 (F := Ideal) (View.ld x0 r0_0) (View.ld x2 r0_1) (View.ld x1 r0_2) (View.ld x1 r0_3) (View.ld x3 r0_4) = f
  frame_out
  pointwise []

/-- What the body stores in window 9: the last 512 columns. -/
theorem out9 (r : Fin 512) (q : Fin 512) : out0_9 (F := Ideal) x0 x1 x2 x3 x4 x5 (ix2 r q)
    = P x0 x1 x2 x3 (ix2 r ⟨2048 + q.val, by omega⟩) := by
  unfold out0_9 k0_pay31 k0_pay2
  unfold P
  generalize k0_pay3 (F := Ideal) (View.ld x0 r0_0) (View.ld x2 r0_1) (View.ld x1 r0_2) (View.ld x1 r0_3) (View.ld x3 r0_4) = f
  frame_out
  pointwise []

end Cert.PrsIdeal.Proved

end
-- ==== Proof.Axial.lean ====
module

public import proofs.«01_k».proof.Proof.Rope
public import proofs.«01_k».proof.Proof.Gen.PrsRefIdeal.Run

@[expose] public section

set_option maxRecDepth 16384

noncomputable section

open Idealize.ShloMosaic Idealize.ShloMosaic.TcCoe Idealize.SL.Sem

/-! The reference's axial rotation of any number of heads of 64 lanes, and the numbers it holds. -/

namespace Cert.Rope

open Cert.PrsRefIdeal Cert.PrsRefIdeal.Gen

/-- `H` heads of `n` lanes each, for every row of both batches. -/
abbrev Heads (H n : ℕ) : Shape := ⟨4, ![2, 1024, H, n]⟩

/-- The shape facts that the rotation of `H` heads is written with. -/
structure Facts (H : ℕ) : Prop where
  over : S1x1024x1x16.BroadcastsInDim (Heads H 16) (![0, 1, 2, 3] : Fin 4 → Fin (Heads H 16).rank)
  lo : (Heads H 32).Slices ![0, 0, 0, 0] (Heads H 16)
  hi : (Heads H 32).Slices ![0, 0, 0, 16] (Heads H 16)
  halves : Shape.Concatenates [Heads H 16, Heads H 16] (Heads H 32) 3
  rows : (Heads H 64).Slices ![0, 0, 0, 0] (Heads H 32)
  cols : (Heads H 64).Slices ![0, 0, 0, 32] (Heads H 32)
  whole : Shape.Concatenates [Heads H 32, Heads H 32] (Heads H 64) 3

variable {H : ℕ} (f : Facts H)

/-- A table broadcast over batches and heads. -/
abbrev TABLE (c : FVec Ideal S1024x16 .f32) : FVec Ideal (Heads H 16) .f32 :=
  broadcastInDim (Heads H 16) ![0, 1, 2, 3] f.over (broadcastInDim S1x1024x1x16 ![1, 3] bcast_S1024x16_S1x1024x1x16_1_3 c)

/-- The lower half of 32 lanes. -/
abbrev LO (z : FVec Ideal (Heads H 32) .f32) : FVec Ideal (Heads H 16) .f32 :=
  extractStridedSlice (Heads H 16) ![0, 0, 0, 0] z f.lo

/-- The upper half of 32 lanes. -/
abbrev HI (z : FVec Ideal (Heads H 32) .f32) : FVec Ideal (Heads H 16) .f32 :=
  extractStridedSlice (Heads H 16) ![0, 0, 0, 16] z f.hi

/-- 32 lanes rotated by one pair of tables. -/
def HALF (z : FVec Ideal (Heads H 32) .f32) (c s : FVec Ideal S1024x16 .f32) : FVec Ideal (Heads H 32) .f32 :=
  concatenate (Heads H 32) 3 [⟨Heads H 16, (subf (mulf (LO f z) (TABLE f c)) (mulf (HI f z) (TABLE f s)))⟩,
    ⟨Heads H 16, (addf (mulf (HI f z) (TABLE f c)) (mulf (LO f z) (TABLE f s)))⟩] f.halves

/-- Each head's two halves rotated by their pairs of tables. -/
def AXIAL (z : FVec Ideal (Heads H 64) .f32) (cr sr cc sc : FVec Ideal S1024x16 .f32) : FVec Ideal (Heads H 64) .f32 :=
  concatenate (Heads H 64) 3 [
    ⟨Heads H 32, HALF f (extractStridedSlice (Heads H 32) ![0, 0, 0, 0] z f.rows) cr sr⟩,
    ⟨Heads H 32, HALF f (extractStridedSlice (Heads H 32) ![0, 0, 0, 32] z f.cols) cc sc⟩] f.whole

/-- An index of heads by its four numbers. -/
theorem heads_ext {n : ℕ} (y : (Heads H n).Idx) (b : Fin 2) (t : Fin 1024) (h : Fin H) (l : Fin n)
    (h0 : (y 0).val = b.val) (h1 : (y 1).val = t.val) (h2 : (y 2).val = h.val) (h3 : (y 3).val = l.val) :
    y = ix4 b t h l := by
  funext a
  fin_cases a
  · exact Fin.ext h0
  · exact Fin.ext h1
  · exact Fin.ext h2
  · exact Fin.ext h3

/-- A rotated lane: itself times its cosine, plus its partner times its signed sine. -/
theorem half_at (z : FVec Ideal (Heads H 32) .f32) (c s : FVec Ideal S1024x16 .f32) (b : Fin 2) (t : Fin 1024)
    (h : Fin H) (l : Fin 32) : HALF f z c s (ix4 b t h l) = z (ix4 b t h l) * c (ix2 t ⟨l.val % 16, by omega⟩)
      + z (ix4 b t h ⟨partner l.val, partner_lt l.val 32 1 l.isLt rfl⟩) *
        (if l.val % 32 < 16 then - s (ix2 t ⟨l.val % 16, by omega⟩) else s (ix2 t ⟨l.val % 16, by omega⟩)) := by
  have hl := l.isLt
  have hz : ∀ (y : (Heads H 32).Idx) (a : Fin 32), (y 0).val = b.val → (y 1).val = t.val → (y 2).val = h.val →
      (y 3).val = a.val → z y = z (ix4 b t h a) := fun y a h0 h1 h2 h3 => by rw [heads_ext y b t h a h0 h1 h2 h3]
  have ht : ∀ (u : FVec Ideal S1024x16 .f32) (a b' : Fin 16), a.val = b'.val → u (ix2 t a) = u (ix2 t b') :=
    fun u a b' e => by rw [Fin.ext e]
  pointwise [HALF]
  by_cases h16 : l.val < 16
  · have hp : partner l.val = 16 + l.val := by unfold partner; split_ifs <;> omega
    refine (dif_pos h16).trans ?_
    rw [if_pos (show l.val % 32 < 16 by omega), mul_neg, ← sub_eq_add_neg]
    exact congrArg₂ (· - ·) (congrArg₂ (· * ·) (hz _ _ (Nat.zero_add _) (Nat.zero_add _) (Nat.zero_add _) (Nat.zero_add _)) (ht c _ _ (Nat.mod_eq_of_lt h16).symm))
      (congrArg₂ (· * ·) (hz _ _ (Nat.zero_add _) (Nat.zero_add _) (Nat.zero_add _) hp.symm) (ht s _ _ (Nat.mod_eq_of_lt h16).symm))
  · have hp : partner l.val = l.val - 16 := by unfold partner; split_ifs <;> omega
    have hm : l.val - 16 = l.val % 16 := by omega
    refine (dif_neg h16).trans ?_
    rw [if_neg (show ¬ l.val % 32 < 16 by omega)]
    exact congrArg₂ (· + ·) (congrArg₂ (· * ·) (hz _ _ (Nat.zero_add _) (Nat.zero_add _) (Nat.zero_add _)
      (by show 16 + (l.val - 16) = l.val; omega)) (ht c _ _ hm))
      (congrArg₂ (· * ·) (hz _ _ (Nat.zero_add _) (Nat.zero_add _) (Nat.zero_add _) ((Nat.zero_add _).trans hp.symm)) (ht s _ _ hm))

/-- The rotation's numbers over the `n = 64 H` columns that the heads are cut from. -/
theorem axial_at {n k : ℕ} (hn : n = 32 * k) (hH : n = 64 * H) (z : FVec Ideal (Heads H 64) .f32)
    (cr sr cc sc : FVec Ideal S1024x16 .f32) (b : Fin 2) (t : Fin 1024) (p : Fin n → EReal)
    (hp : ∀ q : Fin n, z (ix4 b t ⟨q.val / 64, by omega⟩ ⟨q.val % 64, by omega⟩) = p q) (q : Fin n) :
    AXIAL f z cr sr cc sc (ix4 b t ⟨q.val / 64, by omega⟩ ⟨q.val % 64, by omega⟩) = turned hn p
      (cosine (fun l => cr (ix2 t l)) (fun l => cc (ix2 t l))) (sine (fun l => sr (ix2 t l)) (fun l => sc (ix2 t l))) q := by
  have hq := q.isLt
  have ht : ∀ (u : FVec Ideal S1024x16 .f32) (a b' : Fin 16), a.val = b'.val → u (ix2 t a) = u (ix2 t b') :=
    fun u a b' e => by rw [Fin.ext e]
  have hz : ∀ (y : (Heads H 64).Idx) (q : Fin n), (y 0).val = b.val → (y 1).val = t.val →
      q.val = 64 * (y 2).val + (y 3).val → z y = p q := fun y q h0 h1 e => by
    have h3 : (y 3).val < 64 := (y 3).isLt
    rw [← hp q, heads_ext y b t ⟨q.val / 64, by omega⟩ ⟨q.val % 64, by omega⟩ h0 h1
      (by show (y 2).val = q.val / 64; omega) (by show (y 3).val = q.val % 64; omega)]
  pointwise [AXIAL]
  by_cases h32 : q.val % 64 < 32
  · have hc : ∀ u v : FVec Ideal S1024x16 .f32, cosine (fun l => u (ix2 t l)) (fun l => v (ix2 t l))
        ⟨q.val % 128, by omega⟩ = u (ix2 t ⟨q.val % 64 % 16, by omega⟩) := fun u v =>
      (if_pos (show q.val % 128 % 64 < 32 by omega)).trans (ht u _ _ (show q.val % 128 % 16 = q.val % 64 % 16 by omega))
    refine (dif_pos h32).trans ((congrArg _ (heads_ext _ b t ⟨q.val / 64, by omega⟩ ⟨q.val % 64, h32⟩ rfl rfl rfl rfl)).trans
      ((half_at ..).trans ?_))
    refine congrArg₂ (· + ·) (congrArg₂ (· * ·) (hz _ _ (Nat.zero_add _) (Nat.zero_add _)
        (by show q.val = 64 * (0 + q.val / 64) + (0 + q.val % 64); omega)) (hc ..).symm)
      (congrArg₂ (· * ·) (hz _ _ (Nat.zero_add _) (Nat.zero_add _)
        (by show partner q.val = 64 * (0 + q.val / 64) + (0 + partner (q.val % 64)); unfold partner; split_ifs <;> omega)) ?_)
    unfold sine
    rw [hc]
    exact if_congr (by show q.val % 64 % 32 < 16 ↔ q.val % 128 % 32 < 16; omega) rfl rfl
  · have hc : ∀ u v : FVec Ideal S1024x16 .f32, cosine (fun l => u (ix2 t l)) (fun l => v (ix2 t l))
        ⟨q.val % 128, by omega⟩ = v (ix2 t ⟨(q.val % 64 - 32) % 16, by omega⟩) := fun u v =>
      (if_neg (show ¬ q.val % 128 % 64 < 32 by omega)).trans
        (ht v _ _ (show q.val % 128 % 16 = (q.val % 64 - 32) % 16 by omega))
    refine (dif_neg h32).trans ((congrArg _ (heads_ext _ b t ⟨q.val / 64, by omega⟩ ⟨q.val % 64 - 32, by omega⟩ rfl rfl rfl
      rfl)).trans ((half_at ..).trans ?_))
    refine congrArg₂ (· + ·) (congrArg₂ (· * ·) (hz _ _ (Nat.zero_add _) (Nat.zero_add _)
        (by show q.val = 64 * (0 + q.val / 64) + (32 + (q.val % 64 - 32)); omega)) (hc ..).symm)
      (congrArg₂ (· * ·) (hz _ _ (Nat.zero_add _) (Nat.zero_add _)
        (by show partner q.val = 64 * (0 + q.val / 64) + (32 + partner (q.val % 64 - 32)); unfold partner; split_ifs <;> omega)) ?_)
    unfold sine
    rw [hc]
    exact if_congr (by show (q.val % 64 - 32) % 32 < 16 ↔ q.val % 128 % 32 < 16; omega) rfl rfl

end Cert.Rope

end
-- ==== Proof.PrsReference.lean ====
module

public import proofs.«01_k».proof.Proof.Axial
public import proofs.«01_k».proof.Proof.Gen.PrsRefIdeal.Run

@[expose] public section

set_option maxRecDepth 16384

noncomputable section

open Idealize.ShloMosaic Idealize.ShloMosaic.TcCoe Idealize.SL.Sem

/-! The reference of layer 0's projection on the sample, layer by layer, and the numbers it holds. -/

namespace Cert.PrsRefIdeal.Proved

open Cert.PrsRefIdeal Cert.PrsRefIdeal.Gen

/-- The root-mean-square factor of each row, broadcast over the row. -/
abbrev RMS (x : FVec Ideal S2x1024x1024 .f32) : FVec Ideal S2x1024x1024 .f32 :=
  broadcastInDim S2x1024x1024 ![0, 1, 2] bcast_S2x1024x1_S2x1024x1024_0_1_2 (Host.rsqrt (addf (Host.divf
    (broadcastInDim S2x1024x1 ![0, 1] bcast_S2x1024_S2x1024x1_0_1
      (Host.reduceAdd (mulf x x) (constant S_ .f32 0x00000000#32) reducesTo_S2x1024x1024_S2x1024_d2 h_S_))
    (broadcastInDim S2x1024x1 ![] bcast_S_S2x1024x1 (constant S_ .f32 0x44800000#32)))
    (broadcastInDim S2x1024x1 ![] bcast_S_S2x1024x1 (constant S_ .f32 0x358637BD#32))))

/-- A weight row broadcast over the batches and rows. -/
abbrev ROW (x : FVec Ideal S1x1024 .f32) : FVec Ideal S2x1024x1024 .f32 :=
  broadcastInDim S2x1024x1024 ![0, 1, 2] bcast_S1x1x1024_S2x1024x1024_0_1_2
    (broadcastInDim S1x1x1024 ![2] bcast_S1024_S1x1x1024_2 (shapeCast _ x shapeCasts_S1x1024_S1024))

/-- The two batches' modulation rows. -/
abbrev MOD (md : FVec Ideal S8x6x1024 .f32) : FVec Ideal S2x6x1x1024 .f32 :=
  broadcastInDim S2x6x1x1024 ![0, 1, 3] bcast_S2x6x1024_S2x6x1x1024_0_1_3
    (extractStridedSlice S2x6x1024 ![1, 0, 0] md slices_S8x6x1024_S2x6x1024_1_0_0)

/-- A modulation row of each batch, broadcast over its rows. -/
abbrev OVER (x : FVec Ideal S2x1x1024 .f32) : FVec Ideal S2x1024x1024 .f32 :=
  broadcastInDim S2x1024x1024 ![0, 1, 2] bcast_S2x1x1024_S2x1024x1024_0_1_2 x

/-- The sample's rows by batch. -/
abbrev X (x : FVec Ideal S2048x1024 .f32) : FVec Ideal S2x1024x1024 .f32 :=
  shapeCast _ x shapeCasts_S2048x1024_S2x1024x1024

/-- The normalised and modulated input. -/
abbrev HREF (x : FVec Ideal S2048x1024 .f32) (md : FVec Ideal S8x6x1024 .f32) (g : FVec Ideal S4x1024 .f32) :
    FVec Ideal S2x1024x1024 .f32 :=
  addf (mulf (mulf (mulf (X x) (RMS (X x))) (ROW (extractStridedSlice S1x1024 ![0, 0] g slices_S4x1024_S1x1024_0_0)))
      (OVER (addf (broadcastInDim S2x1x1024 ![] bcast_S_S2x1x1024 (constant S_ .f32 0x3F800000#32))
        (shapeCast _ (extractStridedSlice S2x1x1x1024 ![0, 1, 0, 0] (MOD md) slices_S2x6x1x1024_S2x1x1x1024_0_1_0_0)
          shapeCasts_S2x1x1x1024_S2x1x1024))))
    (OVER (shapeCast _ (extractStridedSlice S2x1x1x1024 ![0, 0, 0, 0] (MOD md) slices_S2x6x1x1024_S2x1x1x1024_0_0_0_0)
      shapeCasts_S2x1x1x1024_S2x1x1024))

/-- The projection. -/
def PROJ (x : FVec Ideal S2048x1024 .f32) (md : FVec Ideal S8x6x1024 .f32) (g : FVec Ideal S4x1024 .f32)
    (w : FVec Ideal S1024x2560 .f32) : FVec Ideal S2x1024x2560 .f32 :=
  Host.dotGeneral dot_S2x1024x1024_S1024x2560_S2x1024x2560_2_0_01_1_n_n none (HREF x md g) w

/-- The shape facts of eight heads. -/
def heads : Rope.Facts 8 where
  over := bcast_S1x1024x1x16_S2x1024x8x16_0_1_2_3
  lo := slices_S2x1024x8x32_S2x1024x8x16_0_0_0_0
  hi := slices_S2x1024x8x32_S2x1024x8x16_0_0_0_16
  halves := concatenates_S2x1024x8x16_S2x1024x8x16_S2x1024x8x32_d3
  rows := slices_S2x1024x8x64_S2x1024x8x32_0_0_0_0
  cols := slices_S2x1024x8x64_S2x1024x8x32_0_0_0_32
  whole := concatenates_S2x1024x8x32_S2x1024x8x32_S2x1024x8x64_d3

/-- 512 columns of a projection rotated as eight heads. -/
def ROPE (z : FVec Ideal S2x1024x512 .f32) (cr sr cc sc : FVec Ideal S1024x16 .f32) : FVec Ideal S2048x512 .f32 :=
  shapeCast _ (Rope.AXIAL heads (shapeCast _ z shapeCasts_S2x1024x512_S2x1024x8x64) cr sr cc sc)
    shapeCasts_S2x1024x8x64_S2048x512

/-- The rotated queries' columns. -/
abbrev QUERIES (z : FVec Ideal S2x1024x2560 .f32) : FVec Ideal S2x1024x512 .f32 :=
  extractStridedSlice S2x1024x512 ![0, 0, 1024] z slices_S2x1024x2560_S2x1024x512_0_0_1024

/-- The rotated keys' columns. -/
abbrev KEYS (z : FVec Ideal S2x1024x2560 .f32) : FVec Ideal S2x1024x512 .f32 :=
  extractStridedSlice S2x1024x512 ![0, 0, 1536] z slices_S2x1024x2560_S2x1024x512_0_0_1536

/-- The mixer's input. -/
def UREF (z : FVec Ideal S2x1024x2560 .f32) : FVec Ideal S2048x1024 .f32 :=
  shapeCast _ (extractStridedSlice S2x1024x1024 ![0, 0, 0] z slices_S2x1024x2560_S2x1024x1024_0_0_0)
    shapeCasts_S2x1024x1024_S2048x1024

/-- The values. -/
def VREF (z : FVec Ideal S2x1024x2560 .f32) : FVec Ideal S2048x512 .f32 :=
  shapeCast _ (extractStridedSlice S2x1024x512 ![0, 0, 2048] z slices_S2x1024x2560_S2x1024x512_0_0_2048)
    shapeCasts_S2x1024x512_S2048x512

/-- The reference's second result. -/
theorem queries_eq (m : (ℓ : Loc nD τ sig) → Buf (Elt Ideal) ℓ) (c : Dev nD)
    {x : FVec Ideal S2048x1024 .f32} {md : FVec Ideal S8x6x1024 .f32} {g : FVec Ideal S4x1024 .f32}
    {w : FVec Ideal S1024x2560 .f32} {cr sr cc sc : FVec Ideal S1024x16 .f32}
    (h0 : m ((c.tc : Thread nD τ).loc main_arg0) = x) (h1 : m ((c.tc : Thread nD τ).loc main_arg1) = md)
    (h2 : m ((c.tc : Thread nD τ).loc main_arg2) = g) (h3 : m ((c.tc : Thread nD τ).loc main_arg3) = w)
    (h4 : m ((c.tc : Thread nD τ).loc main_arg4) = cr) (h5 : m ((c.tc : Thread nD τ).loc main_arg5) = sr)
    (h6 : m ((c.tc : Thread nD τ).loc main_arg6) = cc) (h7 : m ((c.tc : Thread nD τ).loc main_arg7) = sc) :
    Value.res_main_v104 m c = ROPE (QUERIES (PROJ x md g w)) cr sr cc sc := by
  subst h0 h1 h2 h3 h4 h5 h6 h7
  unfold Value.res_main_v104
  rfl

/-- The reference's third result. -/
theorem keys_eq (m : (ℓ : Loc nD τ sig) → Buf (Elt Ideal) ℓ) (c : Dev nD)
    {x : FVec Ideal S2048x1024 .f32} {md : FVec Ideal S8x6x1024 .f32} {g : FVec Ideal S4x1024 .f32}
    {w : FVec Ideal S1024x2560 .f32} {cr sr cc sc : FVec Ideal S1024x16 .f32}
    (h0 : m ((c.tc : Thread nD τ).loc main_arg0) = x) (h1 : m ((c.tc : Thread nD τ).loc main_arg1) = md)
    (h2 : m ((c.tc : Thread nD τ).loc main_arg2) = g) (h3 : m ((c.tc : Thread nD τ).loc main_arg3) = w)
    (h4 : m ((c.tc : Thread nD τ).loc main_arg4) = cr) (h5 : m ((c.tc : Thread nD τ).loc main_arg5) = sr)
    (h6 : m ((c.tc : Thread nD τ).loc main_arg6) = cc) (h7 : m ((c.tc : Thread nD τ).loc main_arg7) = sc) :
    Value.res_main_v101 m c = ROPE (KEYS (PROJ x md g w)) cr sr cc sc := by
  subst h0 h1 h2 h3 h4 h5 h6 h7
  unfold Value.res_main_v101
  rfl

/-- The projection's numbers. -/
theorem proj_at (x : FVec Ideal S2048x1024 .f32) (md : FVec Ideal S8x6x1024 .f32) (g : FVec Ideal S4x1024 .f32)
    (w : FVec Ideal S1024x2560 .f32) (b : Fin 2) (s : Fin 1024) (q : Fin 2560) :
    PROJ x md g w (ix3 b s q) = Rope.project (fun j => x (ix2 ⟨b.val * 1024 + s.val, by omega⟩ j))
      (fun i j => md (ix3 ⟨1 + b.val, by omega⟩ i j)) (fun i j => g (ix2 i j)) (fun i j => w (ix2 i j)) q := by
  pointwise [PROJ, Rope.project, Feed.normed]

/-- The mixer's input at a row and column. -/
theorem u_at (z : FVec Ideal S2x1024x2560 .f32) (b : Fin 2) (t : Fin 1024) (q : Fin 1024) :
    UREF z (ix2 ⟨b.val * 1024 + t.val, by omega⟩ q) = z (ix3 b t ⟨q.val, by omega⟩) := by
  pointwise [UREF]

/-- The values at a row and column. -/
theorem v_at (z : FVec Ideal S2x1024x2560 .f32) (b : Fin 2) (t : Fin 1024) (q : Fin 512) :
    VREF z (ix2 ⟨b.val * 1024 + t.val, by omega⟩ q) = z (ix3 b t ⟨2048 + q.val, by omega⟩) := by
  pointwise [VREF]

/-- Eight heads' rotated columns at a row and column. -/
theorem rope_at (z : FVec Ideal S2x1024x512 .f32) (cr sr cc sc : FVec Ideal S1024x16 .f32) (b : Fin 2) (t : Fin 1024)
    (q : Fin 512) : ROPE z cr sr cc sc (ix2 ⟨b.val * 1024 + t.val, by omega⟩ q) = Rope.turned (k := 16) rfl
      (fun q => z (ix3 b t q)) (Rope.cosine (fun l => cr (ix2 t l)) (fun l => cc (ix2 t l)))
      (Rope.sine (fun l => sr (ix2 t l)) (fun l => sc (ix2 t l))) q := by
  refine Eq.trans ?_ (Rope.axial_at heads (k := 16) rfl rfl (shapeCast _ z shapeCasts_S2x1024x512_S2x1024x8x64)
    cr sr cc sc b t _ (fun q => ?_) q)
  · pointwise [ROPE]
  · pointwise []

/-- The rotated queries at a row and column. -/
theorem q_at (z : FVec Ideal S2x1024x2560 .f32) (cr sr cc sc : FVec Ideal S1024x16 .f32) (b : Fin 2) (t : Fin 1024)
    (q : Fin 512) : ROPE (QUERIES z) cr sr cc sc (ix2 ⟨b.val * 1024 + t.val, by omega⟩ q) = Rope.turned (k := 80) rfl
      (fun q => z (ix3 b t q)) (Rope.cosine (fun l => cr (ix2 t l)) (fun l => cc (ix2 t l)))
      (Rope.sine (fun l => sr (ix2 t l)) (fun l => sc (ix2 t l))) ⟨1024 + q.val, by omega⟩ := by
  rw [rope_at, ← Rope.turned_slice (n := 512) (k := 16) rfl rfl 1024 8 rfl (by decide)]
  congr 1
  pointwise []

/-- The rotated keys at a row and column. -/
theorem k_at (z : FVec Ideal S2x1024x2560 .f32) (cr sr cc sc : FVec Ideal S1024x16 .f32) (b : Fin 2) (t : Fin 1024)
    (q : Fin 512) : ROPE (KEYS z) cr sr cc sc (ix2 ⟨b.val * 1024 + t.val, by omega⟩ q) = Rope.turned (k := 80) rfl
      (fun q => z (ix3 b t q)) (Rope.cosine (fun l => cr (ix2 t l)) (fun l => cc (ix2 t l)))
      (Rope.sine (fun l => sr (ix2 t l)) (fun l => sc (ix2 t l))) ⟨1536 + q.val, by omega⟩ := by
  rw [rope_at, ← Rope.turned_slice (n := 512) (k := 16) rfl rfl 1536 12 rfl (by decide)]
  congr 1
  pointwise []

end Cert.PrsRefIdeal.Proved

end
-- ==== Proof.Tables.lean ====
module

public import proofs.«01_k».proof.Proof.Rope
public import proofs.«01_k».proof.Proof.Gen.PrsIdeal.Value

@[expose] public section

set_option maxRecDepth 16384

noncomputable section

open Idealize.ShloMosaic Idealize.ShloMosaic.TcCoe Idealize.SL.Sem

/-! The rotary tables as the host builds them, and the numbers they hold. -/

namespace Cert.Rope

open Cert.PrsIdeal Cert.PrsIdeal.Gen

/-- Four tables of 16 lanes side by side. -/
def FOUR (a b c d : FVec Ideal S1024x16 .f32) : FVec Ideal S1024x64 .f32 :=
  concatenate S1024x64 1 [⟨S1024x16, a⟩, ⟨S1024x16, b⟩, ⟨S1024x16, c⟩, ⟨S1024x16, d⟩]
    concatenates_S1024x16_S1024x16_S1024x16_S1024x16_S1024x64_d1

/-- Four tables of 16 lanes side by side, twice over. -/
def TAB (a b c d : FVec Ideal S1024x16 .f32) : FVec Ideal S1024x128 .f32 :=
  concatenate S1024x128 1 [⟨S1024x64, FOUR a b c d⟩, ⟨S1024x64, FOUR a b c d⟩] concatenates_S1024x64_S1024x64_S1024x128_d1

variable (a b c d : FVec Ideal S1024x16 .f32) (s : Fin 1024)

/-- A table twice over holds at a lane what the one copy holds at the lane modulo 64. -/
theorem tab_at (l : Fin 128) : TAB a b c d (ix2 s l) = FOUR a b c d (ix2 s ⟨l.val % 64, by omega⟩) := by
  have hl := l.isLt
  pointwise [TAB]
  split
  · congr 2; apply Fin.ext; show l.val = l.val % 64; omega
  · congr 2; apply Fin.ext; show l.val - 64 = l.val % 64; omega

/-- The four tables by their lanes. -/
theorem four_at (l : Fin 64) : FOUR a b c d (ix2 s l)
    = if l.val < 32 then (if l.val % 32 < 16 then a (ix2 s ⟨l.val % 16, by omega⟩) else b (ix2 s ⟨l.val % 16, by omega⟩))
      else (if l.val % 32 < 16 then c (ix2 s ⟨l.val % 16, by omega⟩) else d (ix2 s ⟨l.val % 16, by omega⟩)) := by
  have hl := l.isLt
  have ht : ∀ (u : FVec Ideal S1024x16 .f32) (a b' : Fin 16), a.val = b'.val → u (ix2 s a) = u (ix2 s b') :=
    fun u a b' e => by rw [Fin.ext e]
  pointwise [FOUR]
  by_cases h1 : l.val < 16
  · refine (dif_pos h1).trans ?_
    rw [if_pos (show l.val < 32 by omega), if_pos (show l.val % 32 < 16 by omega)]
    exact ht a ⟨l.val, h1⟩ ⟨l.val % 16, by omega⟩ (by show l.val = l.val % 16; omega)
  by_cases h2 : l.val - 16 < 16
  · refine (dif_neg h1).trans ((dif_pos h2).trans ?_)
    rw [if_pos (show l.val < 32 by omega), if_neg (show ¬ l.val % 32 < 16 by omega)]
    exact ht b ⟨l.val - 16, h2⟩ ⟨l.val % 16, by omega⟩ (by show l.val - 16 = l.val % 16; omega)
  by_cases h3 : l.val - 16 - 16 < 16
  · refine (dif_neg h1).trans ((dif_neg h2).trans ((dif_pos h3).trans ?_))
    rw [if_neg (show ¬ l.val < 32 by omega), if_pos (show l.val % 32 < 16 by omega)]
    exact ht c ⟨l.val - 16 - 16, h3⟩ ⟨l.val % 16, by omega⟩ (by show l.val - 16 - 16 = l.val % 16; omega)
  · refine (dif_neg h1).trans ((dif_neg h2).trans ((dif_neg h3).trans ?_))
    rw [if_neg (show ¬ l.val < 32 by omega), if_neg (show ¬ l.val % 32 < 16 by omega)]
    exact ht d ⟨l.val - 16 - 16 - 16, by omega⟩ ⟨l.val % 16, by omega⟩ (by show l.val - 16 - 16 - 16 = l.val % 16; omega)

/-- The table of cosines. -/
theorem tab_cos (l : Fin 128) : TAB a a c c (ix2 s l) = cosine (fun l => a (ix2 s l)) (fun l => c (ix2 s l)) l := by
  rw [tab_at, four_at, ite_self, ite_self]
  have h : l.val % 64 % 16 = l.val % 16 := by omega
  simp only [cosine, h]

/-- The table of signed sines. -/
theorem tab_sin (l : Fin 128) : TAB (Host.negf a) a (Host.negf c) c (ix2 s l)
    = sine (fun l => a (ix2 s l)) (fun l => c (ix2 s l)) l := by
  rw [tab_at, four_at]
  have h : l.val % 64 % 16 = l.val % 16 := by omega
  have h' : l.val % 64 % 32 = l.val % 32 := by omega
  simp only [sine, cosine, h, h']
  split_ifs <;> rfl

end Cert.Rope

end
-- ==== Proof.PrsValue.lean ====
module

public import proofs.«01_k».proof.Defs
public import proofs.«01_k».proof.Proof.Gen.PrsIdeal.Value
public import proofs.«01_k».proof.Proof.PrsBlock
public import proofs.«01_k».proof.Proof.PrsReference
public import proofs.«01_k».proof.Proof.Tables
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The value claim of layer 0's input projection on the sample. -/

namespace Cert.PrsIdeal.Proved

open Cert.PrsIdeal Cert.PrsIdeal.Gen Cert.PrsRefIdeal.Proved

variable (m : (ℓ : Loc nD τ sig) → Buf (Elt Ideal) ℓ)

/-- The block indices of the windows at every grid point: two points to a batch, whose modulation row is one past it. -/
theorem idx : ∀ t : Fin cfg0.N, win0_0.index t = ![t.val, 0] ∧ win0_1.index t = ![1 + t.val / 2, 0, 0] ∧
    win0_2.index t = ![0, 0] ∧ win0_3.index t = ![0, 0] ∧ win0_4.index t = ![t.val % 2, 0] ∧
    win0_5.index t = ![t.val % 2, 0] ∧ win0_6.index t = ![t.val, 0] ∧ win0_7.index t = ![t.val, 0] ∧
    win0_8.index t = ![t.val, 0] ∧ win0_9.index t = ![t.val, 0] :=
  (by decide +kernel : ∀ t : Fin grid0.N, _)

/-- The batch of point `t`. -/
abbrev batch (t : Fin cfg0.N) : Fin 2 := ⟨t.val / 2, by have h : t.val < 4 := t.isLt; omega⟩

/-- The row within its batch of row `r` of point `t`'s block. -/
abbrev row (t : Fin cfg0.N) (r : Fin 512) : Fin 1024 := ⟨t.val % 2 * 512 + r.val, by omega⟩

/-- The row of the array that row `r` of point `t`'s block is. -/
abbrev at_ (t : Fin cfg0.N) (r : Fin 512) : Fin 2048 :=
  ⟨(batch t).val * 1024 + (row t r).val, by have := (batch t).isLt; omega⟩

section Blocks

variable (c : Dev nD) (t : Fin cfg0.N)

/-- The cosines of the rows' and the columns' angles, and the sines of either. -/
abbrev CR : FVec Ideal S1024x16 .f32 := m ((c : Thread nD τ).loc main_arg4)
abbrev SR : FVec Ideal S1024x16 .f32 := m ((c : Thread nD τ).loc main_arg5)
abbrev CC : FVec Ideal S1024x16 .f32 := m ((c : Thread nD τ).loc main_arg6)
abbrev SC : FVec Ideal S1024x16 .f32 := m ((c : Thread nD τ).loc main_arg7)

/-- The reference's projection of the call's arguments. -/
abbrev PR : FVec Ideal Cert.PrsRefIdeal.S2x1024x2560 .f32 :=
  PROJ (m ((c : Thread nD τ).loc main_arg0)) (m ((c : Thread nD τ).loc main_arg1))
    (m ((c : Thread nD τ).loc main_arg2)) (m ((c : Thread nD τ).loc main_arg3))

/-- Row `r` of point `t`'s block is that row of the array. -/
theorem x_at (r : Fin 512) (j : Fin 1024) : iblk m c 0 t (ix2 r j)
    = (m ((c : Thread nD τ).loc main_arg0) : FVec Ideal S2048x1024 .f32) (ix2 (at_ t r) j) := by
  blk_point [iblk, V, idx t]

/-- Point `t`'s modulation rows are those of its batch. -/
theorem md_at (i : Fin 6) (j : Fin 1024) : iblk m c 1 t (ix3 0 i j)
    = (m ((c : Thread nD τ).loc main_arg1) : FVec Ideal S8x6x1024 .f32)
        (ix3 ⟨1 + (batch t).val, by have := (batch t).isLt; omega⟩ i j) := by
  blk_point [iblk, V, idx t]

/-- The norm weights. -/
theorem g_at (i : Fin 4) (j : Fin 1024) : iblk m c 2 t (ix2 i j)
    = (m ((c : Thread nD τ).loc main_arg2) : FVec Ideal S4x1024 .f32) (ix2 i j) := by
  blk_point [iblk, V, idx t]

/-- The projection's weights. -/
theorem w_at (i : Fin 1024) (j : Fin 2560) : iblk m c 3 t (ix2 i j)
    = (m ((c : Thread nD τ).loc main_arg3) : FVec Ideal S1024x2560 .f32) (ix2 i j) := by
  blk_point [iblk, V, idx t]

/-- The table of cosines as the host hands it to the call. -/
theorem cos_table : V m c main_v5 = Rope.TAB (CR m c) (CR m c) (CC m c) (CC m c) := by
  unfold V hostOps0
  after_results_simp
  rfl

/-- The table of signed sines as the host hands it to the call. -/
theorem sin_table : V m c main_v6 = Rope.TAB (Host.negf (SR m c)) (SR m c) (Host.negf (SC m c)) (SC m c) := by
  unfold V hostOps0
  after_results_simp
  rfl

/-- Row `r` of point `t`'s block of a table is its row of the batch. -/
theorem emb4 (r : Fin 512) (l : Fin 128) : ((cfg0.win 4).blk t).view.emb (ix2 r l) = (ix2 (row t r) l : S1024x128.Idx) := by
  blk_point [idx t]
/-- The same of the table of sines. -/
theorem emb5 (r : Fin 512) (l : Fin 128) : ((cfg0.win 5).blk t).view.emb (ix2 r l) = (ix2 (row t r) l : S1024x128.Idx) := by
  blk_point [idx t]

/-- The table of cosines at point `t`'s rows. -/
theorem cos_at (r : Fin 512) (l : Fin 128) : iblk m c 4 t (ix2 r l)
    = Rope.cosine (fun l => CR m c (ix2 (row t r) l)) (fun l => CC m c (ix2 (row t r) l)) l :=
  (congrArg (V m c main_v5) (emb4 t r l)).trans ((congrFun (cos_table m c) _).trans (Rope.tab_cos ..))

/-- The table of signed sines at point `t`'s rows. -/
theorem sin_at (r : Fin 512) (l : Fin 128) : iblk m c 5 t (ix2 r l)
    = Rope.sine (fun l => SR m c (ix2 (row t r) l)) (fun l => SC m c (ix2 (row t r) l)) l :=
  (congrArg (V m c main_v6) (emb5 t r l)).trans ((congrFun (sin_table m c) _).trans (Rope.tab_sin ..))

/-- The block's projection is the reference's at the array's rows. -/
theorem p_at' (r : Fin 512) (q : Fin 2560) :
    P (iblk m c 0 t) (iblk m c 1 t) (iblk m c 2 t) (iblk m c 3 t) (ix2 r q) = PR m c (ix3 (batch t) (row t r) q) := by
  refine (p_at (iblk m c 0 t) (iblk m c 1 t) (iblk m c 2 t) (iblk m c 3 t) r q).trans ?_
  refine Eq.trans ?_ (proj_at _ _ _ _ (batch t) (row t r) q).symm
  congr 1
  · exact funext fun j => x_at m c t r j
  · exact funext fun i => funext fun j => md_at m c t i j
  · exact funext fun i => funext fun j => g_at m c t i j
  · exact funext fun i => funext fun j => w_at m c t i j

/-- The rotated columns of the block are the reference's projection rotated. -/
theorem buf_at (base : ℕ) (hb : base + 512 ≤ 2560) (r q : Fin 512) :
    BUF (iblk m c 0 t) (iblk m c 1 t) (iblk m c 2 t) (iblk m c 3 t) (iblk m c 4 t) (iblk m c 5 t) base hb (ix2 r q)
      = Rope.turned (k := 80) rfl (fun q => PR m c (ix3 (batch t) (row t r) q))
        (Rope.cosine (fun l => CR m c (ix2 (row t r) l)) (fun l => CC m c (ix2 (row t r) l)))
        (Rope.sine (fun l => SR m c (ix2 (row t r) l)) (fun l => SC m c (ix2 (row t r) l))) ⟨base + q.val, by omega⟩ := by
  exact Rope.turned_congr (p_at' m c t r) (cos_at m c t r) (sin_at m c t r) _

/-- Row `r` of point `t`'s block of each result is that row of the array. -/
theorem emb6 (r : Fin 512) (j : Fin 1024) :
    ((cfg0.win 6).blk t).view.emb (ix2 r j) = (ix2 (at_ t r) j : S2048x1024.Idx) := by
  blk_point [idx t]
/-- The same of result 1's blocks. -/
theorem emb7 (r j : Fin 512) : ((cfg0.win 7).blk t).view.emb (ix2 r j) = (ix2 (at_ t r) j : S2048x512.Idx) := by
  blk_point [idx t]
/-- The same of result 2's blocks. -/
theorem emb8 (r j : Fin 512) : ((cfg0.win 8).blk t).view.emb (ix2 r j) = (ix2 (at_ t r) j : S2048x512.Idx) := by
  blk_point [idx t]
/-- The same of result 3's blocks. -/
theorem emb9 (r j : Fin 512) : ((cfg0.win 9).blk t).view.emb (ix2 r j) = (ix2 (at_ t r) j : S2048x512.Idx) := by
  blk_point [idx t]

end Blocks

/-- Result 0 after the run: the mixer's input. -/
theorem final6 (c : Dev nD) : (dats m 0 c).arrAt 6 (cfgs 0).N = UREF (PR m c) := by
  refine (dats m 0 c).arrAt_eq_of_covers 6 _ (by decide +kernel) fun t _ y => ?_
  blk_simp
  rw [after0_6]
  obtain ⟨r, j, rfl⟩ : ∃ (r : Fin 512) (j : Fin 1024), y = ix2 r j := ⟨y 0, y 1, eq_ix2 y⟩
  refine (out6 _ _ _ _ _ _ r j).trans ((p_at' m c t r _).trans ?_)
  rw [emb6 t r j, u_at]

/-- Result 1 after the run: the rotated queries. -/
theorem final7 (c : Dev nD) : (dats m 0 c).arrAt 7 (cfgs 0).N = ROPE (QUERIES (PR m c)) (CR m c) (SR m c) (CC m c) (SC m c) := by
  refine (dats m 0 c).arrAt_eq_of_covers 7 _ (by decide +kernel) fun t _ y => ?_
  blk_simp
  rw [after0_7]
  obtain ⟨r, j, rfl⟩ : ∃ (r : Fin 512) (j : Fin 512), y = ix2 r j := ⟨y 0, y 1, eq_ix2 y⟩
  refine (out7 _ _ _ _ _ _ _).trans ((buf_at m c t 1024 _ r j).trans ?_)
  rw [emb7 t r j, q_at]

/-- Result 2 after the run: the rotated keys. -/
theorem final8 (c : Dev nD) : (dats m 0 c).arrAt 8 (cfgs 0).N = ROPE (KEYS (PR m c)) (CR m c) (SR m c) (CC m c) (SC m c) := by
  refine (dats m 0 c).arrAt_eq_of_covers 8 _ (by decide +kernel) fun t _ y => ?_
  blk_simp
  rw [after0_8]
  obtain ⟨r, j, rfl⟩ : ∃ (r : Fin 512) (j : Fin 512), y = ix2 r j := ⟨y 0, y 1, eq_ix2 y⟩
  refine (out8 _ _ _ _ _ _ _).trans ((buf_at m c t 1536 _ r j).trans ?_)
  rw [emb8 t r j, k_at]

/-- Result 3 after the run: the values. -/
theorem final9 (c : Dev nD) : (dats m 0 c).arrAt 9 (cfgs 0).N = VREF (PR m c) := by
  refine (dats m 0 c).arrAt_eq_of_covers 9 _ (by decide +kernel) fun t _ y => ?_
  blk_simp
  rw [after0_9]
  obtain ⟨r, j, rfl⟩ : ∃ (r : Fin 512) (j : Fin 512), y = ix2 r j := ⟨y 0, y 1, eq_ix2 y⟩
  refine (out9 _ _ _ _ _ _ r j).trans ((p_at' m c t r _).trans ?_)
  rw [emb9 t r j, v_at]

end Cert.PrsIdeal.Proved

namespace Cert.Proof

set_option maxHeartbeats 2000000 in
/-- The results of layer 0's input projection on the sample are the reference's, over the extended reals. -/
theorem prs_value : Cert.algebraic_PrsIdeal_PrsRefIdeal := by
  pair_intro
  · run_from Cert.PrsIdeal.Gen.run_main m g
  · run_from Cert.PrsRefIdeal.Value.run m' g'
    · exact (Cert.PrsIdeal.Proved.final6 m c).symm
    · obtain ⟨h0, h1, h2, h3, h4, h5, h6, h7⟩ := hagree c
      exact (Cert.PrsRefIdeal.Proved.queries_eq m' c h0 h1 h2 h3 h4 h5 h6 h7).trans (Cert.PrsIdeal.Proved.final7 m c).symm
    · obtain ⟨h0, h1, h2, h3, h4, h5, h6, h7⟩ := hagree c
      exact (Cert.PrsRefIdeal.Proved.keys_eq m' c h0 h1 h2 h3 h4 h5 h6 h7).trans (Cert.PrsIdeal.Proved.final8 m c).symm
    · exact (Cert.PrsIdeal.Proved.final9 m c).symm

end Cert.Proof

end
-- ==== Proof.QksBlock.lean ====
module

public import proofs.«01_k».proof.Proof.Rope
public import proofs.«01_k».proof.Proof.Gen.QksIdeal.Value
public import Idealize.ShloMosaic.Lib.Pipeline.ReadBack

@[expose] public section

set_option maxRecDepth 16384

noncomputable section

open Idealize.ShloMosaic Idealize.ShloMosaic.TcCoe Idealize.SL.Sem

/-! What the body of layer 1's projection on the sample stores: 16 heads' rotated queries, four heads' rotated keys and
their values. -/

namespace Cert.QksIdeal.Proved

open Cert.QksIdeal Cert.QksIdeal.Gen Cert.Rope

variable (x0 : FVec Ideal S512x1024 .f32) (x1 : FVec Ideal S1x6x1024 .f32) (x2 : FVec Ideal S4x1024 .f32)
    (x3 : FVec Ideal S1024x1536 .bf16) (x4 x5 : FVec Ideal S512x128 .f32)

/-- The projection of a block's rows. -/
def P : FVec Ideal S512x1536 .f32 :=
  k0_pay3 (F := Ideal) (View.ld x0 r0_0) (View.ld x2 r0_1) (View.ld x1 r0_2) (View.ld x1 r0_3) (View.ld x3 r0_4)

/-- The projection's numbers. -/
theorem p_at (r : Fin 512) (q : Fin 1536) : P x0 x1 x2 x3 (ix2 r q)
    = project (fun j => x0 (ix2 r j)) (fun i j => x1 (ix3 0 i j)) (fun i j => x2 (ix2 i j)) (fun i j => x3 (ix2 i j)) q := by
  pointwise [P, k0_pay3, project, Feed.normed]

/-- A table as the body reads it. -/
theorem table : k0_pay4 (F := Ideal) (View.ld x4 r0_5) = x4 := by
  funext y
  idx_vars y
  pointwise [k0_pay4]

/-- What the body stores in window 6: the rotated queries, eight chunks of 128 columns. -/
theorem out6 (y : S512x1024.Idx) : out0_6 (F := Ideal) x0 x1 x2 x3 x4 x5 y
    = ROTATED (k := 48) rfl (P x0 x1 x2 x3) x4 x5 0 (by decide) y := by
  unfold out0_6 k0_pay29 k0_pay30 k0_pay31
  rw [show k0_pay5 (F := Ideal) (View.ld x5 r0_5) = x5 from table x5, show k0_pay4 (F := Ideal) (View.ld x4 r0_5) = x4 from table x4]
  refine View.canon_apply_of_pieces (Val := Elt Ideal) (e := .bf16)
    (ROTATED (k := 48) rfl (P x0 x1 x2 x3) x4 x5 0 (by decide)) _
    (View.PiecesOf.mem ?_) y (cover0_6 _ _ _ _ _ _ _ _ y)
  have piece := piece_at (k := 48) (W := 1024) rfl (P x0 x1 x2 x3) x4 x5 0
  exact ⟨fun x => piece 896 7 (by decide) rfl slices_S512x1536_o0_896_S512x128 inb_S512x1024_S512x128_0_896 x,
    fun x => piece 768 6 (by decide) rfl slices_S512x1536_o0_768_S512x128 inb_S512x1024_S512x128_0_768 x,
    fun x => piece 640 5 (by decide) rfl slices_S512x1536_o0_640_S512x128 inb_S512x1024_S512x128_0_640 x,
    fun x => piece 512 4 (by decide) rfl slices_S512x1536_o0_512_S512x128 inb_S512x1024_S512x128_0_512 x,
    fun x => piece 384 3 (by decide) rfl slices_S512x1536_o0_384_S512x128 inb_S512x1024_S512x128_0_384 x,
    fun x => piece 256 2 (by decide) rfl slices_S512x1536_o0_256_S512x128 inb_S512x1024_S512x128_0_256 x,
    fun x => piece 128 1 (by decide) rfl slices_S512x1536_o0_128_S512x128 inb_S512x1024_S512x128_0_128 x,
    fun x => piece 0 0 (by decide) rfl slices_S512x1536_o0_0_S512x128 inb_S512x1024_S512x128_0_0 x, trivial⟩

/-- What the body stores in window 7: the rotated keys, two chunks of 128 columns. -/
theorem out7 (y : S512x256.Idx) : out0_7 (F := Ideal) x0 x1 x2 x3 x4 x5 y
    = ROTATED (k := 48) rfl (P x0 x1 x2 x3) x4 x5 1024 (by decide) y := by
  unfold out0_7 k0_pay29
  rw [show k0_pay27 (F := Ideal) (View.ld x5 r0_5) = x5 from table x5, show k0_pay26 (F := Ideal) (View.ld x4 r0_5) = x4 from table x4]
  have first : k0_pay28 (F := Ideal) (P x0 x1 x2 x3) (View.ld x4 r0_5) (View.ld x5 r0_5)
      = ROPED (extractStridedSlice S512x128 ![0, 128 * 8] (P x0 x1 x2 x3) slices_S512x1536_o0_1024_S512x128)
        (k0_pay26 (F := Ideal) (View.ld x4 r0_5)) (k0_pay27 (F := Ideal) (View.ld x5 r0_5)) := rfl
  rw [show k0_pay27 (F := Ideal) (View.ld x5 r0_5) = x5 from table x5, show k0_pay26 (F := Ideal) (View.ld x4 r0_5) = x4 from table x4]
    at first
  refine View.canon_apply_of_pieces (Val := Elt Ideal) (e := .f32)
    (ROTATED (k := 48) rfl (P x0 x1 x2 x3) x4 x5 1024 (by decide)) _
    (View.PiecesOf.mem ?_) y (cover0_7 _ _ y)
  have piece := piece_at (k := 48) (W := 256) rfl (P x0 x1 x2 x3) x4 x5 1024
  exact ⟨fun x => piece 128 9 (by decide) rfl slices_S512x1536_o0_1152_S512x128 inb_S512x256_S512x128_0_128 x,
    fun x => (congrFun first x).trans
      (piece 0 8 (by decide) rfl slices_S512x1536_o0_1024_S512x128 inb_S512x256_S512x128_0_0 x), trivial⟩

/-- What the body stores in window 8: the last 256 columns. -/
theorem out8 (r : Fin 512) (q : Fin 256) : out0_8 (F := Ideal) x0 x1 x2 x3 x4 x5 (ix2 r q)
    = P x0 x1 x2 x3 (ix2 r ⟨1280 + q.val, by omega⟩) := by
  unfold out0_8 k0_pay29 k0_pay2
  unfold P
  generalize k0_pay3 (F := Ideal) (View.ld x0 r0_0) (View.ld x2 r0_1) (View.ld x1 r0_2) (View.ld x1 r0_3) (View.ld x3 r0_4) = f
  frame_out
  pointwise []

end Cert.QksIdeal.Proved

end
-- ==== Proof.QksReference.lean ====
module

public import proofs.«01_k».proof.Proof.PrsReference
public import proofs.«01_k».proof.Proof.Gen.QksRefIdeal.Run

@[expose] public section

set_option maxRecDepth 16384

noncomputable section

open Idealize.ShloMosaic Idealize.ShloMosaic.TcCoe Idealize.SL.Sem

/-! The reference of layer 1's projection on the sample and the numbers it holds. Its norm and modulation are layer 0's. -/

namespace Cert.QksRefIdeal.Proved

open Cert.QksRefIdeal Cert.QksRefIdeal.Gen

/-- The projection. -/
def PROJ (x : FVec Ideal S2048x1024 .f32) (md : FVec Ideal S8x6x1024 .f32) (g : FVec Ideal S4x1024 .f32)
    (w : FVec Ideal S1024x1536 .f32) : FVec Ideal S2x1024x1536 .f32 :=
  Host.dotGeneral dot_S2x1024x1024_S1024x1536_S2x1024x1536_2_0_01_1_n_n none (PrsRefIdeal.Proved.HREF x md g) w

/-- The shape facts of the queries' sixteen heads. -/
def heads16 : Rope.Facts 16 where
  over := bcast_S1x1024x1x16_S2x1024x16x16_0_1_2_3
  lo := slices_S2x1024x16x32_S2x1024x16x16_0_0_0_0
  hi := slices_S2x1024x16x32_S2x1024x16x16_0_0_0_16
  halves := concatenates_S2x1024x16x16_S2x1024x16x16_S2x1024x16x32_d3
  rows := slices_S2x1024x16x64_S2x1024x16x32_0_0_0_0
  cols := slices_S2x1024x16x64_S2x1024x16x32_0_0_0_32
  whole := concatenates_S2x1024x16x32_S2x1024x16x32_S2x1024x16x64_d3

/-- The shape facts of the keys' four heads. -/
def heads4 : Rope.Facts 4 where
  over := bcast_S1x1024x1x16_S2x1024x4x16_0_1_2_3
  lo := slices_S2x1024x4x32_S2x1024x4x16_0_0_0_0
  hi := slices_S2x1024x4x32_S2x1024x4x16_0_0_0_16
  halves := concatenates_S2x1024x4x16_S2x1024x4x16_S2x1024x4x32_d3
  rows := slices_S2x1024x4x64_S2x1024x4x32_0_0_0_0
  cols := slices_S2x1024x4x64_S2x1024x4x32_0_0_0_32
  whole := concatenates_S2x1024x4x32_S2x1024x4x32_S2x1024x4x64_d3

/-- The queries' columns. -/
abbrev QUERIES (z : FVec Ideal S2x1024x1536 .f32) : FVec Ideal S2x1024x1024 .f32 :=
  extractStridedSlice S2x1024x1024 ![0, 0, 0] z slices_S2x1024x1536_S2x1024x1024_0_0_0

/-- The keys' columns. -/
abbrev KEYS (z : FVec Ideal S2x1024x1536 .f32) : FVec Ideal S2x1024x256 .f32 :=
  extractStridedSlice S2x1024x256 ![0, 0, 1024] z slices_S2x1024x1536_S2x1024x256_0_0_1024

/-- The queries rotated. -/
def QREF (z : FVec Ideal S2x1024x1536 .f32) (cr sr cc sc : FVec Ideal S1024x16 .f32) : FVec Ideal S2048x1024 .f32 :=
  shapeCast _ (Rope.AXIAL heads16 (shapeCast _ (QUERIES z) shapeCasts_S2x1024x1024_S2x1024x16x64) cr sr cc sc)
    shapeCasts_S2x1024x16x64_S2048x1024

/-- The keys rotated. -/
def KREF (z : FVec Ideal S2x1024x1536 .f32) (cr sr cc sc : FVec Ideal S1024x16 .f32) : FVec Ideal S2048x256 .f32 :=
  shapeCast _ (Rope.AXIAL heads4 (shapeCast _ (KEYS z) shapeCasts_S2x1024x256_S2x1024x4x64) cr sr cc sc)
    shapeCasts_S2x1024x4x64_S2048x256

/-- The values. -/
def VREF (z : FVec Ideal S2x1024x1536 .f32) : FVec Ideal S2048x256 .f32 :=
  shapeCast _ (extractStridedSlice S2x1024x256 ![0, 0, 1280] z slices_S2x1024x1536_S2x1024x256_0_0_1280)
    shapeCasts_S2x1024x256_S2048x256

section Results

variable (m : (ℓ : Loc nD τ sig) → Buf (Elt Ideal) ℓ) (c : Dev nD)
    {x : FVec Ideal S2048x1024 .f32} {md : FVec Ideal S8x6x1024 .f32} {g : FVec Ideal S4x1024 .f32}
    {w : FVec Ideal S1024x1536 .f32} {cr sr cc sc : FVec Ideal S1024x16 .f32}
    (h0 : m ((c.tc : Thread nD τ).loc main_arg0) = x) (h1 : m ((c.tc : Thread nD τ).loc main_arg1) = md)
    (h2 : m ((c.tc : Thread nD τ).loc main_arg2) = g) (h3 : m ((c.tc : Thread nD τ).loc main_arg3) = w)
    (h4 : m ((c.tc : Thread nD τ).loc main_arg4) = cr) (h5 : m ((c.tc : Thread nD τ).loc main_arg5) = sr)
    (h6 : m ((c.tc : Thread nD τ).loc main_arg6) = cc) (h7 : m ((c.tc : Thread nD τ).loc main_arg7) = sc)

include h0 h1 h2 h3 h4 h5 h6 h7

/-- The reference's first result. -/
theorem queries_eq : Value.res_main_v101 m c = QREF (PROJ x md g w) cr sr cc sc := by
  subst h0 h1 h2 h3 h4 h5 h6 h7
  unfold Value.res_main_v101
  rfl

/-- The reference's second result. -/
theorem keys_eq : Value.res_main_v100 m c = KREF (PROJ x md g w) cr sr cc sc := by
  subst h0 h1 h2 h3 h4 h5 h6 h7
  unfold Value.res_main_v100
  rfl

end Results

/-- The projection's numbers. -/
theorem proj_at (x : FVec Ideal S2048x1024 .f32) (md : FVec Ideal S8x6x1024 .f32) (g : FVec Ideal S4x1024 .f32)
    (w : FVec Ideal S1024x1536 .f32) (b : Fin 2) (s : Fin 1024) (q : Fin 1536) :
    PROJ x md g w (ix3 b s q) = Rope.project (fun j => x (ix2 ⟨b.val * 1024 + s.val, by omega⟩ j))
      (fun i j => md (ix3 ⟨1 + b.val, by omega⟩ i j)) (fun i j => g (ix2 i j)) (fun i j => w (ix2 i j)) q := by
  pointwise [PROJ, Rope.project, Feed.normed]

variable (z : FVec Ideal S2x1024x1536 .f32) (cr sr cc sc : FVec Ideal S1024x16 .f32) (b : Fin 2) (t : Fin 1024)

/-- The values at a row and column. -/
theorem v_at (q : Fin 256) :
    VREF z (ix2 ⟨b.val * 1024 + t.val, by omega⟩ q) = z (ix3 b t ⟨1280 + q.val, by omega⟩) := by
  pointwise [VREF]

/-- The rotated queries at a row and column. -/
theorem q_at (q : Fin 1024) : QREF z cr sr cc sc (ix2 ⟨b.val * 1024 + t.val, by omega⟩ q) = Rope.turned (k := 48) rfl
      (fun q => z (ix3 b t q)) (Rope.cosine (fun l => cr (ix2 t l)) (fun l => cc (ix2 t l)))
      (Rope.sine (fun l => sr (ix2 t l)) (fun l => sc (ix2 t l))) ⟨0 + q.val, by omega⟩ := by
  rw [← Rope.turned_slice (n := 1024) (k := 32) rfl rfl 0 0 rfl (by decide)]
  refine Eq.trans ?_ (Rope.axial_at heads16 (k := 32) rfl rfl (shapeCast _ (QUERIES z) shapeCasts_S2x1024x1024_S2x1024x16x64)
    cr sr cc sc b t _ (fun q => ?_) q)
  · pointwise [QREF]
  · pointwise []

/-- The rotated keys at a row and column. -/
theorem k_at (q : Fin 256) : KREF z cr sr cc sc (ix2 ⟨b.val * 1024 + t.val, by omega⟩ q) = Rope.turned (k := 48) rfl
      (fun q => z (ix3 b t q)) (Rope.cosine (fun l => cr (ix2 t l)) (fun l => cc (ix2 t l)))
      (Rope.sine (fun l => sr (ix2 t l)) (fun l => sc (ix2 t l))) ⟨1024 + q.val, by omega⟩ := by
  rw [← Rope.turned_slice (n := 256) (k := 8) rfl rfl 1024 8 rfl (by decide)]
  refine Eq.trans ?_ (Rope.axial_at heads4 (k := 8) rfl rfl (shapeCast _ (KEYS z) shapeCasts_S2x1024x256_S2x1024x4x64)
    cr sr cc sc b t _ (fun q => ?_) q)
  · pointwise [KREF]
  · pointwise []

end Cert.QksRefIdeal.Proved

end
-- ==== Proof.QksValue.lean ====
module

public import proofs.«01_k».proof.Defs
public import proofs.«01_k».proof.Proof.Gen.QksIdeal.Value
public import proofs.«01_k».proof.Proof.QksBlock
public import proofs.«01_k».proof.Proof.QksReference
public import proofs.«01_k».proof.Proof.Tables
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The value claim of layer 1's input projection on the sample. -/

namespace Cert.QksIdeal.Proved

open Cert.QksIdeal Cert.QksIdeal.Gen Cert.QksRefIdeal.Proved

variable (m : (ℓ : Loc nD τ sig) → Buf (Elt Ideal) ℓ)

/-- The block indices of the windows at every grid point: two points to a batch, whose modulation row is one past it. -/
theorem idx : ∀ t : Fin cfg0.N, win0_0.index t = ![t.val, 0] ∧ win0_1.index t = ![1 + t.val / 2, 0, 0] ∧
    win0_2.index t = ![0, 0] ∧ win0_3.index t = ![0, 0] ∧ win0_4.index t = ![t.val % 2, 0] ∧
    win0_5.index t = ![t.val % 2, 0] ∧ win0_6.index t = ![t.val, 0] ∧ win0_7.index t = ![t.val, 0] ∧
    win0_8.index t = ![t.val, 0] :=
  (by decide +kernel : ∀ t : Fin grid0.N, _)

/-- The batch of point `t`. -/
abbrev batch (t : Fin cfg0.N) : Fin 2 := ⟨t.val / 2, by have h : t.val < 4 := t.isLt; omega⟩

/-- The row within its batch of row `r` of point `t`'s block. -/
abbrev row (t : Fin cfg0.N) (r : Fin 512) : Fin 1024 := ⟨t.val % 2 * 512 + r.val, by omega⟩

/-- The row of the array that row `r` of point `t`'s block is. -/
abbrev at_ (t : Fin cfg0.N) (r : Fin 512) : Fin 2048 :=
  ⟨(batch t).val * 1024 + (row t r).val, by have := (batch t).isLt; omega⟩

section Blocks

variable (c : Dev nD) (t : Fin cfg0.N)

/-- The cosines of the rows' and the columns' angles, and the sines of either. -/
abbrev CR : FVec Ideal S1024x16 .f32 := m ((c : Thread nD τ).loc main_arg4)
abbrev SR : FVec Ideal S1024x16 .f32 := m ((c : Thread nD τ).loc main_arg5)
abbrev CC : FVec Ideal S1024x16 .f32 := m ((c : Thread nD τ).loc main_arg6)
abbrev SC : FVec Ideal S1024x16 .f32 := m ((c : Thread nD τ).loc main_arg7)

/-- The reference's projection of the call's arguments. -/
abbrev PR : FVec Ideal Cert.QksRefIdeal.S2x1024x1536 .f32 :=
  PROJ (m ((c : Thread nD τ).loc main_arg0)) (m ((c : Thread nD τ).loc main_arg1))
    (m ((c : Thread nD τ).loc main_arg2)) (m ((c : Thread nD τ).loc main_arg3))

/-- Row `r` of point `t`'s block is that row of the array. -/
theorem x_at (r : Fin 512) (j : Fin 1024) : iblk m c 0 t (ix2 r j)
    = (m ((c : Thread nD τ).loc main_arg0) : FVec Ideal S2048x1024 .f32) (ix2 (at_ t r) j) := by
  blk_point [iblk, V, idx t]

/-- Point `t`'s modulation rows are those of its batch. -/
theorem md_at (i : Fin 6) (j : Fin 1024) : iblk m c 1 t (ix3 0 i j)
    = (m ((c : Thread nD τ).loc main_arg1) : FVec Ideal S8x6x1024 .f32)
        (ix3 ⟨1 + (batch t).val, by have := (batch t).isLt; omega⟩ i j) := by
  blk_point [iblk, V, idx t]

/-- The norm weights. -/
theorem g_at (i : Fin 4) (j : Fin 1024) : iblk m c 2 t (ix2 i j)
    = (m ((c : Thread nD τ).loc main_arg2) : FVec Ideal S4x1024 .f32) (ix2 i j) := by
  blk_point [iblk, V, idx t]

/-- The projection's weights. -/
theorem w_at (i : Fin 1024) (j : Fin 1536) : iblk m c 3 t (ix2 i j)
    = (m ((c : Thread nD τ).loc main_arg3) : FVec Ideal S1024x1536 .f32) (ix2 i j) := by
  blk_point [iblk, V, idx t]

/-- The table of cosines as the host hands it to the call. -/
theorem cos_table : V m c main_v5 = Rope.TAB (CR m c) (CR m c) (CC m c) (CC m c) := by
  unfold V hostOps0
  after_results_simp
  rfl

/-- The table of signed sines as the host hands it to the call. -/
theorem sin_table : V m c main_v6 = Rope.TAB (Host.negf (SR m c)) (SR m c) (Host.negf (SC m c)) (SC m c) := by
  unfold V hostOps0
  after_results_simp
  rfl

/-- Row `r` of point `t`'s block of a table is its row of the batch. -/
theorem emb4 (r : Fin 512) (l : Fin 128) : ((cfg0.win 4).blk t).view.emb (ix2 r l) = (ix2 (row t r) l : S1024x128.Idx) := by
  blk_point [idx t]
/-- The same of the table of sines. -/
theorem emb5 (r : Fin 512) (l : Fin 128) : ((cfg0.win 5).blk t).view.emb (ix2 r l) = (ix2 (row t r) l : S1024x128.Idx) := by
  blk_point [idx t]

/-- The table of cosines at point `t`'s rows. -/
theorem cos_at (r : Fin 512) (l : Fin 128) : iblk m c 4 t (ix2 r l)
    = Rope.cosine (fun l => CR m c (ix2 (row t r) l)) (fun l => CC m c (ix2 (row t r) l)) l :=
  (congrArg (V m c main_v5) (emb4 t r l)).trans ((congrFun (cos_table m c) _).trans (Rope.tab_cos ..))

/-- The table of signed sines at point `t`'s rows. -/
theorem sin_at (r : Fin 512) (l : Fin 128) : iblk m c 5 t (ix2 r l)
    = Rope.sine (fun l => SR m c (ix2 (row t r) l)) (fun l => SC m c (ix2 (row t r) l)) l :=
  (congrArg (V m c main_v6) (emb5 t r l)).trans ((congrFun (sin_table m c) _).trans (Rope.tab_sin ..))

/-- The block's projection is the reference's at the array's rows. -/
theorem p_at' (r : Fin 512) (q : Fin 1536) :
    P (iblk m c 0 t) (iblk m c 1 t) (iblk m c 2 t) (iblk m c 3 t) (ix2 r q) = PR m c (ix3 (batch t) (row t r) q) := by
  refine (p_at (iblk m c 0 t) (iblk m c 1 t) (iblk m c 2 t) (iblk m c 3 t) r q).trans ?_
  refine Eq.trans ?_ (proj_at _ _ _ _ (batch t) (row t r) q).symm
  congr 1
  · exact funext fun j => x_at m c t r j
  · exact funext fun i => funext fun j => md_at m c t i j
  · exact funext fun i => funext fun j => g_at m c t i j
  · exact funext fun i => funext fun j => w_at m c t i j

/-- The rotated columns of the block are the reference's projection rotated. -/
theorem rotated_at {W : ℕ} (base : ℕ) (hb : base + W ≤ 1536) (r : Fin 512) (q : Fin W) :
    Rope.ROTATED (k := 48) rfl (P (iblk m c 0 t) (iblk m c 1 t) (iblk m c 2 t) (iblk m c 3 t)) (iblk m c 4 t) (iblk m c 5 t)
        base hb (ix2 r q)
      = Rope.turned (k := 48) rfl (fun q => PR m c (ix3 (batch t) (row t r) q))
        (Rope.cosine (fun l => CR m c (ix2 (row t r) l)) (fun l => CC m c (ix2 (row t r) l)))
        (Rope.sine (fun l => SR m c (ix2 (row t r) l)) (fun l => SC m c (ix2 (row t r) l))) ⟨base + q.val, by omega⟩ :=
  Rope.turned_congr (p_at' m c t r) (cos_at m c t r) (sin_at m c t r) _

/-- Row `r` of point `t`'s block of each result is that row of the array. -/
theorem emb6 (r : Fin 512) (j : Fin 1024) :
    ((cfg0.win 6).blk t).view.emb (ix2 r j) = (ix2 (at_ t r) j : S2048x1024.Idx) := by
  blk_point [idx t]
/-- The same of result 1's blocks. -/
theorem emb7 (r : Fin 512) (j : Fin 256) : ((cfg0.win 7).blk t).view.emb (ix2 r j) = (ix2 (at_ t r) j : S2048x256.Idx) := by
  blk_point [idx t]
/-- The same of result 2's blocks. -/
theorem emb8 (r : Fin 512) (j : Fin 256) : ((cfg0.win 8).blk t).view.emb (ix2 r j) = (ix2 (at_ t r) j : S2048x256.Idx) := by
  blk_point [idx t]

end Blocks

/-- Result 0 after the run: the rotated queries. -/
theorem final6 (c : Dev nD) : (dats m 0 c).arrAt 6 (cfgs 0).N = QREF (PR m c) (CR m c) (SR m c) (CC m c) (SC m c) := by
  refine (dats m 0 c).arrAt_eq_of_covers 6 _ (by decide +kernel) fun t _ y => ?_
  blk_simp
  rw [after0_6]
  obtain ⟨r, j, rfl⟩ : ∃ (r : Fin 512) (j : Fin 1024), y = ix2 r j := ⟨y 0, y 1, eq_ix2 y⟩
  refine (out6 _ _ _ _ _ _ _).trans ((rotated_at m c t 0 _ r j).trans ?_)
  rw [emb6 t r j, q_at]

/-- Result 1 after the run: the rotated keys. -/
theorem final7 (c : Dev nD) : (dats m 0 c).arrAt 7 (cfgs 0).N = KREF (PR m c) (CR m c) (SR m c) (CC m c) (SC m c) := by
  refine (dats m 0 c).arrAt_eq_of_covers 7 _ (by decide +kernel) fun t _ y => ?_
  blk_simp
  rw [after0_7]
  obtain ⟨r, j, rfl⟩ : ∃ (r : Fin 512) (j : Fin 256), y = ix2 r j := ⟨y 0, y 1, eq_ix2 y⟩
  refine (out7 _ _ _ _ _ _ _).trans ((rotated_at m c t 1024 _ r j).trans ?_)
  rw [emb7 t r j, k_at]

/-- Result 2 after the run: the values. -/
theorem final8 (c : Dev nD) : (dats m 0 c).arrAt 8 (cfgs 0).N = VREF (PR m c) := by
  refine (dats m 0 c).arrAt_eq_of_covers 8 _ (by decide +kernel) fun t _ y => ?_
  blk_simp
  rw [after0_8]
  obtain ⟨r, j, rfl⟩ : ∃ (r : Fin 512) (j : Fin 256), y = ix2 r j := ⟨y 0, y 1, eq_ix2 y⟩
  refine (out8 _ _ _ _ _ _ r j).trans ((p_at' m c t r _).trans ?_)
  rw [emb8 t r j, v_at]

end Cert.QksIdeal.Proved

namespace Cert.Proof

set_option maxHeartbeats 2000000 in
/-- The results of layer 1's input projection on the sample are the reference's, over the extended reals. -/
theorem qks_value : Cert.algebraic_QksIdeal_QksRefIdeal := by
  pair_intro
  · run_from Cert.QksIdeal.Gen.run_main m g
  · run_from Cert.QksRefIdeal.Value.run m' g'
    · obtain ⟨h0, h1, h2, h3, h4, h5, h6, h7⟩ := hagree c
      exact (Cert.QksRefIdeal.Proved.queries_eq m' c h0 h1 h2 h3 h4 h5 h6 h7).trans (Cert.QksIdeal.Proved.final6 m c).symm
    · obtain ⟨h0, h1, h2, h3, h4, h5, h6, h7⟩ := hagree c
      exact (Cert.QksRefIdeal.Proved.keys_eq m' c h0 h1 h2 h3 h4 h5 h6 h7).trans (Cert.QksIdeal.Proved.final7 m c).symm
    · exact (Cert.QksIdeal.Proved.final8 m c).symm

end Cert.Proof

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Pre
public import proofs.«01_k».proof.Proof.Gen.Pre.Skeleton
public import proofs.«01_k».proof.Proof.Gen.Pre.Launch
public import proofs.«01_k».proof.Proof.Gen.Pre.Points
public import proofs.«01_k».proof.Proof.Gen.Pre.Frame
public import proofs.«01_k».proof.Proof.Gen.PreIdeal
public import proofs.«01_k».proof.Proof.Gen.PreIdeal.Skeleton
public import proofs.«01_k».proof.Proof.Gen.PreIdeal.Launch
public import proofs.«01_k».proof.Proof.Gen.PreIdeal.Points
public import proofs.«01_k».proof.Proof.Gen.PreIdeal.Frame
public import proofs.«01_k».proof.Proof.Gen.PreRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModRefIdeal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinRefIdeal
public import proofs.«01_k».proof.Proof.Gen.AttnIdeal.Value
public import proofs.«01_k».proof.Proof.Gen.AttnRefIdeal.Run
public import proofs.«01_k».proof.Proof.Gen.FfnIdeal.Value
public import proofs.«01_k».proof.Proof.Gen.FfnRefIdeal.Run
public import proofs.«01_k».proof.Proof.Gen.PreIdeal.Value
public import proofs.«01_k».proof.Proof.Gen.PreRefIdeal.Run
public import proofs.«01_k».proof.Proof.Gen.MixIdeal.Value
public import proofs.«01_k».proof.Proof.Gen.MixRefIdeal.Run
public import proofs.«01_k».proof.Proof.Gen.ModIdeal.Value
public import proofs.«01_k».proof.Proof.Gen.ModRefIdeal.Run
public import proofs.«01_k».proof.Proof.Gen.QkvIdeal.Value
public import proofs.«01_k».proof.Proof.Gen.QkvRefIdeal.Run
public import proofs.«01_k».proof.Proof.Gen.WinIdeal.Value
public import proofs.«01_k».proof.Proof.Gen.WinRefIdeal.Run
public import Idealize.ShloMosaic.Adequacy
public import Idealize.ShloMosaic.Init
public import proofs.«01_k».proof.Proof.Gen.Ffs
public import proofs.«01_k».proof.Proof.Gen.Ffs.Skeleton
public import proofs.«01_k».proof.Proof.Gen.Ffs.Launch
public import proofs.«01_k».proof.Proof.Gen.Ffs.Points
public import proofs.«01_k».proof.Proof.Gen.Ffs.Frame
public import proofs.«01_k».proof.Proof.Gen.FfsIdeal
public import proofs.«01_k».proof.Proof.Gen.FfsIdeal.Skeleton
public import proofs.«01_k».proof.Proof.Gen.FfsIdeal.Launch
public import proofs.«01_k».proof.Proof.Gen.FfsIdeal.Points
public import proofs.«01_k».proof.Proof.Gen.FfsIdeal.Frame
public import proofs.«01_k».proof.Proof.Gen.FfsRefIdeal
public import proofs.«01_k».proof.Proof.Gen.FfsIdeal.Value
public import proofs.«01_k».proof.Proof.Gen.FfsRefIdeal.Run
public import proofs.«01_k».proof.Proof.Gen.Prs
public import proofs.«01_k».proof.Proof.Gen.Prs.Skeleton
public import proofs.«01_k».proof.Proof.Gen.Prs.Launch
public import proofs.«01_k».proof.Proof.Gen.Prs.Points
public import proofs.«01_k».proof.Proof.Gen.Prs.Frame
public import proofs.«01_k».proof.Proof.Gen.PrsIdeal
public import proofs.«01_k».proof.Proof.Gen.PrsIdeal.Skeleton
public import proofs.«01_k».proof.Proof.Gen.PrsIdeal.Launch
public import proofs.«01_k».proof.Proof.Gen.PrsIdeal.Points
public import proofs.«01_k».proof.Proof.Gen.PrsIdeal.Frame
public import proofs.«01_k».proof.Proof.Gen.PrsRefIdeal
public import proofs.«01_k».proof.Proof.Gen.PrsIdeal.Value
public import proofs.«01_k».proof.Proof.Gen.PrsRefIdeal.Run
public import proofs.«01_k».proof.Proof.Gen.Qks
public import proofs.«01_k».proof.Proof.Gen.Qks.Skeleton
public import proofs.«01_k».proof.Proof.Gen.Qks.Launch
public import proofs.«01_k».proof.Proof.Gen.Qks.Points
public import proofs.«01_k».proof.Proof.Gen.Qks.Frame
public import proofs.«01_k».proof.Proof.Gen.QksIdeal
public import proofs.«01_k».proof.Proof.Gen.QksIdeal.Skeleton
public import proofs.«01_k».proof.Proof.Gen.QksIdeal.Launch
public import proofs.«01_k».proof.Proof.Gen.QksIdeal.Points
public import proofs.«01_k».proof.Proof.Gen.QksIdeal.Frame
public import proofs.«01_k».proof.Proof.Gen.QksRefIdeal
public import proofs.«01_k».proof.Proof.Gen.QksIdeal.Value
public import proofs.«01_k».proof.Proof.Gen.QksRefIdeal.Run
public import proofs.«01_k».proof.Proof.FiniteScores
public import proofs.«01_k».proof.Proof.FiniteMix
public import proofs.«01_k».proof.Proof.AttnValue
public import proofs.«01_k».proof.Proof.FfnValue
public import proofs.«01_k».proof.Proof.PreValue
public import proofs.«01_k».proof.Proof.ModValue
public import proofs.«01_k».proof.Proof.QkvValue
public import proofs.«01_k».proof.Proof.MixValue
public import proofs.«01_k».proof.Proof.FfsValue
public import proofs.«01_k».proof.Proof.PrsValue
public import proofs.«01_k».proof.Proof.QksValue

@[expose] public section

noncomputable section

namespace Cert.Proof

open Idealize.ShloMosaic Idealize.SL.Sem

/-- The reference program `AttnRefIdeal` runs, leaves its arguments alone and ends quiescent. -/
theorem frame_AttnRefIdeal : Cert.quiescent_AttnRefIdeal := fun m g _ =>
  (θ_run Cert.AttnRefIdeal.defs _ _).mono (fun r h => ⟨fun c => (h c).2,
      sem_eq_zero_of_no_sems (by decide) r.2⟩) (Cert.AttnRefIdeal.Value.run (F := Ideal) m g)

/-- The reference program `FfnRefIdeal` runs, leaves its arguments alone and ends quiescent. -/
theorem frame_FfnRefIdeal : Cert.quiescent_FfnRefIdeal := fun m g _ =>
  (θ_run Cert.FfnRefIdeal.defs _ _).mono (fun r h => ⟨fun c => (h c).2,
      sem_eq_zero_of_no_sems (by decide) r.2⟩) (Cert.FfnRefIdeal.Value.run (F := Ideal) m g)

/-- The reference program `PreRefIdeal` runs, leaves its arguments alone and ends quiescent. -/
theorem frame_PreRefIdeal : Cert.quiescent_PreRefIdeal := fun m g _ =>
  (θ_run Cert.PreRefIdeal.defs _ _).mono (fun r h => ⟨fun c => (h c).2.2.2.2,
      sem_eq_zero_of_no_sems (by decide) r.2⟩) (Cert.PreRefIdeal.Value.run (F := Ideal) m g)

/-- The reference program `MixRefIdeal` runs, leaves its arguments alone and ends quiescent. -/
theorem frame_MixRefIdeal : Cert.quiescent_MixRefIdeal := fun m g _ =>
  (θ_run Cert.MixRefIdeal.defs _ _).mono (fun r h => ⟨fun c => (h c).2,
      sem_eq_zero_of_no_sems (by decide) r.2⟩) (Cert.MixRefIdeal.Value.run (F := Ideal) m g)

/-- The reference program `ModRefIdeal` runs, leaves its arguments alone and ends quiescent. -/
theorem frame_ModRefIdeal : Cert.quiescent_ModRefIdeal := fun m g _ =>
  (θ_run Cert.ModRefIdeal.defs _ _).mono (fun r h => ⟨fun c => (h c).2,
      sem_eq_zero_of_no_sems (by decide) r.2⟩) (Cert.ModRefIdeal.Value.run (F := Ideal) m g)

/-- The reference program `QkvRefIdeal` runs, leaves its arguments alone and ends quiescent. -/
theorem frame_QkvRefIdeal : Cert.quiescent_QkvRefIdeal := fun m g _ =>
  (θ_run Cert.QkvRefIdeal.defs _ _).mono (fun r h => ⟨fun c => (h c).2.2.2,
      sem_eq_zero_of_no_sems (by decide) r.2⟩) (Cert.QkvRefIdeal.Value.run (F := Ideal) m g)

/-- The reference program `WinRefIdeal` runs, leaves its arguments alone and ends quiescent. -/
theorem frame_WinRefIdeal : Cert.quiescent_WinRefIdeal := fun m g _ =>
  (θ_run Cert.WinRefIdeal.defs _ _).mono (fun r h => ⟨fun c => (h c).2,
      sem_eq_zero_of_no_sems (by decide) r.2⟩) (Cert.WinRefIdeal.Value.run (F := Ideal) m g)

/-- The reference program `FfsRefIdeal` runs, leaves its arguments alone and ends quiescent. -/
theorem frame_FfsRefIdeal : Cert.quiescent_FfsRefIdeal := fun m g _ =>
  (θ_run Cert.FfsRefIdeal.defs _ _).mono (fun r h => ⟨fun c => (h c).2,
      sem_eq_zero_of_no_sems (by decide) r.2⟩) (Cert.FfsRefIdeal.Value.run (F := Ideal) m g)

/-- The reference program `PrsRefIdeal` runs, leaves its arguments alone and ends quiescent. -/
theorem frame_PrsRefIdeal : Cert.quiescent_PrsRefIdeal := fun m g _ =>
  (θ_run Cert.PrsRefIdeal.defs _ _).mono (fun r h => ⟨fun c => (h c).2.2.2.2,
      sem_eq_zero_of_no_sems (by decide) r.2⟩) (Cert.PrsRefIdeal.Value.run (F := Ideal) m g)

/-- The reference program `QksRefIdeal` runs, leaves its arguments alone and ends quiescent. -/
theorem frame_QksRefIdeal : Cert.quiescent_QksRefIdeal := fun m g _ =>
  (θ_run Cert.QksRefIdeal.defs _ _).mono (fun r h => ⟨fun c => (h c).2.2.2,
      sem_eq_zero_of_no_sems (by decide) r.2⟩) (Cert.QksRefIdeal.Value.run (F := Ideal) m g)

/-- Everything the certificate claims. -/
theorem claim : Cert.Claim :=
  ⟨Cert.Attn.Gen.facts,
   Cert.AttnIdeal.Gen.facts,
   Cert.AttnRefIdeal.Gen.facts,
   Cert.Ffn.Gen.facts,
   Cert.FfnIdeal.Gen.facts,
   Cert.FfnRefIdeal.Gen.facts,
   Cert.Pre.Gen.facts,
   Cert.PreIdeal.Gen.facts,
   Cert.PreRefIdeal.Gen.facts,
   Cert.Mix.Gen.facts,
   Cert.MixIdeal.Gen.facts,
   Cert.MixRefIdeal.Gen.facts,
   Cert.Mod.Gen.facts,
   Cert.ModIdeal.Gen.facts,
   Cert.ModRefIdeal.Gen.facts,
   Cert.Qkv.Gen.facts,
   Cert.QkvIdeal.Gen.facts,
   Cert.QkvRefIdeal.Gen.facts,
   Cert.Win.Gen.facts,
   Cert.WinIdeal.Gen.facts,
   Cert.WinRefIdeal.Gen.facts,
   Cert.Ffs.Gen.facts,
   Cert.FfsIdeal.Gen.facts,
   Cert.FfsRefIdeal.Gen.facts,
   Cert.Prs.Gen.facts,
   Cert.PrsIdeal.Gen.facts,
   Cert.PrsRefIdeal.Gen.facts,
   Cert.Qks.Gen.facts,
   Cert.QksIdeal.Gen.facts,
   Cert.QksRefIdeal.Gen.facts,
   Cert.Pre_finite_scores.Proved.facts,
   Cert.Pre_finite_mix.Proved.facts,
   fun m g _ => Cert.Attn.Gen.frame m g,
   fun m g _ => Cert.AttnIdeal.Gen.frame m g,
   fun m g _ => Cert.AttnIdeal.Gen.frame m g,
   frame_AttnRefIdeal,
   fun m g _ => frame_AttnRefIdeal m g trivial,
   fun m g _ => Cert.Ffn.Gen.frame m g,
   fun m g _ => Cert.FfnIdeal.Gen.frame m g,
   frame_FfnRefIdeal,
   fun m g _ => Cert.Pre.Gen.frame m g,
   fun m g _ => Cert.PreIdeal.Gen.frame m g,
   frame_PreRefIdeal,
   fun m g _ => Cert.Mix.Gen.frame m g,
   fun m g _ => Cert.MixIdeal.Gen.frame m g,
   fun m g _ => Cert.MixIdeal.Gen.frame m g,
   frame_MixRefIdeal,
   fun m g _ => frame_MixRefIdeal m g trivial,
   fun m g _ => Cert.Mod.Gen.frame m g,
   fun m g _ => Cert.ModIdeal.Gen.frame m g,
   frame_ModRefIdeal,
   fun m g _ => Cert.Qkv.Gen.frame m g,
   fun m g _ => Cert.QkvIdeal.Gen.frame m g,
   frame_QkvRefIdeal,
   fun m g _ => Cert.Win.Gen.frame m g,
   fun m g _ => Cert.WinIdeal.Gen.frame m g,
   frame_WinRefIdeal,
   fun m g _ => Cert.Ffs.Gen.frame m g,
   fun m g _ => Cert.FfsIdeal.Gen.frame m g,
   frame_FfsRefIdeal,
   fun m g _ => Cert.Prs.Gen.frame m g,
   fun m g _ => Cert.PrsIdeal.Gen.frame m g,
   frame_PrsRefIdeal,
   fun m g _ => Cert.Qks.Gen.frame m g,
   fun m g _ => Cert.QksIdeal.Gen.frame m g,
   frame_QksRefIdeal,
   trivial,
   attn_value,
   trivial,
   ffn_value,
   trivial,
   pre_value,
   trivial,
   mix_value,
   trivial,
   mod_value,
   trivial,
   qkv_value,
   IdealRules.named_const.statement Cert.WinIdeal.κ "mask" .f32 0xF149F2CA#32 ⊥ rfl,
   trivial,
   ffs_value,
   trivial,
   prs_value,
   trivial,
   qks_value⟩

end Cert.Proof

end
